-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_boxes [hPre_finite_boxes : Cert.Pre_finite_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_boxes [hPre_finite_boxes : Cert.Pre_finite_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_boxes [hKernelIdeal : Cert.KernelIdeal.Facts] [hPre_finite_boxes : Cert.Pre_finite_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_boxes [hReferenceIdeal : Cert.ReferenceIdeal.Facts] [hPre_finite_boxes : Cert.Pre_finite_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_boxes [hKernelIdeal : Cert.KernelIdeal.Facts] [hReferenceIdeal : Cert.ReferenceIdeal.Facts] [hPre_finite_boxes : Cert.Pre_finite_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v35)) (v2 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_v39) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_v137) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_boxes : Cert.Pre_finite_boxes.Facts),
    quiescent_Kernel (hKernel := hKernel)
    ∧ quiescent_KernelIdeal (hKernelIdeal := hKernelIdeal)
    ∧ quiescent_KernelIdeal_pre_finite_boxes (hKernelIdeal := hKernelIdeal) (hPre_finite_boxes := hPre_finite_boxes)
    ∧ quiescent_ReferenceIdeal (hReferenceIdeal := hReferenceIdeal)
    ∧ quiescent_ReferenceIdeal_pre_finite_boxes (hReferenceIdeal := hReferenceIdeal) (hPre_finite_boxes := hPre_finite_boxes)
    ∧ preserves_Kernel_KernelIdeal
    ∧ algebraic_KernelIdeal_ReferenceIdeal_pre_finite_boxes (hKernelIdeal := hKernelIdeal) (hReferenceIdeal := hReferenceIdeal) (hPre_finite_boxes := hPre_finite_boxes)
-- ==== Pre_finite_boxes.lean ====
abbrev S5000x4 : Shape := ⟨2, ![5000, 4]⟩
abbrev S5000 : Shape := ⟨1, ![5000]⟩
abbrev S_ : Shape := ⟨0, ![]⟩

class Facts : Prop where
  bcast_S_S5000x4 : S_.BroadcastsInDim S5000x4 (![] : Fin 0 → Fin S5000x4.rank)

variable [Facts]

def fn {F : FTy → Type} [FloatOps F] (main_arg0 : FVec F S5000x4 .f32) (main_arg1 : FVec F S5000 .f32) (main_arg2 : IVec S5000 32) : IVec S5000x4 1 :=
  let main_v0 : FVec F S5000x4 .f32 := Host.absf main_arg0
  let main_cst : FVec F S_ .f32 := constant S_ .f32 0x7F800000#32
  let main_v1 : FVec F S5000x4 .f32 := broadcastInDim S5000x4 ![] bcast_S_S5000x4 main_cst
  let main_v2 : IVec S5000x4 1 := cmpf .olt main_v0 main_v1
  main_v2
-- ==== Kernel.lean ====
abbrev S5000x4 : Shape := ⟨2, ![5000, 4]⟩
abbrev S5000 : Shape := ⟨1, ![5000]⟩
abbrev S_ : Shape := ⟨0, ![]⟩
abbrev S5000x1 : Shape := ⟨2, ![5000, 1]⟩
abbrev S1x5000 : Shape := ⟨2, ![1, 5000]⟩
abbrev S6x5000 : Shape := ⟨2, ![6, 5000]⟩
abbrev S8x5120 : Shape := ⟨2, ![8, 5120]⟩
abbrev S1x1 : Shape := ⟨2, ![1, 1]⟩
abbrev S32x8 : Shape := ⟨2, ![32, 8]⟩
abbrev S32x1 : Shape := ⟨2, ![32, 1]⟩
abbrev S1x640 : Shape := ⟨2, ![1, 640]⟩
abbrev S5120x8 : Shape := ⟨2, ![5120, 8]⟩
abbrev S640x640 : Shape := ⟨2, ![640, 640]⟩
abbrev S32x640 : Shape := ⟨2, ![32, 640]⟩
abbrev S640 : Shape := ⟨1, ![640]⟩
abbrev S640x1 : Shape := ⟨2, ![640, 1]⟩
abbrev S1x640x640 : Shape := ⟨3, ![1, 640, 640]⟩
abbrev S1 : Shape := ⟨1, ![1]⟩
abbrev S1x1x1 : Shape := ⟨3, ![1, 1, 1]⟩
abbrev S1x1x640 : Shape := ⟨3, ![1, 1, 640]⟩
abbrev S32 : Shape := ⟨1, ![32]⟩
abbrev S30x5 : Shape := ⟨2, ![30, 5]⟩
abbrev S30x1 : Shape := ⟨2, ![30, 1]⟩
abbrev S30 : Shape := ⟨1, ![30]⟩

abbrev nBuf : Space → Nat
  | .hbm => 59
  | .vmem => 6
  | .smem => 0
  | _ => 0

abbrev bufTy : (tb : Table) → Fin (tcTables nBuf tb) → BufTy
  | .hbm, ⟨0, _⟩ => ⟨S5000x4, .f32⟩
  | .hbm, ⟨1, _⟩ => ⟨S5000, .f32⟩
  | .hbm, ⟨2, _⟩ => ⟨S5000, .i32⟩
  | .hbm, ⟨3, _⟩ => ⟨S_, .f32⟩
  | .hbm, ⟨4, _⟩ => ⟨S5000, .f32⟩
  | .hbm, ⟨5, _⟩ => ⟨S5000, .i1⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S5000, .f32⟩
  | .hbm, ⟨11, _⟩ => ⟨S5000, .f32⟩
  | .hbm, ⟨12, _⟩ => ⟨S5000, .f32⟩
  | .hbm, ⟨13, _⟩ => ⟨S5000x1, .f32⟩
  | .hbm, ⟨14, _⟩ => ⟨S5000x4, .f32⟩
  | .hbm, ⟨15, _⟩ => ⟨S5000x4, .f32⟩
  | .hbm, ⟨16, _⟩ => ⟨S_, .f32⟩
  | .hbm, ⟨17, _⟩ => ⟨S_, .f32⟩
  | .hbm, ⟨18, _⟩ => ⟨S5000, .f32⟩
  | .hbm, ⟨19, _⟩ => ⟨S5000, .f32⟩
  | .hbm, ⟨20, _⟩ => ⟨S5000, .f32⟩
  | .hbm, ⟨21, _⟩ => ⟨S5000x1, .f32⟩
  | .hbm, ⟨22, _⟩ => ⟨S5000, .f32⟩
  | .hbm, ⟨23, _⟩ => ⟨S5000x1, .f32⟩
  | .hbm, ⟨24, _⟩ => ⟨S5000, .f32⟩
  | .hbm, ⟨25, _⟩ => ⟨S5000x1, .f32⟩
  | .hbm, ⟨26, _⟩ => ⟨S5000, .f32⟩
  | .hbm, ⟨27, _⟩ => ⟨S5000x1, .f32⟩
  | .hbm, ⟨28, _⟩ => ⟨S5000, .f32⟩
  | .hbm, ⟨29, _⟩ => ⟨S5000, .f32⟩
  | .hbm, ⟨30, _⟩ => ⟨S5000, .f32⟩
  | .hbm, ⟨31, _⟩ => ⟨S5000, .f32⟩
  | .hbm, ⟨32, _⟩ => ⟨S5000, .f32⟩
  | .hbm, ⟨33, _⟩ => ⟨S5000, .f32⟩
  | .hbm, ⟨34, _⟩ => ⟨S5000, .f32⟩
  | .hbm, ⟨35, _⟩ => ⟨S5000, .f32⟩
  | .hbm, ⟨36, _⟩ => ⟨S1x5000, .f32⟩
  | .hbm, ⟨37, _⟩ => ⟨S1x5000, .f32⟩
  | .hbm, ⟨38, _⟩ => ⟨S1x5000, .f32⟩
  | .hbm, ⟨39, _⟩ => ⟨S1x5000, .f32⟩
  | .hbm, ⟨40, _⟩ => ⟨S1x5000, .f32⟩
  | .hbm, ⟨41, _⟩ => ⟨S1x5000, .f32⟩
  | .hbm, ⟨42, _⟩ => ⟨S6x5000, .f32⟩
  | .hbm, ⟨43, _⟩ => ⟨S_, .i32⟩
  | .hbm, ⟨44, _⟩ => ⟨S_, .f32⟩
  | .hbm, ⟨45, _⟩ => ⟨S8x5120, .f32⟩
  | .hbm, ⟨46, _⟩ => ⟨S1x1, .f32⟩
  | .hbm, ⟨47, _⟩ => ⟨S32x8, .f32⟩
  | .hbm, ⟨48, _⟩ => ⟨S32x1, .f32⟩
  | .hbm, ⟨49, _⟩ => ⟨S30x5, .f32⟩
  | .hbm, ⟨50, _⟩ => ⟨S30x1, .f32⟩
  | .hbm, ⟨51, _⟩ => ⟨S30, .f32⟩
  | .hbm, ⟨52, _⟩ => ⟨S30, .f32⟩
  | .hbm, ⟨53, _⟩ => ⟨S30, .i32⟩
  | .hbm, ⟨54, _⟩ => ⟨S30x1, .f32⟩
  | .hbm, ⟨55, _⟩ => ⟨S30, .f32⟩
  | .hbm, ⟨56, _⟩ => ⟨S_, .f32⟩
  | .hbm, ⟨57, _⟩ => ⟨S30, .f32⟩
  | .hbm, ⟨58, _⟩ => ⟨S30, .i1⟩
  | .local _ .vmem, ⟨0, _⟩ => ⟨S8x5120, .f32⟩
  | .local _ .vmem, ⟨1, _⟩ => ⟨S1x1, .f32⟩
  | .local _ .vmem, ⟨2, _⟩ => ⟨S32x8, .f32⟩
  | .local _ .vmem, ⟨3, _⟩ => ⟨S32x1, .f32⟩
  | .local _ .vmem, ⟨4, _⟩ => ⟨S1x640, .f32⟩
  | .local _ .vmem, ⟨5, _⟩ => ⟨S5120x8, .f32⟩
  | _, _ => ⟨S5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev main_v20_4 : Ref sig .tc := ⟨.hbm, 33, rfl⟩
abbrev main_v20_5 : Ref sig .tc := ⟨.hbm, 34, rfl⟩
abbrev main_v20_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c : Ref sig .tc := ⟨.hbm, 43, rfl⟩
abbrev main_call1_v0 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_off1 (arg6 : BitVec 32) : Fin 2 → Nat :=
  let c0_59 : Index := 0#32
  let c640_i32 : BitVec 32 := 640#32
  let v132 : BitVec 32 := Scalar.muli arg6 c640_i32
  let v133 : Index := Scalar.indexCast v132
  ![0, v133.toNat]

def k0_off2 (arg6 : BitVec 32) : Fin 2 → Nat :=
  let c1_60 : Index := 1#32
  let c640_i32 : BitVec 32 := 640#32
  let v132 : BitVec 32 := Scalar.muli arg6 c640_i32
  let v136 : Index := Scalar.indexCast v132
  ![1, v136.toNat]
def k0_off3 (arg6 : BitVec 32) : Fin 2 → Nat :=
  let c2_61 : Index := 2#32
  let c640_i32 : BitVec 32 := 640#32
  let v132 : BitVec 32 := Scalar.muli arg6 c640_i32
  let v139 : Index := Scalar.indexCast v132
  ![2, v139.toNat]
def k0_off4 (arg6 : BitVec 32) : Fin 2 → Nat :=
  let c3_62 : Index := 3#32
  let c640_i32 : BitVec 32 := 640#32
  let v132 : BitVec 32 := Scalar.muli arg6 c640_i32
  let v142 : Index := Scalar.indexCast v132
  ![3, v142.toNat]
def k0_off5 (arg6 : BitVec 32) : Fin 2 → Nat :=
  let c4_71 : Index := 4#32
  let c640_i32 : BitVec 32 := 640#32
  let v132 : BitVec 32 := Scalar.muli arg6 c640_i32
  let v175 : Index := Scalar.indexCast v132
  ![4, v175.toNat]
def k0_off6 (arg6 : BitVec 32) : Fin 2 → Nat :=
  let c5_73 : Index := 5#32
  let c640_i32 : BitVec 32 := 640#32
  let v132 : BitVec 32 := Scalar.muli arg6 c640_i32
  let v182 : Index := Scalar.indexCast v132
  ![5, v182.toNat]
@[reducible] def k0_t1_loop (arg6 : BitVec 32) : Scf.Loop 32 :=
  let c0_i32_76 : BitVec 32 := 0#32
  let v190 : BitVec 32 := Scalar.subi arg6 c0_i32_76
  let c1_i32 : BitVec 32 := 1#32
  let v192 : BitVec 32 := Scalar.divsi v190 c1_i32
  let v193 : BitVec 32 := Scalar.muli v192 c1_i32
  let v194 : BitVec 32 := Scalar.addi c0_i32_76 v193
  let c1_i32_77 : BitVec 32 := 1#32
  ⟨c0_i32_76, v194, c1_i32_77⟩
def k0_off7 (arg6 : BitVec 32) (k0_t1 : Fin (k0_t1_loop arg6).trips) : Fin 2 → Nat :=
  let c0_i32_76 : BitVec 32 := 0#32
  let c1_i32_77 : BitVec 32 := 1#32
  let arg11 : BitVec 32 := Scf.iv c0_i32_76 c1_i32_77 k0_t1
  let c640_i32_165 : BitVec 32 := 640#32
  let v461 : BitVec 32 := Scalar.muli arg11 c640_i32_165
  let v462 : Index := Scalar.indexCast v461
  let c0_166 : Index := 0#32
  ![v462.toNat, 0]
def k0_off8 (arg6 : BitVec 32) (k0_t1 : Fin (k0_t1_loop arg6).trips) : Fin 2 → Nat :=
  let c0_i32_76 : BitVec 32 := 0#32
  let c1_i32_77 : BitVec 32 := 1#32
  let arg11 : BitVec 32 := Scf.iv c0_i32_76 c1_i32_77 k0_t1
  let c640_i32_165 : BitVec 32 := 640#32
  let v461 : BitVec 32 := Scalar.muli arg11 c640_i32_165
  let v464 : Index := Scalar.indexCast v461
  let c1_167 : Index := 1#32
  ![v464.toNat, 1]
def k0_off9 (arg6 : BitVec 32) (k0_t1 : Fin (k0_t1_loop arg6).trips) : Fin 2 → Nat :=
  let c0_i32_76 : BitVec 32 := 0#32
  let c1_i32_77 : BitVec 32 := 1#32
  let arg11 : BitVec 32 := Scf.iv c0_i32_76 c1_i32_77 k0_t1
  let c640_i32_165 : BitVec 32 := 640#32
  let v461 : BitVec 32 := Scalar.muli arg11 c640_i32_165
  let v466 : Index := Scalar.indexCast v461
  let c2_168 : Index := 2#32
  ![v466.toNat, 2]
def k0_off10 (arg6 : BitVec 32) (k0_t1 : Fin (k0_t1_loop arg6).trips) : Fin 2 → Nat :=
  let c0_i32_76 : BitVec 32 := 0#32
  let c1_i32_77 : BitVec 32 := 1#32
  let arg11 : BitVec 32 := Scf.iv c0_i32_76 c1_i32_77 k0_t1
  let c640_i32_165 : BitVec 32 := 640#32
  let v461 : BitVec 32 := Scalar.muli arg11 c640_i32_165
  let v468 : Index := Scalar.indexCast v461
  let c3_169 : Index := 3#32
  ![v468.toNat, 3]
def k0_off11 (arg6 : BitVec 32) (k0_t1 : Fin (k0_t1_loop arg6).trips) : Fin 2 → Nat :=
  let c0_i32_76 : BitVec 32 := 0#32
  let c1_i32_77 : BitVec 32 := 1#32
  let arg11 : BitVec 32 := Scf.iv c0_i32_76 c1_i32_77 k0_t1
  let c640_i32_165 : BitVec 32 := 640#32
  let v461 : BitVec 32 := Scalar.muli arg11 c640_i32_165
  let v470 : Index := Scalar.indexCast v461
  let c4_170 : Index := 4#32
  ![v470.toNat, 4]
@[reducible] def k0_t2_loop (arg6 : BitVec 32) : Scf.Loop 32 :=
  let c0_i32_76 : BitVec 32 := 0#32
  let v190 : BitVec 32 := Scalar.subi arg6 c0_i32_76
  let c1_i32 : BitVec 32 := 1#32
  let v192 : BitVec 32 := Scalar.divsi v190 c1_i32
  let v193 : BitVec 32 := Scalar.muli v192 c1_i32
  let v194 : BitVec 32 := Scalar.addi c0_i32_76 v193
  let v191 : BitVec 32 := Scalar.addi c0_i32_76 v190
  let c1_i32_78 : BitVec 32 := 1#32
  ⟨v194, v191, c1_i32_78⟩
def k0_off12 (arg6 : BitVec 32) (k0_t2 : Fin (k0_t2_loop arg6).trips) : Fin 2 → Nat :=
  let c0_i32_76 : BitVec 32 := 0#32
  let v190 : BitVec 32 := Scalar.subi arg6 c0_i32_76
  let c1_i32 : BitVec 32 := 1#32
  let v192 : BitVec 32 := Scalar.divsi v190 c1_i32
  let v193 : BitVec 32 := Scalar.muli v192 c1_i32
  let v194 : BitVec 32 := Scalar.addi c0_i32_76 v193
  let c1_i32_78 : BitVec 32 := 1#32
  let arg11 : BitVec 32 := Scf.iv v194 c1_i32_78 k0_t2
  let c640_i32_165 : BitVec 32 := 640#32
  let v461 : BitVec 32 := Scalar.muli arg11 c640_i32_165
  let v462 : Index := Scalar.indexCast v461
  let c0_166 : Index := 0#32
  ![v462.toNat, 0]
def k0_off13 (arg6 : BitVec 32) (k0_t2 : Fin (k0_t2_loop arg6).trips) : Fin 2 → Nat :=
  let c0_i32_76 : BitVec 32 := 0#32
  let v190 : BitVec 32 := Scalar.subi arg6 c0_i32_76
  let c1_i32 : BitVec 32 := 1#32
  let v192 : BitVec 32 := Scalar.divsi v190 c1_i32
  let v193 : BitVec 32 := Scalar.muli v192 c1_i32
  let v194 : BitVec 32 := Scalar.addi c0_i32_76 v193
  let c1_i32_78 : BitVec 32 := 1#32
  let arg11 : BitVec 32 := Scf.iv v194 c1_i32_78 k0_t2
  let c640_i32_165 : BitVec 32 := 640#32
  let v461 : BitVec 32 := Scalar.muli arg11 c640_i32_165
  let v464 : Index := Scalar.indexCast v461
  let c1_167 : Index := 1#32
  ![v464.toNat, 1]
def k0_off14 (arg6 : BitVec 32) (k0_t2 : Fin (k0_t2_loop arg6).trips) : Fin 2 → Nat :=
  let c0_i32_76 : BitVec 32 := 0#32
  let v190 : BitVec 32 := Scalar.subi arg6 c0_i32_76
  let c1_i32 : BitVec 32 := 1#32
  let v192 : BitVec 32 := Scalar.divsi v190 c1_i32
  let v193 : BitVec 32 := Scalar.muli v192 c1_i32
  let v194 : BitVec 32 := Scalar.addi c0_i32_76 v193
  let c1_i32_78 : BitVec 32 := 1#32
  let arg11 : BitVec 32 := Scf.iv v194 c1_i32_78 k0_t2
  let c640_i32_165 : BitVec 32 := 640#32
  let v461 : BitVec 32 := Scalar.muli arg11 c640_i32_165
  let v466 : Index := Scalar.indexCast v461
  let c2_168 : Index := 2#32
  ![v466.toNat, 2]
def k0_off15 (arg6 : BitVec 32) (k0_t2 : Fin (k0_t2_loop arg6).trips) : Fin 2 → Nat :=
  let c0_i32_76 : BitVec 32 := 0#32
  let v190 : BitVec 32 := Scalar.subi arg6 c0_i32_76
  let c1_i32 : BitVec 32 := 1#32
  let v192 : BitVec 32 := Scalar.divsi v190 c1_i32
  let v193 : BitVec 32 := Scalar.muli v192 c1_i32
  let v194 : BitVec 32 := Scalar.addi c0_i32_76 v193
  let c1_i32_78 : BitVec 32 := 1#32
  let arg11 : BitVec 32 := Scf.iv v194 c1_i32_78 k0_t2
  let c640_i32_165 : BitVec 32 := 640#32
  let v461 : BitVec 32 := Scalar.muli arg11 c640_i32_165
  let v468 : Index := Scalar.indexCast v461
  let c3_169 : Index := 3#32
  ![v468.toNat, 3]
def k0_off16 (arg6 : BitVec 32) (k0_t2 : Fin (k0_t2_loop arg6).trips) : Fin 2 → Nat :=
  let c0_i32_76 : BitVec 32 := 0#32
  let v190 : BitVec 32 := Scalar.subi arg6 c0_i32_76
  let c1_i32 : BitVec 32 := 1#32
  let v192 : BitVec 32 := Scalar.divsi v190 c1_i32
  let v193 : BitVec 32 := Scalar.muli v192 c1_i32
  let v194 : BitVec 32 := Scalar.addi c0_i32_76 v193
  let c1_i32_78 : BitVec 32 := 1#32
  let arg11 : BitVec 32 := Scf.iv v194 c1_i32_78 k0_t2
  let c640_i32_165 : BitVec 32 := 640#32
  let v461 : BitVec 32 := Scalar.muli arg11 c640_i32_165
  let v470 : Index := Scalar.indexCast v461
  let c4_170 : Index := 4#32
  ![v470.toNat, 4]
def k0_off17 (arg6 : BitVec 32) : Fin 2 → Nat :=
  let c640_i32 : BitVec 32 := 640#32
  let v132 : BitVec 32 := Scalar.muli arg6 c640_i32
  let v249 : Index := Scalar.indexCast v132
  let c0_91 : Index := 0#32
  ![v249.toNat, 0]
def k0_off18 (arg6 : BitVec 32) : Fin 2 → Nat :=
  let c640_i32 : BitVec 32 := 640#32
  let v132 : BitVec 32 := Scalar.muli arg6 c640_i32
  let v254 : Index := Scalar.indexCast v132
  let c1_92 : Index := 1#32
  ![v254.toNat, 1]
def k0_off19 (arg6 : BitVec 32) : Fin 2 → Nat :=
  let c640_i32 : BitVec 32 := 640#32
  let v132 : BitVec 32 := Scalar.muli arg6 c640_i32
  let v259 : Index := Scalar.indexCast v132
  let c2_93 : Index := 2#32
  ![v259.toNat, 2]
def k0_off20 (arg6 : BitVec 32) : Fin 2 → Nat :=
  let c640_i32 : BitVec 32 := 640#32
  let v132 : BitVec 32 := Scalar.muli arg6 c640_i32
  let v264 : Index := Scalar.indexCast v132
  let c3_94 : Index := 3#32
  ![v264.toNat, 3]
def k0_off21 (arg6 : BitVec 32) : Fin 2 → Nat :=
  let c640_i32 : BitVec 32 := 640#32
  let v132 : BitVec 32 := Scalar.muli arg6 c640_i32
  let v269 : Index := Scalar.indexCast v132
  let c4_95 : Index := 4#32
  ![v269.toNat, 4]

def k0_chk1 (arg6 : BitVec 32) : Prop :=
  (∀ a, (k0_off1 arg6) a + S1x640.size a ≤ S8x5120.size a) ∧
  (∀ a, (k0_off2 arg6) a + S1x640.size a ≤ S8x5120.size a) ∧
  (∀ a, (k0_off3 arg6) a + S1x640.size a ≤ S8x5120.size a) ∧
  (∀ a, (k0_off4 arg6) a + S1x640.size a ≤ S8x5120.size a) ∧
  (∀ a, (k0_off5 arg6) a + S1x640.size a ≤ S8x5120.size a) ∧
  (∀ a, (k0_off6 arg6) a + S1x640.size a ≤ S8x5120.size a) ∧
  ((k0_t1_loop arg6).OK) ∧
  (∀ k0_t1 : Fin (k0_t1_loop arg6).trips, ∀ a, (k0_off7 arg6 k0_t1) a + S640x1.size a ≤ S5120x8.size a) ∧
  (∀ k0_t1 : Fin (k0_t1_loop arg6).trips, ∀ a, (k0_off8 arg6 k0_t1) a + S640x1.size a ≤ S5120x8.size a) ∧
  (∀ k0_t1 : Fin (k0_t1_loop arg6).trips, ∀ a, (k0_off9 arg6 k0_t1) a + S640x1.size a ≤ S5120x8.size a) ∧
  (∀ k0_t1 : Fin (k0_t1_loop arg6).trips, ∀ a, (k0_off10 arg6 k0_t1) a + S640x1.size a ≤ S5120x8.size a) ∧
  (∀ k0_t1 : Fin (k0_t1_loop arg6).trips, ∀ a, (k0_off11 arg6 k0_t1) a + S640x1.size a ≤ S5120x8.size a) ∧
  ((k0_t2_loop arg6).OK) ∧
  (∀ k0_t2 : Fin (k0_t2_loop arg6).trips, ∀ a, (k0_off12 arg6 k0_t2) a + S640x1.size a ≤ S5120x8.size a) ∧
  (∀ k0_t2 : Fin (k0_t2_loop arg6).trips, ∀ a, (k0_off13 arg6 k0_t2) a + S640x1.size a ≤ S5120x8.size a) ∧
  (∀ k0_t2 : Fin (k0_t2_loop arg6).trips, ∀ a, (k0_off14 arg6 k0_t2) a + S640x1.size a ≤ S5120x8.size a) ∧
  (∀ k0_t2 : Fin (k0_t2_loop arg6).trips, ∀ a, (k0_off15 arg6 k0_t2) a + S640x1.size a ≤ S5120x8.size a) ∧
  (∀ k0_t2 : Fin (k0_t2_loop arg6).trips, ∀ a, (k0_off16 arg6 k0_t2) a + S640x1.size a ≤ S5120x8.size a) ∧
  (∀ a, (k0_off17 arg6) a + S640x1.size a ≤ S5120x8.size a) ∧
  (∀ a, (k0_off18 arg6) a + S640x1.size a ≤ S5120x8.size a) ∧
  (∀ a, (k0_off19 arg6) a + S640x1.size a ≤ S5120x8.size a) ∧
  (∀ a, (k0_off20 arg6) a + S640x1.size a ≤ S5120x8.size a) ∧
  (∀ a, (k0_off21 arg6) a + S640x1.size a ≤ S5120x8.size a)
theorem k0_off1_inb : ∀ (arg6 : BitVec 32) (k0_hw1 : k0_chk1 arg6), ∀ a, (k0_off1 arg6) a + S1x640.size a ≤ S8x5120.size a := fun arg6 k0_hw1 => k0_hw1.1
theorem k0_off2_inb : ∀ (arg6 : BitVec 32) (k0_hw1 : k0_chk1 arg6), ∀ a, (k0_off2 arg6) a + S1x640.size a ≤ S8x5120.size a := fun arg6 k0_hw1 => k0_hw1.2.1
theorem k0_off3_inb : ∀ (arg6 : BitVec 32) (k0_hw1 : k0_chk1 arg6), ∀ a, (k0_off3 arg6) a + S1x640.size a ≤ S8x5120.size a := fun arg6 k0_hw1 => k0_hw1.2.2.1
theorem k0_off4_inb : ∀ (arg6 : BitVec 32) (k0_hw1 : k0_chk1 arg6), ∀ a, (k0_off4 arg6) a + S1x640.size a ≤ S8x5120.size a := fun arg6 k0_hw1 => k0_hw1.2.2.2.1
theorem k0_off5_inb : ∀ (arg6 : BitVec 32) (k0_hw1 : k0_chk1 arg6), ∀ a, (k0_off5 arg6) a + S1x640.size a ≤ S8x5120.size a := fun arg6 k0_hw1 => k0_hw1.2.2.2.2.1
theorem k0_off6_inb : ∀ (arg6 : BitVec 32) (k0_hw1 : k0_chk1 arg6), ∀ a, (k0_off6 arg6) a + S1x640.size a ≤ S8x5120.size a := fun arg6 k0_hw1 => k0_hw1.2.2.2.2.2.1
theorem k0_t1_ok : ∀ (arg6 : BitVec 32) (k0_hw1 : k0_chk1 arg6), (k0_t1_loop arg6).OK := fun arg6 k0_hw1 => k0_hw1.2.2.2.2.2.2.1
theorem k0_off7_inb : ∀ (arg6 : BitVec 32) (k0_hw1 : k0_chk1 arg6) (k0_t1 : Fin (k0_t1_loop arg6).trips), ∀ a, (k0_off7 arg6 k0_t1) a + S640x1.size a ≤ S5120x8.size a := fun arg6 k0_hw1 k0_t1 => k0_hw1.2.2.2.2.2.2.2.1 k0_t1
theorem k0_off8_inb : ∀ (arg6 : BitVec 32) (k0_hw1 : k0_chk1 arg6) (k0_t1 : Fin (k0_t1_loop arg6).trips), ∀ a, (k0_off8 arg6 k0_t1) a + S640x1.size a ≤ S5120x8.size a := fun arg6 k0_hw1 k0_t1 => k0_hw1.2.2.2.2.2.2.2.2.1 k0_t1
theorem k0_off9_inb : ∀ (arg6 : BitVec 32) (k0_hw1 : k0_chk1 arg6) (k0_t1 : Fin (k0_t1_loop arg6).trips), ∀ a, (k0_off9 arg6 k0_t1) a + S640x1.size a ≤ S5120x8.size a := fun arg6 k0_hw1 k0_t1 => k0_hw1.2.2.2.2.2.2.2.2.2.1 k0_t1
theorem k0_off10_inb : ∀ (arg6 : BitVec 32) (k0_hw1 : k0_chk1 arg6) (k0_t1 : Fin (k0_t1_loop arg6).trips), ∀ a, (k0_off10 arg6 k0_t1) a + S640x1.size a ≤ S5120x8.size a := fun arg6 k0_hw1 k0_t1 => k0_hw1.2.2.2.2.2.2.2.2.2.2.1 k0_t1
theorem k0_off11_inb : ∀ (arg6 : BitVec 32) (k0_hw1 : k0_chk1 arg6) (k0_t1 : Fin (k0_t1_loop arg6).trips), ∀ a, (k0_off11 arg6 k0_t1) a + S640x1.size a ≤ S5120x8.size a := fun arg6 k0_hw1 k0_t1 => k0_hw1.2.2.2.2.2.2.2.2.2.2.2.1 k0_t1
theorem k0_t2_ok : ∀ (arg6 : BitVec 32) (k0_hw1 : k0_chk1 arg6), (k0_t2_loop arg6).OK := fun arg6 k0_hw1 => k0_hw1.2.2.2.2.2.2.2.2.2.2.2.2.1
theorem k0_off12_inb : ∀ (arg6 : BitVec 32) (k0_hw1 : k0_chk1 arg6) (k0_t2 : Fin (k0_t2_loop arg6).trips), ∀ a, (k0_off12 arg6 k0_t2) a + S640x1.size a ≤ S5120x8.size a := fun arg6 k0_hw1 k0_t2 => k0_hw1.2.2.2.2.2.2.2.2.2.2.2.2.2.1 k0_t2
theorem k0_off13_inb : ∀ (arg6 : BitVec 32) (k0_hw1 : k0_chk1 arg6) (k0_t2 : Fin (k0_t2_loop arg6).trips), ∀ a, (k0_off13 arg6 k0_t2) a + S640x1.size a ≤ S5120x8.size a := fun arg6 k0_hw1 k0_t2 => k0_hw1.2.2.2.2.2.2.2.2.2.2.2.2.2.2.1 k0_t2
theorem k0_off14_inb : ∀ (arg6 : BitVec 32) (k0_hw1 : k0_chk1 arg6) (k0_t2 : Fin (k0_t2_loop arg6).trips), ∀ a, (k0_off14 arg6 k0_t2) a + S640x1.size a ≤ S5120x8.size a := fun arg6 k0_hw1 k0_t2 => k0_hw1.2.2.2.2.2.2.2.2.2.2.2.2.2.2.2.1 k0_t2
theorem k0_off15_inb : ∀ (arg6 : BitVec 32) (k0_hw1 : k0_chk1 arg6) (k0_t2 : Fin (k0_t2_loop arg6).trips), ∀ a, (k0_off15 arg6 k0_t2) a + S640x1.size a ≤ S5120x8.size a := fun arg6 k0_hw1 k0_t2 => k0_hw1.2.2.2.2.2.2.2.2.2.2.2.2.2.2.2.2.1 k0_t2
theorem k0_off16_inb : ∀ (arg6 : BitVec 32) (k0_hw1 : k0_chk1 arg6) (k0_t2 : Fin (k0_t2_loop arg6).trips), ∀ a, (k0_off16 arg6 k0_t2) a + S640x1.size a ≤ S5120x8.size a := fun arg6 k0_hw1 k0_t2 => k0_hw1.2.2.2.2.2.2.2.2.2.2.2.2.2.2.2.2.2.1 k0_t2
theorem k0_off17_inb : ∀ (arg6 : BitVec 32) (k0_hw1 : k0_chk1 arg6), ∀ a, (k0_off17 arg6) a + S640x1.size a ≤ S5120x8.size a := fun arg6 k0_hw1 => k0_hw1.2.2.2.2.2.2.2.2.2.2.2.2.2.2.2.2.2.2.1
theorem k0_off18_inb : ∀ (arg6 : BitVec 32) (k0_hw1 : k0_chk1 arg6), ∀ a, (k0_off18 arg6) a + S640x1.size a ≤ S5120x8.size a := fun arg6 k0_hw1 => k0_hw1.2.2.2.2.2.2.2.2.2.2.2.2.2.2.2.2.2.2.2.1
theorem k0_off19_inb : ∀ (arg6 : BitVec 32) (k0_hw1 : k0_chk1 arg6), ∀ a, (k0_off19 arg6) a + S640x1.size a ≤ S5120x8.size a := fun arg6 k0_hw1 => k0_hw1.2.2.2.2.2.2.2.2.2.2.2.2.2.2.2.2.2.2.2.2.1
theorem k0_off20_inb : ∀ (arg6 : BitVec 32) (k0_hw1 : k0_chk1 arg6), ∀ a, (k0_off20 arg6) a + S640x1.size a ≤ S5120x8.size a := fun arg6 k0_hw1 => k0_hw1.2.2.2.2.2.2.2.2.2.2.2.2.2.2.2.2.2.2.2.2.2.1
theorem k0_off21_inb : ∀ (arg6 : BitVec 32) (k0_hw1 : k0_chk1 arg6), ∀ a, (k0_off21 arg6) a + S640x1.size a ≤ S5120x8.size a := fun arg6 k0_hw1 => k0_hw1.2.2.2.2.2.2.2.2.2.2.2.2.2.2.2.2.2.2.2.2.2.2

abbrev stage0_0 : Fin 1 → Memref sig .tc .vmem S8x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S5000x4 : Shape := ⟨2, ![5000, 4]⟩
abbrev S5000 : Shape := ⟨1, ![5000]⟩
abbrev S_ : Shape := ⟨0, ![]⟩
abbrev S5000x1 : Shape := ⟨2, ![5000, 1]⟩
abbrev S5000x2 : Shape := ⟨2, ![5000, 2]⟩
abbrev S5000x1x2 : Shape := ⟨3, ![5000, 1, 2]⟩
abbrev S1x5000x2 : Shape := ⟨3, ![1, 5000, 2]⟩
abbrev S5000x5000x2 : Shape := ⟨3, ![5000, 5000, 2]⟩
abbrev S5000x5000x1 : Shape := ⟨3, ![5000, 5000, 1]⟩
abbrev S5000x5000 : Shape := ⟨2, ![5000, 5000]⟩
abbrev S1x5000 : Shape := ⟨2, ![1, 5000]⟩
abbrev S1 : Shape := ⟨1, ![1]⟩
abbrev S30 : Shape := ⟨1, ![30]⟩
abbrev S30x1 : Shape := ⟨2, ![30, 1]⟩
abbrev S30x4 : Shape := ⟨2, ![30, 4]⟩
abbrev S30x5 : Shape := ⟨2, ![30, 5]⟩

abbrev nBuf : Space → Nat
  | .hbm => 244
  | .vmem => 0
  | .smem => 0
  | _ => 0

abbrev hbmTy0_0 (i : Nat) : BufTy := match i % 128 with
  | 0 => ⟨S5000x4, .f32⟩
  | 1 => ⟨S5000, .f32⟩
  | 2 => ⟨S5000, .i32⟩
  | 3 => ⟨S_, .f32⟩
  | 4 => ⟨S5000, .f32⟩
  | 5 => ⟨S5000, .i1⟩
  | 6 => ⟨S_, .f32⟩
  | 7 => ⟨S_, .f32⟩
  | 8 => ⟨S_, .f32⟩
  | 9 => ⟨S_, .f32⟩
  | 10 => ⟨S5000, .f32⟩
  | 11 => ⟨S5000, .f32⟩
  | 12 => ⟨S5000, .f32⟩
  | 13 => ⟨S5000x1, .f32⟩
  | 14 => ⟨S5000x4, .f32⟩
  | 15 => ⟨S5000x4, .f32⟩
  | 16 => ⟨S_, .f32⟩
  | 17 => ⟨S_, .f32⟩
  | 18 => ⟨S5000, .f32⟩
  | 19 => ⟨S5000, .f32⟩
  | 20 => ⟨S5000, .f32⟩
  | 21 => ⟨S5000, .i32⟩
  | 22 => ⟨S5000, .f32⟩
  | 23 => ⟨S5000, .i32⟩
  | 24 => ⟨S_, .i32⟩
  | 25 => ⟨S5000, .i32⟩
  | 26 => ⟨S5000, .i1⟩
  | 27 => ⟨S_, .i32⟩
  | 28 => ⟨S5000, .i32⟩
  | 29 => ⟨S5000, .i32⟩
  | 30 => ⟨S5000, .i32⟩
  | 31 => ⟨S5000x1, .i32⟩
  | 32 => ⟨S5000x4, .f32⟩
  | 33 => ⟨S_, .i32⟩
  | 34 => ⟨S5000, .i32⟩
  | 35 => ⟨S5000, .i1⟩
  | 36 => ⟨S_, .i32⟩
  | 37 => ⟨S5000, .i32⟩
  | 38 => ⟨S5000, .i32⟩
  | 39 => ⟨S5000, .i32⟩
  | 40 => ⟨S5000x1, .i32⟩
  | 41 => ⟨S5000x4, .f32⟩
  | 42 => ⟨S_, .i32⟩
  | 43 => ⟨S5000, .i32⟩
  | 44 => ⟨S5000, .i1⟩
  | 45 => ⟨S_, .i32⟩
  | 46 => ⟨S5000, .i32⟩
  | 47 => ⟨S5000, .i32⟩
  | 48 => ⟨S5000, .i32⟩
  | 49 => ⟨S5000x1, .i32⟩
  | 50 => ⟨S5000, .f32⟩
  | 51 => ⟨S_, .i32⟩
  | 52 => ⟨S5000, .i32⟩
  | 53 => ⟨S5000, .i1⟩
  | 54 => ⟨S_, .i32⟩
  | 55 => ⟨S5000, .i32⟩
  | 56 => ⟨S5000, .i32⟩
  | 57 => ⟨S5000, .i32⟩
  | 58 => ⟨S5000x1, .i32⟩
  | 59 => ⟨S5000, .i32⟩
  | 60 => ⟨S_, .i32⟩
  | 61 => ⟨S5000, .i32⟩
  | 62 => ⟨S5000, .i1⟩
  | 63 => ⟨S_, .i32⟩
  | 64 => ⟨S5000, .i32⟩
  | 65 => ⟨S5000, .i32⟩
  | 66 => ⟨S5000, .i32⟩
  | 67 => ⟨S5000x1, .i32⟩
  | 68 => ⟨S5000, .i1⟩
  | 69 => ⟨S5000x1, .f32⟩
  | 70 => ⟨S5000, .f32⟩
  | 71 => ⟨S5000x1, .f32⟩
  | 72 => ⟨S5000, .f32⟩
  | 73 => ⟨S5000, .f32⟩
  | 74 => ⟨S5000x1, .f32⟩
  | 75 => ⟨S5000, .f32⟩
  | 76 => ⟨S5000x1, .f32⟩
  | 77 => ⟨S5000, .f32⟩
  | 78 => ⟨S5000, .f32⟩
  | 79 => ⟨S5000, .f32⟩
  | 80 => ⟨S5000x2, .f32⟩
  | 81 => ⟨S5000x1x2, .f32⟩
  | 82 => ⟨S5000x2, .f32⟩
  | 83 => ⟨S1x5000x2, .f32⟩
  | 84 => ⟨S5000x5000x2, .f32⟩
  | 85 => ⟨S5000x5000x2, .f32⟩
  | 86 => ⟨S5000x5000x2, .f32⟩
  | 87 => ⟨S5000x2, .f32⟩
  | 88 => ⟨S5000x1x2, .f32⟩
  | 89 => ⟨S5000x2, .f32⟩
  | 90 => ⟨S1x5000x2, .f32⟩
  | 91 => ⟨S5000x5000x2, .f32⟩
  | 92 => ⟨S5000x5000x2, .f32⟩
  | 93 => ⟨S5000x5000x2, .f32⟩
  | 94 => ⟨S5000x5000x2, .f32⟩
  | 95 => ⟨S_, .f32⟩
  | 96 => ⟨S_, .f32⟩
  | 97 => ⟨S5000x5000x2, .f32⟩
  | 98 => ⟨S5000x5000x2, .f32⟩
  | 99 => ⟨S5000x5000x1, .f32⟩
  | 100 => ⟨S5000x5000, .f32⟩
  | 101 => ⟨S5000x5000x1, .f32⟩
  | 102 => ⟨S5000x5000, .f32⟩
  | 103 => ⟨S5000x5000, .f32⟩
  | 104 => ⟨S5000x1, .f32⟩
  | 105 => ⟨S1x5000, .f32⟩
  | 106 => ⟨S5000x5000, .f32⟩
  | 107 => ⟨S5000x5000, .f32⟩
  | 108 => ⟨S5000x5000, .f32⟩
  | 109 => ⟨S5000x5000, .f32⟩
  | 110 => ⟨S_, .f32⟩
  | 111 => ⟨S5000x5000, .f32⟩
  | 112 => ⟨S5000x5000, .f32⟩
  | 113 => ⟨S5000x5000, .f32⟩
  | 114 => ⟨S5000, .i32⟩
  | 115 => ⟨S_, .i1⟩
  | 116 => ⟨S5000, .i1⟩
  | 117 => ⟨S_, .i32⟩
  | 118 => ⟨S_, .i32⟩
  | 119 => ⟨S5000x5000, .f32⟩
  | 120 => ⟨S5000, .i32⟩
  | 121 => ⟨S5000, .i1⟩
  | 122 => ⟨S_, .i32⟩
  | 123 => ⟨S_, .i32⟩
  | 124 => ⟨S5000, .i1⟩
  | 125 => ⟨S_, .i32⟩
  | 126 => ⟨S_, .i1⟩
  | 127 => ⟨S_, .i32⟩
  | _ => ⟨S5000x4, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S1x5000, .f32⟩
  | 16 => ⟨S5000, .f32⟩
  | 17 => ⟨S_, .f32⟩
  | 18 => ⟨S5000, .f32⟩
  | 19 => ⟨S5000, .i1⟩
  | 20 => ⟨S5000, .i1⟩
  | 21 => ⟨S_, .i32⟩
  | 22 => ⟨S5000, .i32⟩
  | 23 => ⟨S5000, .i1⟩
  | 24 => ⟨S5000, .i1⟩
  | 25 => ⟨S_, .i1⟩
  | 26 => ⟨S_, .i1⟩
  | 27 => ⟨S_, .i1⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S1, .i1⟩
  | 35 => ⟨S_, .i1⟩
  | 36 => ⟨S_, .i1⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S1, .i32⟩
  | 44 => ⟨S5000, .i1⟩
  | 45 => ⟨S_, .i32⟩
  | 46 => ⟨S_, .i32⟩
  | 47 => ⟨S_, .i32⟩
  | 48 => ⟨S5000, .i32⟩
  | 49 => ⟨S5000, .i1⟩
  | 50 => ⟨S5000, .i1⟩
  | 51 => ⟨S_, .i32⟩
  | 52 => ⟨S5000, .i32⟩
  | 53 => ⟨S5000, .i1⟩
  | 54 => ⟨S5000, .i1⟩
  | 55 => ⟨S5000, .i32⟩
  | 56 => ⟨S_, .i32⟩
  | 57 => ⟨S_, .i32⟩
  | 58 => ⟨S5000, .i32⟩
  | 59 => ⟨S_, .i32⟩
  | 60 => ⟨S5000, .i32⟩
  | 61 => ⟨S5000, .i1⟩
  | 62 => ⟨S5000, .i1⟩
  | 63 => ⟨S5000, .i32⟩
  | 64 => ⟨S_, .i32⟩
  | 65 => ⟨S_, .i32⟩
  | 66 => ⟨S5000, .i32⟩
  | 67 => ⟨S_, .i32⟩
  | 68 => ⟨S5000, .i32⟩
  | 69 => ⟨S5000, .i1⟩
  | 70 => ⟨S5000, .i1⟩
  | 71 => ⟨S5000, .i1⟩
  | 72 => ⟨S_, .f32⟩
  | 73 => ⟨S_, .f32⟩
  | 74 => ⟨S5000, .f32⟩
  | 75 => ⟨S5000, .f32⟩
  | 76 => ⟨S30, .f32⟩
  | 77 => ⟨S30, .i32⟩
  | 78 => ⟨S_, .i32⟩
  | 79 => ⟨S30, .i32⟩
  | 80 => ⟨S30, .i1⟩
  | 81 => ⟨S_, .i32⟩
  | 82 => ⟨S30, .i32⟩
  | 83 => ⟨S30, .i32⟩
  | 84 => ⟨S30, .i32⟩
  | 85 => ⟨S30x1, .i32⟩
  | 86 => ⟨S30x4, .f32⟩
  | 87 => ⟨S_, .i32⟩
  | 88 => ⟨S30, .i32⟩
  | 89 => ⟨S30, .i1⟩
  | 90 => ⟨S_, .i32⟩
  | 91 => ⟨S30, .i32⟩
  | 92 => ⟨S30, .i32⟩
  | 93 => ⟨S30, .i32⟩
  | 94 => ⟨S30x1, .i32⟩
  | 95 => ⟨S30, .f32⟩
  | 96 => ⟨S_, .i32⟩
  | 97 => ⟨S30, .i32⟩
  | 98 => ⟨S30, .i1⟩
  | 99 => ⟨S_, .i32⟩
  | 100 => ⟨S30, .i32⟩
  | 101 => ⟨S30, .i32⟩
  | 102 => ⟨S30, .i32⟩
  | 103 => ⟨S30x1, .i32⟩
  | 104 => ⟨S30, .i32⟩
  | 105 => ⟨S_, .i32⟩
  | 106 => ⟨S30, .i32⟩
  | 107 => ⟨S30, .i1⟩
  | 108 => ⟨S_, .i32⟩
  | 109 => ⟨S30, .i32⟩
  | 110 => ⟨S30, .i32⟩
  | 111 => ⟨S30, .i32⟩
  | 112 => ⟨S30x1, .i32⟩
  | 113 => ⟨S30, .i1⟩
  | 114 => ⟨S30x1, .f32⟩
  | 115 => ⟨S30x5, .f32⟩
  | _ => ⟨S5000x4, .f32⟩

abbrev hbmTy (i : Nat) : BufTy := match i / 128 with
  | 0 => hbmTy0_0 i
  | 1 => hbmTy0_1 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_v11 : Ref sig .tc := ⟨.hbm, 20, rfl⟩
abbrev main_call1_v0 : Ref sig .tc := ⟨.hbm, 21, rfl⟩
abbrev main_call1_v1_0 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_c_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_c_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_12 : Ref sig .tc := ⟨.hbm, 95, rfl⟩
abbrev main_call2_v0 : Ref sig .tc := ⟨.hbm, 96, rfl⟩
abbrev main_call2_v1 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_13 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_c_14 : Ref sig .tc := ⟨.hbm, 115, rfl⟩
abbrev main_v90 : Ref sig .tc := ⟨.hbm, 116, rfl⟩
abbrev main_c_15 : Ref sig .tc := ⟨.hbm, 117, rfl⟩
abbrev main_c_16 : Ref sig .tc := ⟨.hbm, 118, rfl⟩
abbrev main_v91_0 : Ref sig .tc := ⟨.hbm, 119, rfl⟩
abbrev main_v91_1 : Ref sig .tc := ⟨.hbm, 120, rfl⟩
abbrev main_v91_2 : Ref sig .tc := ⟨.hbm, 121, rfl⟩
abbrev main_v91_3 : Ref sig .tc := ⟨.hbm, 122, rfl⟩
abbrev main_v91_4 : Ref sig .tc := ⟨.hbm, 123, rfl⟩
abbrev main_v91_5 : Ref sig .tc := ⟨.hbm, 124, rfl⟩
abbrev main_while0c_c_35 : Ref sig .tc := ⟨.hbm, 125, rfl⟩
abbrev main_while0c_v140 : Ref sig .tc := ⟨.hbm, 126, rfl⟩
abbrev main_while0b_c_35 : Ref sig .tc := ⟨.hbm, 127, rfl⟩
abbrev main_while0b_v140 : Ref sig .tc := ⟨.hbm, 128, rfl⟩
abbrev main_while0b_v141 : Ref sig .tc := ⟨.hbm, 129, rfl⟩
abbrev main_while0b_c_36 : Ref sig .tc := ⟨.hbm, 130, rfl⟩
abbrev main_while0b_v142 : Ref sig .tc := ⟨.hbm, 131, rfl⟩
abbrev main_while0b_c_37 : Ref sig .tc := ⟨.hbm, 132, rfl⟩
abbrev main_while0b_v143 : Ref sig .tc := ⟨.hbm, 133, rfl⟩
abbrev main_while0b_v144 : Ref sig .tc := ⟨.hbm, 134, rfl⟩
abbrev main_while0b_c_38 : Ref sig .tc := ⟨.hbm, 135, rfl⟩
abbrev main_while0b_c_39 : Ref sig .tc := ⟨.hbm, 136, rfl⟩
abbrev main_while0b_v145 : Ref sig .tc := ⟨.hbm, 137, rfl⟩
abbrev main_while0b_c_40 : Ref sig .tc := ⟨.hbm, 138, rfl⟩
abbrev main_while0b_c_41 : Ref sig .tc := ⟨.hbm, 139, rfl⟩
abbrev main_while0b_v146 : Ref sig .tc := ⟨.hbm, 140, rfl⟩
abbrev main_while0b_c_42 : Ref sig .tc := ⟨.hbm, 141, rfl⟩
abbrev main_while0b_v147 : Ref sig .tc := ⟨.hbm, 142, rfl⟩
abbrev main_while0b_v148 : Ref sig .tc := ⟨.hbm, 143, rfl⟩
abbrev main_while0b_v149 : Ref sig .tc := ⟨.hbm, 144, rfl⟩
abbrev main_while0b_cst_43 : Ref sig .tc := ⟨.hbm, 145, rfl⟩
abbrev main_while0b_v150 : Ref sig .tc := ⟨.hbm, 146, rfl⟩
abbrev main_while0b_v151 : Ref sig .tc := ⟨.hbm, 147, rfl⟩
abbrev main_while0b_v152 : Ref sig .tc := ⟨.hbm, 148, rfl⟩
abbrev main_while0b_v153 : Ref sig .tc := ⟨.hbm, 149, rfl⟩
abbrev main_while0b_v154 : Ref sig .tc := ⟨.hbm, 150, rfl⟩
abbrev main_while0b_v155 : Ref sig .tc := ⟨.hbm, 151, rfl⟩
abbrev main_while0b_v156 : Ref sig .tc := ⟨.hbm, 152, rfl⟩
abbrev main_while0b_c_44 : Ref sig .tc := ⟨.hbm, 153, rfl⟩
abbrev main_while0b_v157 : Ref sig .tc := ⟨.hbm, 154, rfl⟩
abbrev main_while0b_v158 : Ref sig .tc := ⟨.hbm, 155, rfl⟩
abbrev main_while0b_c_45 : Ref sig .tc := ⟨.hbm, 156, rfl⟩
abbrev main_while0b_v159 : Ref sig .tc := ⟨.hbm, 157, rfl⟩
abbrev main_while0b_v160 : Ref sig .tc := ⟨.hbm, 158, rfl⟩
abbrev main_while0b_c_46 : Ref sig .tc := ⟨.hbm, 159, rfl⟩
abbrev main_while0b_v161 : Ref sig .tc := ⟨.hbm, 160, rfl⟩
abbrev main_while0b_v162 : Ref sig .tc := ⟨.hbm, 161, rfl⟩
abbrev main_while0b_v163 : Ref sig .tc := ⟨.hbm, 162, rfl⟩
abbrev main_while0b_v164 : Ref sig .tc := ⟨.hbm, 163, rfl⟩
abbrev main_while0b_v165 : Ref sig .tc := ⟨.hbm, 164, rfl⟩
abbrev main_while0b_c_47 : Ref sig .tc := ⟨.hbm, 165, rfl⟩
abbrev main_while0b_v166 : Ref sig .tc := ⟨.hbm, 166, rfl⟩
abbrev main_while0b_c_48 : Ref sig .tc := ⟨.hbm, 167, rfl⟩
abbrev main_while0b_v167 : Ref sig .tc := ⟨.hbm, 168, rfl⟩
abbrev main_while0b_v168 : Ref sig .tc := ⟨.hbm, 169, rfl⟩
abbrev main_while0b_v169 : Ref sig .tc := ⟨.hbm, 170, rfl⟩
abbrev main_while0b_v170 : Ref sig .tc := ⟨.hbm, 171, rfl⟩
abbrev main_while0b_v171 : Ref sig .tc := ⟨.hbm, 172, rfl⟩
abbrev main_while0b_c_49 : Ref sig .tc := ⟨.hbm, 173, rfl⟩
abbrev main_while0b_v172 : Ref sig .tc := ⟨.hbm, 174, rfl⟩
abbrev main_c_17 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_c_18 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_call3_call0_c : Ref sig .tc := ⟨.hbm, 184, rfl⟩
abbrev main_call3_call0_v0 : Ref sig .tc := ⟨.hbm, 185, rfl⟩
abbrev main_v99 : Ref sig .tc := ⟨.hbm, 186, rfl⟩
abbrev main_c_19 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_call4_call0_c : Ref sig .tc := ⟨.hbm, 192, rfl⟩
abbrev main_call4_call0_v0 : Ref sig .tc := ⟨.hbm, 193, rfl⟩
abbrev main_v104 : Ref sig .tc := ⟨.hbm, 194, rfl⟩
abbrev main_c_20 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_cst_21 : Ref sig .tc := ⟨.hbm, 200, rfl⟩
abbrev main_call5_v0 : Ref sig .tc := ⟨.hbm, 201, rfl⟩
abbrev main_call5_v1 : Ref sig .tc := ⟨.hbm, 202, rfl⟩
abbrev main_v109 : Ref sig .tc := ⟨.hbm, 203, rfl⟩
abbrev main_values : Ref sig .tc := ⟨.hbm, 204, rfl⟩
abbrev main_indices : Ref sig .tc := ⟨.hbm, 205, rfl⟩
abbrev main_c_22 : Ref sig .tc := ⟨.hbm, 206, rfl⟩
abbrev main_v110 : Ref sig .tc := ⟨.hbm, 207, rfl⟩
abbrev main_v111 : Ref sig .tc := ⟨.hbm, 208, rfl⟩
abbrev main_c_23 : Ref sig .tc := ⟨.hbm, 209, rfl⟩
abbrev main_v112 : Ref sig .tc := ⟨.hbm, 210, rfl⟩
abbrev main_v113 : Ref sig .tc := ⟨.hbm, 211, rfl⟩
abbrev main_v114 : Ref sig .tc := ⟨.hbm, 212, rfl⟩
abbrev main_v115 : Ref sig .tc := ⟨.hbm, 213, rfl⟩
abbrev main_v116 : Ref sig .tc := ⟨.hbm, 214, rfl⟩
abbrev main_c_24 : Ref sig .tc := ⟨.hbm, 215, rfl⟩
abbrev main_v117 : Ref sig .tc := ⟨.hbm, 216, rfl⟩
abbrev main_v118 : Ref sig .tc := ⟨.hbm, 217, rfl⟩
abbrev main_c_25 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_c_26 : Ref sig .tc := ⟨.hbm, 224, rfl⟩
abbrev main_v124 : Ref sig .tc := ⟨.hbm, 225, rfl⟩
abbrev main_v125 : Ref sig .tc := ⟨.hbm, 226, rfl⟩
abbrev main_c_27 : Ref sig .tc := ⟨.hbm, 227, rfl⟩
abbrev main_v126 : Ref sig .tc := ⟨.hbm, 228, rfl⟩
abbrev main_v127 : Ref sig .tc := ⟨.hbm, 229, rfl⟩
abbrev main_v128 : Ref sig .tc := ⟨.hbm, 230, rfl⟩
abbrev main_v129 : Ref sig .tc := ⟨.hbm, 231, rfl⟩
abbrev main_v130 : Ref sig .tc := ⟨.hbm, 232, rfl⟩
abbrev main_c_28 : Ref sig .tc := ⟨.hbm, 233, rfl⟩
abbrev main_v131 : Ref sig .tc := ⟨.hbm, 234, rfl⟩
abbrev main_v132 : Ref sig .tc := ⟨.hbm, 235, rfl⟩
abbrev main_c_29 : Ref sig .tc := ⟨.hbm, 236, rfl⟩
abbrev main_v133 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_v139 : Ref sig .tc := ⟨.hbm, 243, rfl⟩

abbrev nD : Nat := 1
abbrev τ : Topo := Topo.v7x

variable {F : FTy → Type} [FloatOps F]

abbrev main_while0_count : Scf.Loop 32 := ⟨0#32, 5000#32, 1#32⟩
-- ==== Proof.Flags.lean ====
/-
  Rows and tables of flags: float values that are `0.0` or `1.0`. What the float operations that the kernel applies to
  flags do with them, gathered in one statement (`FlagOps`) that holds both for bit patterns and for extended reals.
-/
module

public import Idealize.ShloMosaic.Lib.Pointwise.Tactic
public import Idealize.ShloMosaic.Lib.NatWordsOrder
public import Idealize.ShloMosaic.Lib.SortKey

@[expose] public section

noncomputable section

namespace Cert.Proof

open Idealize.ShloMosaic

variable {F : FTy → Type} [FloatOps F]

/-- The float value of a flag: `1.0` or `0.0`. -/
def flag (b : Bool) : F .f32 := if b then FloatOps.ofBits .f32 0x3F800000#32 else FloatOps.ofBits .f32 0x00000000#32

/-- What the float operations do with flags: the scalar comparison is the vectors'; converting a bit gives a flag; the maximum is the disjunction, from minus
    infinity on; the two thresholds give the flag back; the inequality test tells flags apart; and a sum of flags of
    which all but one are known to be `0.0` is that one. -/
structure FlagOps (F : FTy → Type) [FloatOps F] : Prop where
  scalar_gt : ∀ x y : F .f32, Scalar.cmpf .ogt x y = FloatOps.cmpf .ogt x y
  ofBit : ∀ x : BitVec 1, FloatOps.sitofp (F := F) .f32 (x.setWidth 32) = flag (decide (x = 1#1))
  max : ∀ a b : Bool, FloatOps.maximumf (F := F) (φ := .f32) (flag a) (flag b) = flag (a || b)
  max_bot : ∀ b : Bool, FloatOps.maximumf (F := F) (φ := .f32) (FloatOps.ofBits .f32 0xFF800000#32) (flag b) = flag b
  gt_zero : ∀ b : Bool, FloatOps.cmpf (F := F) (φ := .f32) .ogt (flag b) (FloatOps.ofBits .f32 0x00000000#32) = BitVec.ofBool b
  bot_gt_zero : FloatOps.cmpf (F := F) (φ := .f32) .ogt (FloatOps.ofBits .f32 0xFF800000#32) (FloatOps.ofBits .f32 0x00000000#32) = 0#1
  gt_half : ∀ b : Bool, FloatOps.cmpf (F := F) (φ := .f32) .ogt (flag b) (FloatOps.ofBits .f32 0x3F000000#32) = BitVec.ofBool b
  ne : ∀ a b : Bool, FloatOps.cmpf (F := F) (φ := .f32) .one (flag a) (flag b) = BitVec.ofBool (a != b)
  sum : ∀ {s t : Shape} (axes : List (Fin s.rank)) (h : s.Reduces axes t) (src : FVec F s .f32) (j : t.Idx) (i₀ : s.Idx) (b : Bool),
    h.drop i₀ = j → src i₀ = flag b → (∀ i, h.drop i = j → i ≠ i₀ → src i = flag false) →
    FloatOps.reduceAdd (F := F) axes h src j = flag b

/-- At bit patterns a flag is the pattern of the number `1` or `0`. -/
theorem flag_bits (b : Bool) : (flag b : Bits .f32) = Bits.f32OfNat b.toNat := by
  rw [Bits.f32OfNat_eq _ (by cases b <;> decide)]; cases b <;> decide

theorem flagOps_bits : FlagOps Bits where
  scalar_gt _ _ := rfl
  ofBit x := by
    rw [flag_bits]
    refine (Bits.sitofp32_eq_f32OfNat (x.setWidth 32) (le_refl 32) ?_).trans ?_
    · revert x; decide
    · congr 1; revert x; decide
  max a b := by
    rw [flag_bits, flag_bits, flag_bits]
    refine (Bits.maxf32_nat ?_ ?_).trans ?_
    · cases a <;> decide
    · cases b <;> decide
    · cases a <;> cases b <;> rfl
  max_bot b := by
    rw [flag_bits]
    exact Bits.maxf32_negativeInfinity_nat (by cases b <;> decide)
  gt_zero b := by
    refine (cmpf32_ogt_eq (a := flag b) (b := FloatOps.ofBits .f32 0x00000000#32) ?_ (by decide)).trans ?_ <;> cases b <;> decide
  bot_gt_zero := (cmpf32_ogt_eq (a := FloatOps.ofBits .f32 0xFF800000#32) (b := FloatOps.ofBits .f32 0x00000000#32) (by decide) (by decide)).trans (by decide)
  gt_half b := by
    refine (cmpf32_ogt_eq (a := flag b) (b := FloatOps.ofBits .f32 0x3F000000#32) ?_ (by decide)).trans ?_ <;> cases b <;> decide
  ne a b := by
    refine (cmpf32_one_eq (a := flag a) (b := flag b) ?_ ?_).trans ?_ <;> cases a <;> cases b <;> decide
  sum := by
    intro s t axes h src j i₀ b h0 h1 h2
    have h3 : ∀ b : Bool, Bits.natOfF32? (flag b) = some b.toNat := fun b => by
      rw [flag_bits]; exact Bits.natOfF32?_f32OfNat _ (by cases b <;> decide)
    have h4 : ∀ b : Bool, Bits.f32OfNat b.toNat = flag b := fun b => (flag_bits b).symm
    have key := Bits.reduceAdd_nat axes h src j (fun i => if i = i₀ then b.toNat else 0) ?_ ?_
    · refine key.trans ?_
      rw [Finset.sum_ite_eq' , if_pos (show i₀ ∈ Bits.reduceFiber h j from Finset.mem_filter.2 ⟨Finset.mem_univ i₀, h0⟩), h4]
    · intro i hi
      by_cases e : i = i₀
      · subst e; rw [h1, h3, if_pos rfl]
      · rw [h2 i hi e, h3, if_neg e]; rfl
    · rw [Finset.sum_ite_eq' , if_pos (show i₀ ∈ Bits.reduceFiber h j from Finset.mem_filter.2 ⟨Finset.mem_univ i₀, h0⟩)]
      cases b <;> decide

theorem flag_ideal (b : Bool) : (flag b : Ideal .f32) = if b then 1 else 0 := by
  unfold flag; simp only [Ideal.ofBits_def, Ideal.ofBits_one_f32, Ideal.ofBits_zero_f32]

/-- The pattern of minus infinity denotes the least extended real. -/
theorem ofBits_bot : Ideal.ofBits .f32 0xFF800000#32 = (⊥ : EReal) := by simp [Ideal.ofBits, Ideal.ieee]
/-- The pattern of `0.5` denotes one half. -/
theorem ofBits_half : Ideal.ofBits .f32 0x3F000000#32 = ((1 / 2 : ℝ) : EReal) := by
  simp [Ideal.ofBits, Ideal.ieee, -EReal.coe_mul]; norm_num
/-- A float comparison of extended reals is the order's. -/
theorem cmpf_ideal (p : CmpFPredicate) (x y : Ideal .f32) : FloatOps.cmpf (F := Ideal) p x y = Ideal.cmp p x y := rfl

theorem flagOps_ideal : FlagOps Ideal where
  scalar_gt _ _ := rfl
  ofBit := by
    intro x
    rw [flag_ideal]
    rcases (by decide : ∀ x : BitVec 1, x = 0#1 ∨ x = 1#1) x with h | h <;> subst h <;>
      simp [FloatOps.sitofp]
  max := by intro a b; simp only [flag_ideal, Ideal.maximumf_def]; cases a <;> cases b <;> simp
  max_bot := by
    intro b; simp only [flag_ideal, Ideal.maximumf_def, Ideal.ofBits_def]
    rw [ofBits_bot]; simp
  gt_zero := by
    intro b; simp only [flag_ideal, cmpf_ideal, Ideal.ofBits_def, Ideal.ofBits_zero_f32, Ideal.cmp]
    cases b <;> simp
  bot_gt_zero := by
    simp only [cmpf_ideal, Ideal.ofBits_def, Ideal.ofBits_zero_f32, ofBits_bot, Ideal.cmp]; simp
  gt_half := by
    intro b; simp only [flag_ideal, cmpf_ideal, Ideal.ofBits_def, ofBits_half, Ideal.cmp]
    cases b
    · have : ¬ (((1 / 2 : ℝ) : EReal) < 0) := by
        rw [← EReal.coe_zero, EReal.coe_lt_coe_iff]; norm_num
      simp only [Bool.false_eq_true, if_false, decide_eq_false this]
    · have : ((1 / 2 : ℝ) : EReal) < 1 := by
        rw [← EReal.coe_one, EReal.coe_lt_coe_iff]; norm_num
      simp only [if_true, decide_eq_true this]
  ne := by
    intro a b; simp only [flag_ideal, cmpf_ideal, Ideal.cmp]
    cases a <;> cases b <;> simp
  sum := by
    intro s t axes h src j i₀ b h0 h1 h2
    rw [Ideal.reduceAdd_def]; unfold Ideal.reduceAdd
    rw [Finset.sum_eq_single i₀]
    · exact h1
    · intro i hi hne
      rw [h2 i (Finset.mem_filter.1 hi).2 hne, flag_ideal]; rfl
    · intro hn; exact absurd (Finset.mem_filter.2 ⟨Finset.mem_univ i₀, h0⟩) hn

/-- The maximum over a set of flags is above `0.0` exactly if one of them is `1.0`. -/
theorem any_flags (H : FlagOps F) {s t : Shape} {axes : List (Fin s.rank)} (h : s.Reduces axes t) (src : FVec F s .f32) (p : s.Idx → Bool)
    (hp : ∀ i, src i = flag (p i)) (j : t.Idx) :
    FloatOps.cmpf .ogt (reduceFold h FloatOps.maximumf (FloatOps.ofBits .f32 0xFF800000#32) src j) (FloatOps.ofBits .f32 0x00000000#32)
      = BitVec.ofBool (decide (∃ i, h.drop i = j ∧ p i = true)) := by
  rw [reduceFold_eq_foldl]
  have key : ∀ (l : List s.Idx),
      (∀ b, l.foldl (fun r i => FloatOps.maximumf r (src i)) (flag b : F .f32) = flag (b || l.any p)) := by
    intro l; induction l with
    | nil => intro b; simp
    | cons x l ih => intro b; rw [List.foldl_cons, hp, H.max, ih]; simp [Bool.or_assoc]
  generalize hl : (List.filter _ _) = l
  have hmem : ∀ i, i ∈ l ↔ h.drop i = j := by
    intro i; rw [← hl]; simp only [List.mem_filter, List.mem_map, List.mem_finRange, true_and, decide_eq_true_eq, and_iff_right_iff_imp]
    exact fun _ => ⟨_, s.rowMajor.symm_apply_apply i⟩
  cases l with
  | nil =>
    rw [List.foldl_nil, H.bot_gt_zero]
    symm; change _ = BitVec.ofBool false; congr 1; rw [decide_eq_false_iff_not]; rintro ⟨i, hi, -⟩; exact absurd ((hmem i).2 hi) (by simp)
  | cons x l =>
    rw [List.foldl_cons, hp, H.max_bot, key, H.gt_zero]
    congr 1; rw [Bool.eq_iff_iff, decide_eq_true_iff]
    have : (p x || l.any p) = (x :: l).any p := rfl
    rw [this, List.any_eq_true]
    exact exists_congr fun i => and_congr (hmem i) Iff.rfl

end Cert.Proof

end
-- ==== Proof.PI.Model.lean ====
/-
  What the kernel body computes, as functions of the contents of the buffers it holds: the columns and rows a block
  reads, the largest overlap with the kept boxes of the earlier blocks (`crossAt`), the result of the inner loop after
  a number of trips (`innerRes`), and what one block leaves in the three buffers the outer loop writes and in the four
  values it carries (`outStep`). Everything is stated over the generated payload names, for any float values.
-/
module

public import proofs.«01_k».proof.Proof.Gen.KernelIdeal.Skeleton
public import Idealize.ShloMosaic.Lib.Tactic

@[expose] public section

noncomputable section

namespace Cert.Proof.PI

open Cert.KernelIdeal Cert.KernelIdeal.Gen

open Idealize.ShloMosaic
open Idealize.ShloMosaic.TcCoe

variable {F : FTy → Type} [FloatOps F]

/-! ### The buffers -/

/-- Contents of the sorted, padded table of boxes, scores and labels. -/
abbrev PtC (F : FTy → Type) : Type := (cc0_stg0_0 : Ref sig .tc).ty.Contents (Elt F)
/-- Contents of the one-word buffer of the shift per label. -/
abbrev McC (F : FTy → Type) : Type := (cc0_stg1_0 : Ref sig .tc).ty.Contents (Elt F)
/-- Contents of the result rows. -/
abbrev OdC (F : FTy → Type) : Type := (cc0_stg2_0 : Ref sig .tc).ty.Contents (Elt F)
/-- Contents of the result flags. -/
abbrev OvC (F : FTy → Type) : Type := (cc0_stg3_0 : Ref sig .tc).ty.Contents (Elt F)
/-- Contents of the first block's selection row. -/
abbrev SelC (F : FTy → Type) : Type := (cc0_scratch0 : Ref sig .tc).ty.Contents (Elt F)
/-- Contents of the store of kept columns. -/
abbrev ColC (F : FTy → Type) : Type := (cc0_scratch1 : Ref sig .tc).ty.Contents (Elt F)

/-- A row segment of the table. -/
def ldP (o : Fin 2 → Nat) (h : ∀ a, o a + S1x640.size a ≤ S8x5120.size a) (P : PtC F) : Vec F S1x640 .f32 :=
  (Memref.whole cc0_stg0_0).view.readAt (Elt F) (Rect.unit (s := S8x5120) o S1x640.size h).toLoadRect P
/-- A column segment of the store. -/
def ldC (o : Fin 2 → Nat) (h : ∀ a, o a + S640x1.size a ≤ S5120x8.size a) (C : ColC F) : Vec F S640x1 .f32 :=
  (Memref.whole cc0_scratch1).view.readAt (Elt F) (Rect.unit (s := S5120x8) o S640x1.size h).toLoadRect C
/-- A column segment of the store, overwritten. -/
def stC (o : Fin 2 → Nat) (h : ∀ a, o a + S640x1.size a ≤ S5120x8.size a) (C : ColC F) (w : Vec F S640x1 .f32) : ColC F :=
  ((Memref.whole cc0_scratch1).access (Rect.unit (s := S5120x8) o S640x1.size h)).write (Elt F) C w Finset.univ
/-- A column of the result. -/
def ldO (o : Fin 2 → Nat) (h : ∀ a, o a + S32x1.size a ≤ S32x8.size a) (O : OdC F) : Vec F S32x1 .f32 :=
  (Memref.whole cc0_stg2_0).view.readAt (Elt F) (Rect.unit (s := S32x8) o S32x1.size h).toLoadRect O
/-- A column of the result, overwritten. -/
def stO (o : Fin 2 → Nat) (h : ∀ a, o a + S32x1.size a ≤ S32x8.size a) (O : OdC F) (w : Vec F S32x1 .f32) : OdC F :=
  ((Memref.whole cc0_stg2_0).access (Rect.unit (s := S32x8) o S32x1.size h)).write (Elt F) O w Finset.univ
/-- The selection row, read whole. -/
def ldZ (Z : SelC F) : Vec F S1x640 .f32 :=
  (Memref.whole cc0_scratch0).view.readAt (Elt F) (Rect.unit (s := S1x640) ![0, 0] S1x640.size inb_S1x640_S1x640_0_0).toLoadRect Z
/-- The selection row, overwritten whole. -/
def stZ (Z : SelC F) (w : Vec F S1x640 .f32) : SelC F :=
  ((Memref.whole cc0_scratch0).access (Rect.unit (s := S1x640) ![0, 0] S1x640.size inb_S1x640_S1x640_0_0)).write (Elt F) Z w Finset.univ
/-- The shift per label. -/
abbrev mcOf (Mc : McC F) : F .f32 :=
  k0_pay13 ((Memref.whole cc0_stg1_0).view.readAt (Elt F) (Rect.unit (s := S1x1) ![0, 0] S1x1.size inb_S1x1_S1x1_0_0).toLoadRect Mc)
/-- The result rows before the first block: zero. -/
def initO (O : OdC F) : OdC F :=
  ((Memref.whole cc0_stg2_0).access (Rect.unit (s := S32x8) ![0, 0] S32x8.size inb_S32x8_S32x8_0_0)).write (Elt F) O (k0_pay8 (F := F)) Finset.univ

/-! ### The inner loop -/

/-- The inner loop's carried pair after at most `n` trips: the current row of kept flags and the test. -/
def innerRes (mm : IVec S640x640 1) (bs : IVec S1x640 1) : ℕ → FVec F S1x640 .f32 × BitVec 1 → FVec F S1x640 .f32 × BitVec 1
  | 0, s => s
  | n + 1, s => if s.2 = 1#1 then
      innerRes mm bs n (k0_pay6 k0_pay9 mm bs s.1, Scalar.cmpf .ogt (k0_pay7 k0_pay9 mm bs s.1) (Scalar.ofBits .f32 0x00000000#32))
    else s

/-- The number of trips allowed to the inner loop: one more than the columns of a block. -/
abbrev fuel : ℕ := 642

/-- Where the inner loop starts: the base row and whether any pair of the block overlaps. -/
def innerStart (bs : IVec S1x640 1) (a b : FVec F S640x640 .f32) : FVec F S1x640 .f32 × BitVec 1 :=
  (k0_pay48 bs, Scalar.cmpf .ogt (k0_pay49 k0_pay11 a b) (Scalar.ofBits .f32 0x00000000#32))

/-- The inner loop of every block stops within `fuel` trips. -/
def InnerHalts (F : FTy → Type) [FloatOps F] : Prop :=
  ∀ (bs : IVec S1x640 1) (a b : FVec F S640x640 .f32),
    ¬ (innerRes (k0_pay47 k0_pay11 a b) bs fuel (innerStart bs a b)).2 = 1#1

/-! ### One block -/

/-- The four values the outer loop carries beside the block counter: the kept humans so far, the kept others, the rows
    selected, and whether it is done. -/
structure St (F : FTy → Type) where
  hc : F .f32
  oc : F .f32
  m : F .f32
  dn : BitVec 1

section Block

variable (a : BitVec 32) (h : k0_chk1 a) (P : PtC F) (mc : F .f32)

def r1 : Vec F S1x640 .f32 := ldP (k0_off1 a) (k0_off1_inb a h) P
def r2 : Vec F S1x640 .f32 := ldP (k0_off2 a) (k0_off2_inb a h) P
def r3 : Vec F S1x640 .f32 := ldP (k0_off3 a) (k0_off3_inb a h) P
def r4 : Vec F S1x640 .f32 := ldP (k0_off4 a) (k0_off4_inb a h) P
def r5 : Vec F S1x640 .f32 := ldP (k0_off5 a) (k0_off5_inb a h) P
def r6 : Vec F S1x640 .f32 := ldP (k0_off6 a) (k0_off6_inb a h) P

/-- The block's row areas. -/
def areaR : FVec F S1x640 .f32 := k0_pay33 (r1 a h P) (r2 a h P) (r3 a h P) (r4 a h P)
/-- The block's column areas. -/
def areaC : FVec F S640x1 .f32 := k0_pay38 k0_pay9 (r1 a h P) (r2 a h P) (r3 a h P) (r4 a h P)

/-- The running largest overlap with the kept boxes of the earlier blocks, before trip `n` of the loop over them. -/
def crossAt (C : ColC F) : ℕ → FVec F S1x640 .f32
  | 0 => k0_pay41
  | n + 1 => if hn : n < (k0_t1_loop a).trips then
      k0_pay42 (k0_pay29 (r1 a h P)) (k0_pay30 (r2 a h P)) (k0_pay31 (r3 a h P)) (k0_pay32 (r4 a h P)) (areaR a h P) (crossAt C n)
        (ldC (k0_off7 a ⟨n, hn⟩) (k0_off7_inb a h ⟨n, hn⟩) C) (ldC (k0_off8 a ⟨n, hn⟩) (k0_off8_inb a h ⟨n, hn⟩) C)
        (ldC (k0_off9 a ⟨n, hn⟩) (k0_off9_inb a h ⟨n, hn⟩) C) (ldC (k0_off10 a ⟨n, hn⟩) (k0_off10_inb a h ⟨n, hn⟩) C)
        (ldC (k0_off11 a ⟨n, hn⟩) (k0_off11_inb a h ⟨n, hn⟩) C)
    else crossAt C n

/-- The block's base row: valid and not overlapped by an earlier block. -/
def baseR (C : ColC F) : IVec S1x640 1 := k0_pay44 (r5 a h P) (crossAt a h P C (k0_t1_loop a).trips)

/-- The intersections and the unions inside the block. -/
def interB : FVec F S640x640 .f32 :=
  k0_pay45 (k0_pay29 (r1 a h P)) (k0_pay30 (r2 a h P)) (k0_pay31 (r3 a h P)) (k0_pay32 (r4 a h P))
    (k0_pay34 k0_pay9 (r1 a h P)) (k0_pay35 k0_pay9 (r2 a h P)) (k0_pay36 k0_pay9 (r3 a h P)) (k0_pay37 k0_pay9 (r4 a h P))
def unionB : FVec F S640x640 .f32 :=
  k0_pay46 (k0_pay29 (r1 a h P)) (k0_pay30 (r2 a h P)) (k0_pay31 (r3 a h P)) (k0_pay32 (r4 a h P)) (areaR a h P)
    (k0_pay34 k0_pay9 (r1 a h P)) (k0_pay35 k0_pay9 (r2 a h P)) (k0_pay36 k0_pay9 (r3 a h P)) (k0_pay37 k0_pay9 (r4 a h P)) (areaC a h P)

/-- The block's row of kept flags: where the inner loop ends. -/
def keepR (C : ColC F) : FVec F S1x640 .f32 :=
  (innerRes (k0_pay47 k0_pay11 (interB a h P) (unionB a h P)) (baseR a h P C) fuel (innerStart (baseR a h P C) (interB a h P) (unionB a h P))).1

/-- The store of kept columns after the block. -/
def stepC (C : ColC F) : ColC F :=
  stC (k0_off21 a) (k0_off21_inb a h)
    (stC (k0_off20 a) (k0_off20_inb a h)
      (stC (k0_off19 a) (k0_off19_inb a h)
        (stC (k0_off18 a) (k0_off18_inb a h)
          (stC (k0_off17 a) (k0_off17_inb a h) C (k0_pay51 k0_pay9 (k0_pay34 k0_pay9 (r1 a h P)) (keepR a h P C)))
          (k0_pay52 k0_pay9 (k0_pay35 k0_pay9 (r2 a h P)) (keepR a h P C)))
        (k0_pay53 k0_pay9 (k0_pay36 k0_pay9 (r3 a h P)) (keepR a h P C)))
      (k0_pay54 k0_pay9 (k0_pay37 k0_pay9 (r4 a h P)) (keepR a h P C)))
    (k0_pay56 (k0_pay55 k0_pay9 (areaC a h P) (keepR a h P C)))

variable (s : St F) (C : ColC F)

/-- The block's test rows: humans selected, and the two sides of the others' test. -/
def hselR : IVec S1x640 1 := k0_pay60 k0_pay9 k0_pay10 s.hc (k0_pay40 (r6 a h P)) (keepR a h P C)
def okoR : IVec S1x640 1 := k0_pay61 (k0_pay40 (r6 a h P)) (keepR a h P C)
def cumoR : FVec F S1x640 .f32 := k0_pay62 k0_pay9 k0_pay10 s.oc (k0_pay40 (r6 a h P)) (keepR a h P C)

/-- The first block's selection row after the block. -/
def stepZ (Z : SelC F) : SelC F :=
  if Scalar.cmpi .ne (Scalar.extui (Scalar.cmpi .eq a 0#32) : BitVec 32) 0#32 = 1#1 then
    stZ Z (k0_pay66 (hselR a h P s C) (okoR a h P C) (cumoR a h P s C) k0_pay63)
  else Z

/-- The block's one-hot rows. -/
def hotB : FVec F S32x640 .f32 :=
  k0_pay67 k0_pay9 k0_pay10 k0_pay12 s.m (hselR a h P s C) (okoR a h P C) (cumoR a h P s C) k0_pay63

/-- The result rows after the block. -/
def stepO (O : OdC F) : OdC F :=
  let e := hotB a h P s C
  let l := k0_pay68 (r6 a h P)
  let o0 := stO ![0, 0] inb_S32x8_S32x1_0_0 O (k0_pay74 e (k0_pay69 mc (r6 a h P) (r1 a h P)) (ldO ![0, 0] inb_S32x8_S32x1_0_0 O))
  let o1 := stO ![0, 1] inb_S32x8_S32x1_0_1 o0 (k0_pay75 e (k0_pay70 (r2 a h P)) (k0_pay71 mc (r6 a h P)) (ldO ![0, 1] inb_S32x8_S32x1_0_1 o0))
  let o2 := stO ![0, 2] inb_S32x8_S32x1_0_2 o1 (k0_pay76 mc e l (r3 a h P) (ldO ![0, 2] inb_S32x8_S32x1_0_2 o1))
  let o3 := stO ![0, 3] inb_S32x8_S32x1_0_3 o2 (k0_pay77 e (k0_pay72 mc l (r4 a h P)) (ldO ![0, 3] inb_S32x8_S32x1_0_3 o2))
  let o4 := stO ![0, 4] inb_S32x8_S32x1_0_4 o3 (k0_pay78 e (k0_pay73 (r5 a h P)) (ldO ![0, 4] inb_S32x8_S32x1_0_4 o3))
  stO ![0, 5] inb_S32x8_S32x1_0_5 o4 (k0_pay79 e l (ldO ![0, 5] inb_S32x8_S32x1_0_5 o4))

/-- The carried values after the block. -/
def stepS : St F :=
  let hc' := k0_pay80 s.hc (k0_pay57 (k0_pay40 (r6 a h P)) (keepR a h P C))
  let oc' := k0_pay3 s.oc (k0_pay81 (k0_pay58 (k0_pay40 (r6 a h P)) (keepR a h P C)))
  ⟨hc', oc', k0_pay4 s.m (k0_pay65 (hselR a h P s C) (okoR a h P C) (cumoR a h P s C) k0_pay63),
    Scalar.ori (Scalar.andi (Scalar.cmpf .oge hc' (Scalar.ofBits .f32 0x41700000#32)) (Scalar.cmpf .oge oc' (Scalar.ofBits .f32 0x41700000#32)))
      (Scalar.cmpf .ogt (k0_pay5 (k0_pay39 (r5 a h P))) (Scalar.ofBits .f32 0x00000000#32))⟩

end Block

/-! ### After the blocks -/

/-- The one-hot rows of the fill. -/
def fillHot (m : F .f32) (Z : SelC F) : FVec F S32x640 .f32 := k0_pay18 k0_pay12 (k0_pay16 m (ldZ Z)) (k0_pay17 m (ldZ Z))

/-- The result rows after the fill. -/
def finO (P : PtC F) (mc : F .f32) (m : F .f32) (Z : SelC F) (O : OdC F) : OdC F :=
  let p1 := ldP ![0, 0] inb_S8x5120_S1x640_0_0 P
  let p2 := ldP ![1, 0] inb_S8x5120_S1x640_1_0 P
  let p3 := ldP ![2, 0] inb_S8x5120_S1x640_2_0 P
  let p4 := ldP ![3, 0] inb_S8x5120_S1x640_3_0 P
  let p5 := ldP ![4, 0] inb_S8x5120_S1x640_4_0 P
  let p6 := ldP ![5, 0] inb_S8x5120_S1x640_5_0 P
  let e := fillHot m Z
  let o0 := stO ![0, 0] inb_S32x8_S32x1_0_0 O
    (k0_pay24 k0_pay12 mc (k0_pay16 m (ldZ Z)) (k0_pay17 m (ldZ Z)) p6 p1 (ldO ![0, 0] inb_S32x8_S32x1_0_0 O))
  let o1 := stO ![0, 1] inb_S32x8_S32x1_0_1 o0 (k0_pay25 e (k0_pay20 mc p6 p2) (ldO ![0, 1] inb_S32x8_S32x1_0_1 o0))
  let o2 := stO ![0, 2] inb_S32x8_S32x1_0_2 o1 (k0_pay26 e (k0_pay21 mc p6 p3) (ldO ![0, 2] inb_S32x8_S32x1_0_2 o1))
  let o3 := stO ![0, 3] inb_S32x8_S32x1_0_3 o2 (k0_pay27 e (k0_pay22 mc p6 p4) (ldO ![0, 3] inb_S32x8_S32x1_0_3 o2))
  let o4 := stO ![0, 4] inb_S32x8_S32x1_0_4 o3 (k0_pay28 e (k0_pay23 p5) (ldO ![0, 4] inb_S32x8_S32x1_0_4 o3))
  stO ![0, 5] inb_S32x8_S32x1_0_5 o4 (k0_pay1 e (k0_pay19 p6) (ldO ![0, 5] inb_S32x8_S32x1_0_5 o4))

/-- The result flags. -/
def finV (m : F .f32) (V : OvC F) : OvC F :=
  ((Memref.whole cc0_stg3_0).access (Rect.unit (s := S32x1) ![0, 0] S32x1.size inb_S32x1_S32x1_0_0)).write (Elt F) V (k0_pay2 m) Finset.univ

/-- A block counter below 8 passes every check of the block. -/
theorem chk_of_lt : ∀ k : Fin 8, k0_chk1 (BitVec.ofNat 32 k.val) := by decide +kernel

/-! ### The blocks one after another -/

/-- The three buffers the outer loop writes. -/
structure Mem (F : FTy → Type) where
  O : OdC F
  Z : SelC F
  C : ColC F

/-- The buffers after the block. -/
def stepM (a : BitVec 32) (h : k0_chk1 a) (P : PtC F) (mc : F .f32) (s : St F) (M : Mem F) : Mem F :=
  ⟨stepO a h P mc s M.C M.O, stepZ a h P s M.C M.Z, stepC a h P M.C⟩

/-- The outer loop from block `k` with at most `n` blocks to run: the carried values and the buffers it ends with. -/
def outRun (P : PtC F) (mc : F .f32) : ℕ → ℕ → St F → Mem F → St F × Mem F
  | 0, _, s, M => (s, M)
  | n + 1, k, s, M =>
    if hk : k < 8 then
      if Scalar.xori s.dn 1#1 = 1#1 then
        outRun P mc n (k + 1) (stepS (BitVec.ofNat 32 k) (chk_of_lt ⟨k, hk⟩) P s M.C)
          (stepM (BitVec.ofNat 32 k) (chk_of_lt ⟨k, hk⟩) P mc s M)
      else (s, M)
    else (s, M)

/-- The values the outer loop starts with. -/
abbrev St.init : St F := ⟨Scalar.ofBits .f32 0x00000000#32, Scalar.ofBits .f32 0x00000000#32, Scalar.ofBits .f32 0x00000000#32, 0#1⟩

/-- The whole outer loop, from the zeroed result rows and any contents of the two scratch buffers. -/
def outEnd (P : PtC F) (Mc : McC F) (O : OdC F) (Z : SelC F) (C : ColC F) : St F × Mem F :=
  outRun P (mcOf Mc) 8 0 St.init ⟨initO O, Z, C⟩

/-- The result rows the kernel leaves. -/
def kerO (P : PtC F) (Mc : McC F) (O : OdC F) (Z : SelC F) (C : ColC F) : OdC F :=
  finO P (mcOf Mc) (outEnd P Mc O Z C).1.m (outEnd P Mc O Z C).2.Z (outEnd P Mc O Z C).2.O

/-- The result flags the kernel leaves. -/
def kerV (P : PtC F) (Mc : McC F) (O : OdC F) (Z : SelC F) (C : ColC F) (V : OvC F) : OvC F :=
  finV (outEnd P Mc O Z C).1.m V

end Cert.Proof.PI

end
-- ==== Proof.PI.Inner.lean ====
/-
  The inner loop of a block, on flags. One trip turns the row of flags `b` into `base j ∧ ¬∃ i, m i j ∧ b i`, where `m`
  is the table of overlapping pairs, which only relates earlier to later places. So after `n` trips the first `n` places
  no longer change, the loop stops, and where it stops the row solves `b j ↔ base j ∧ ¬∃ i, m i j ∧ b i`.
-/
module

public import proofs.«01_k».proof.Proof.PI.Model
public import proofs.«01_k».proof.Proof.Flags
public import Idealize.ShloMosaic.Lib.Pointwise

@[expose] public section

noncomputable section

namespace Cert.Proof.PI

open Cert.KernelIdeal Cert.KernelIdeal.Gen

open Idealize.ShloMosaic
open Idealize.ShloMosaic.TcCoe

variable {F : FTy → Type} [FloatOps F]

/-- A row of flags as a block's row of floats. -/
def rowOf (b : Fin 640 → Bool) : FVec F S1x640 .f32 := fun i => flag (b (i 1))

/-- A row of flags at a place. -/
theorem rowOf_ix2 (b : Fin 640 → Bool) (r : Fin 1) (j : Fin 640) : (rowOf b : FVec F S1x640 .f32) (ix2 r j) = flag (b j) := rfl

/-- One trip on flags. -/
def trip (mm : Fin 640 → Fin 640 → Bool) (bs : Fin 640 → Bool) (b : Fin 640 → Bool) : Fin 640 → Bool :=
  fun j => bs j && !decide (∃ i, mm i j = true ∧ b i = true)

/-- Places of a block compare as the words they are given as. -/
theorem word_eq (i j : Fin 640) : IntOp.cmpi .eq (BitVec.ofNat 32 i.val) (BitVec.ofNat 32 j.val) = BitVec.ofBool (decide (i = j)) := by
  unfold IntOp.cmpi; congr 1
  rw [Bool.eq_iff_iff, beq_iff_eq, decide_eq_true_iff, ← BitVec.toNat_inj, BitVec.toNat_ofNat, BitVec.toNat_ofNat]
  omega
theorem word_toInt (i : Fin 640) : (BitVec.ofNat 32 i.val).toInt = (i.val : Int) := by
  rw [BitVec.toInt_eq_toNat_cond, BitVec.toNat_ofNat, Nat.mod_eq_of_lt (by omega), if_pos (by omega)]
theorem word_slt (i j : Fin 640) : IntOp.cmpi .slt (BitVec.ofNat 32 i.val) (BitVec.ofNat 32 j.val) = BitVec.ofBool (decide (i < j)) := by
  unfold IntOp.cmpi; congr 1
  rw [Bool.eq_iff_iff, BitVec.slt, decide_eq_true_iff, decide_eq_true_iff, word_toInt, word_toInt]; omega
theorem word_sle (i j : Fin 640) : IntOp.cmpi .sle (BitVec.ofNat 32 i.val) (BitVec.ofNat 32 j.val) = BitVec.ofBool (decide (i ≤ j)) := by
  unfold IntOp.cmpi; congr 1
  rw [Bool.eq_iff_iff, BitVec.sle, decide_eq_true_iff, decide_eq_true_iff, word_toInt, word_toInt]; omega

/-- The diagonal mask, the mask of places up to a place, and the mask of places before a place. -/
theorem pay9_apply (i j : Fin 640) : k0_pay9 (ix2 i j) = BitVec.ofBool (decide (i = j)) := by
  unfold k0_pay9; pointwise; exact word_eq i j
theorem pay10_apply (i j : Fin 640) : k0_pay10 (ix2 i j) = BitVec.ofBool (decide (i ≤ j)) := by
  unfold k0_pay10; pointwise; exact word_sle i j
theorem pay11_apply (i j : Fin 640) : k0_pay11 (ix2 i j) = BitVec.ofBool (decide (i < j)) := by
  unfold k0_pay11; pointwise; exact word_slt i j

/-- A row of flags turned into a column: the sum along a row of its diagonal table is the flag at that place. -/
theorem toCol_flag (H : FlagOps F) (b : Fin 640 → Bool) (i : Fin 640) :
    FloatOps.reduceAdd [1] reduces_S640x640_S640
      (select k0_pay9 (broadcastTo S640x640 (rowOf (F := F) b) broadcasts_S1x640_S640x640)
        (broadcast S640x640 (FloatOps.ofBits FTy.f32 0#32))) (ix1 i) = flag (b i) := by
  refine H.sum _ _ _ _ (ix2 i i) (b i) ?_ ?_ ?_
  · exact (Shape.Reduces.fiber_r2_a1 reduces_S640x640_S640 (ix1 i) (ix2 i i)).2 ⟨i, rfl⟩
  · pointwise [pay9_apply, rowOf_ix2]; try simp [Scalar.select]
  · intro x hx hne
    obtain ⟨k, rfl⟩ := (Shape.Reduces.fiber_r2_a1 reduces_S640x640_S640 (ix1 i) x).1 hx
    have hk : ¬ i = k := by rintro rfl; exact hne rfl
    pointwise [pay9_apply, rowOf_ix2]; simp [Scalar.select, hk, flag]

/-- One trip of the inner loop, on flags. -/
theorem pay6_flag (H : FlagOps F) (mm : IVec S640x640 1) (bs : IVec S1x640 1) (b : Fin 640 → Bool) :
    k0_pay6 (F := F) k0_pay9 mm bs (rowOf b)
      = rowOf (trip (fun i j => decide (mm (ix2 i j) = 1#1)) (fun j => decide (bs (ix2 0 j) = 1#1)) b) := by
  funext x
  obtain ⟨r, j, rfl⟩ : ∃ (r : Fin 1) (j : Fin 640), x = ix2 r j := ⟨x 0, x 1, eq_ix2 x⟩
  obtain rfl : r = 0 := Subsingleton.elim _ _
  unfold k0_pay6
  pointwise [multiReduction_maximumf_eq_reduceFold]
  rw [any_flags H _ _ (fun x => decide (mm x = 1#1) && b (x 0))]
  · rw [H.ofBit, rowOf_ix2]
    congr 1
    have e : (∃ i, Shape.Reduces.drop reduces_S640x640_S640_2 i = ix1 j ∧ (decide (mm i = 1#1) && b (i 0)) = true)
        ↔ ∃ i, decide (mm (ix2 i j) = 1#1) = true ∧ b i = true := by
      constructor
      · rintro ⟨x, hx, hp⟩
        obtain ⟨k, rfl⟩ := (Shape.Reduces.fiber_r2_a0 reduces_S640x640_S640_2 (ix1 j) x).1 hx
        exact ⟨k, Bool.and_eq_true_iff.1 hp⟩
      · rintro ⟨k, hp⟩
        exact ⟨ix2 k j, (Shape.Reduces.fiber_r2_a0 reduces_S640x640_S640_2 (ix1 j) _).2 ⟨k, rfl⟩, Bool.and_eq_true_iff.2 hp⟩
    unfold trip
    rw [decide_eq_decide.2 e]
    generalize decide (∃ i : Fin 640, decide (mm (ix2 i j) = 1#1) = true ∧ b i = true) = d
    show decide (IntOp.andi (bs (ix2 0 j)) _ = 1#1) = (decide (bs (ix2 0 j) = 1#1) && !d)
    generalize bs (ix2 0 j) = w
    revert d w; decide
  · intro x
    obtain ⟨i, k, rfl⟩ : ∃ (i : Fin 640) (k : Fin 640), x = ix2 i k := ⟨x 0, x 1, eq_ix2 x⟩
    pointwise
    rw [toCol_flag H, H.gt_half]
    generalize mm (ix2 i k) = w
    generalize b i = d
    unfold flag
    revert d w
    simp only [Scalar.select]
    intro d w
    rcases (by decide : ∀ x : BitVec 1, x = 0#1 ∨ x = 1#1) d with h | h <;> subst h <;> cases w <;> rfl

/-- A selection between `1.0` and `0.0` is the flag of its bit. -/
theorem select_flag (d : BitVec 1) :
    Scalar.select d (FloatOps.ofBits (F := F) FTy.f32 1065353216#32) (FloatOps.ofBits FTy.f32 0#32) = flag (decide (d = 1#1)) := by
  rcases (by decide : ∀ x : BitVec 1, x = 0#1 ∨ x = 1#1) d with h | h <;> subst h <;> rfl

/-- The one-place shape has one place. -/
theorem S1_sub (a b : S1.Idx) : a = b := by
  rw [eq_ix1 a, eq_ix1 b]; congr 1; exact Subsingleton.elim (α := Fin 1) _ _

/-- The test after a trip: whether the trip changed a flag. -/
theorem pay7_flag (H : FlagOps F) (mm : IVec S640x640 1) (bs : IVec S1x640 1) (b : Fin 640 → Bool) :
    Scalar.cmpf .ogt (k0_pay7 (F := F) k0_pay9 mm bs (rowOf b)) (Scalar.ofBits .f32 0x00000000#32)
      = BitVec.ofBool (decide (∃ j, trip (fun i j => decide (mm (ix2 i j) = 1#1)) (fun j => decide (bs (ix2 0 j) = 1#1)) b j ≠ b j)) := by
  unfold k0_pay7
  rw [pay6_flag H]
  generalize trip _ _ b = b'
  pointwise [multiReduction_maximumf_eq_reduceFold]
  rw [H.scalar_gt]
  refine (any_flags H _ _ (fun x : S1x1x640.Idx => b' (x 2) != b (x 2)) ?_ _).trans ?_
  · intro x
    obtain ⟨i, k, l, rfl⟩ : ∃ (i : Fin 1) (k : Fin 1) (l : Fin 640), x = ix3 i k l := ⟨x 0, x 1, x 2, eq_ix3 x⟩
    pointwise [rowOf_ix2]
    rw [H.ne]
    generalize b' l = d
    generalize b l = e
    cases d <;> cases e <;> rfl
  · congr 1
    rw [decide_eq_decide]
    constructor
    · rintro ⟨x, -, hp⟩; exact ⟨x 2, by simpa using hp⟩
    · rintro ⟨k, hp⟩; exact ⟨ix3 0 0 k, S1_sub _ _, by simpa using hp⟩

/-- The test before the first trip: whether any pair of the block overlaps. -/
theorem pay49_flag (H : FlagOps F) (a b : FVec F S640x640 .f32) :
    Scalar.cmpf .ogt (k0_pay49 (F := F) k0_pay11 a b) (Scalar.ofBits .f32 0x00000000#32)
      = BitVec.ofBool (decide (∃ i j, k0_pay47 k0_pay11 a b (ix2 i j) = 1#1)) := by
  unfold k0_pay49
  generalize k0_pay47 k0_pay11 a b = mm
  pointwise [multiReduction_maximumf_eq_reduceFold]
  rw [H.scalar_gt]
  refine (any_flags H _ _ (fun x : S1x640x640.Idx => decide (mm (ix2 (x 1) (x 2)) = 1#1)) ?_ _).trans ?_
  · intro x
    obtain ⟨i, k, l, rfl⟩ : ∃ (i : Fin 1) (k : Fin 640) (l : Fin 640), x = ix3 i k l := ⟨x 0, x 1, x 2, eq_ix3 x⟩
    pointwise
    exact select_flag _
  · congr 1
    rw [decide_eq_decide]
    constructor
    · rintro ⟨x, -, hp⟩; exact ⟨x 1, x 2, by simpa using hp⟩
    · rintro ⟨i, k, hp⟩; exact ⟨ix3 0 i k, S1_sub _ _, decide_eq_true hp⟩

/-- The base row as floats is the row of flags of its bits. -/
theorem pay48_flag (H : FlagOps F) (bs : IVec S1x640 1) :
    k0_pay48 (F := F) bs = rowOf (fun j => decide (bs (ix2 0 j) = 1#1)) := by
  funext x
  obtain ⟨r, j, rfl⟩ : ∃ (r : Fin 1) (j : Fin 640), x = ix2 r j := ⟨x 0, x 1, eq_ix2 x⟩
  obtain rfl : r = 0 := Subsingleton.elim _ _
  unfold k0_pay48
  pointwise [rowOf_ix2]
  exact H.ofBit _

/-- Only earlier places are related to later ones. -/
theorem pay47_lt (a b : FVec F S640x640 .f32) (i j : Fin 640) (h : k0_pay47 k0_pay11 a b (ix2 i j) = 1#1) : i < j := by
  unfold k0_pay47 at h
  pointwise [pay11_apply] at h
  by_contra hn
  rw [decide_eq_false hn] at h
  revert h
  generalize FloatOps.cmpf (F := F) _ _ _ = d
  revert d; decide

/-! ### The loop on flags -/

/-- The loop of trips on flags: at most `n`, stopping when the test fails. -/
def pureRes (mm : Fin 640 → Fin 640 → Bool) (bs : Fin 640 → Bool) : ℕ → (Fin 640 → Bool) × Bool → (Fin 640 → Bool) × Bool
  | 0, s => s
  | n + 1, s => if s.2 then pureRes mm bs n (trip mm bs s.1, decide (∃ j, trip mm bs s.1 j ≠ s.1 j)) else s

theorem innerRes_flag (H : FlagOps F) (mm : IVec S640x640 1) (bs : IVec S1x640 1) : ∀ (n : ℕ) (b : Fin 640 → Bool) (t : Bool),
    innerRes (F := F) mm bs n (rowOf b, BitVec.ofBool t)
      = (rowOf (pureRes (fun i j => decide (mm (ix2 i j) = 1#1)) (fun j => decide (bs (ix2 0 j) = 1#1)) n (b, t)).1,
         BitVec.ofBool (pureRes (fun i j => decide (mm (ix2 i j) = 1#1)) (fun j => decide (bs (ix2 0 j) = 1#1)) n (b, t)).2)
  | 0, b, t => rfl
  | n + 1, b, t => by
    cases t
    · rfl
    · unfold innerRes pureRes
      rw [if_pos (by rfl), if_pos (by rfl), pay6_flag H, pay7_flag H]
      exact innerRes_flag H mm bs n _ _

/-- After `n` trips the first `n` places no longer change. -/
theorem trip_iterate (mm : Fin 640 → Fin 640 → Bool) (hlt : ∀ i j, mm i j = true → i < j) (bs b : Fin 640 → Bool) :
    ∀ (n : ℕ) (j : Fin 640), j.val < n → (trip mm bs)^[n + 1] b j = (trip mm bs)^[n] b j
  | 0, j, h => absurd h (Nat.not_lt_zero _)
  | n + 1, j, h => by
    rw [Function.iterate_succ_apply' _ (n + 1), Function.iterate_succ_apply' _ n]
    change (bs j && !decide _) = (bs j && !decide _)
    congr 2
    rw [decide_eq_decide]
    refine exists_congr fun i => and_congr_right fun hm => ?_
    rw [← Function.iterate_succ_apply' (trip mm bs) n, trip_iterate mm hlt bs b n i (by have := hlt i j hm; omega)]

/-- While the loop has not stopped it has made every trip, and the last one changed a flag. -/
theorem pureRes_run (mm : Fin 640 → Fin 640 → Bool) (bs : Fin 640 → Bool) : ∀ (n : ℕ) (b : Fin 640 → Bool) (t : Bool),
    (pureRes mm bs (n + 1) (b, t)).2 = true → ∃ j, (trip mm bs)^[n + 1] b j ≠ (trip mm bs)^[n] b j
  | 0, b, t, h => by
    cases t
    · exact absurd h Bool.false_ne_true
    · simpa [pureRes] using h
  | n + 1, b, t, h => by
    cases t
    · exact absurd h Bool.false_ne_true
    · have := pureRes_run mm bs n (trip mm bs b) _ (by unfold pureRes at h; rw [if_pos (by rfl)] at h; exact h)
      rwa [← Function.iterate_succ_apply, ← Function.iterate_succ_apply] at this

/-- Where the loop has stopped after a failed test, a trip changes nothing. -/
theorem pureRes_fix (mm : Fin 640 → Fin 640 → Bool) (bs : Fin 640 → Bool) : ∀ (n : ℕ) (b : Fin 640 → Bool) (t : Bool),
    (t = false → trip mm bs b = b) → (pureRes mm bs n (b, t)).2 = false →
      trip mm bs (pureRes mm bs n (b, t)).1 = (pureRes mm bs n (b, t)).1
  | 0, b, t, ht, h => ht h
  | n + 1, b, t, ht, h => by
    cases t
    · exact ht rfl
    · unfold pureRes at h ⊢
      rw [if_pos (by rfl)] at h ⊢
      refine pureRes_fix mm bs n _ _ ?_ h
      intro hd
      have hd' := of_decide_eq_false hd
      have : trip mm bs b = b := funext fun j => by by_contra hj; exact hd' ⟨j, hj⟩
      rw [this, this]

/-- From the base row, the loop on flags stops within its trips at a row that a trip does not change. -/
theorem pureRes_stop (mm : Fin 640 → Fin 640 → Bool) (hlt : ∀ i j, mm i j = true → i < j) (bs : Fin 640 → Bool) (t : Bool)
    (ht : t = false → ∀ i j, ¬ mm i j = true) :
    (pureRes mm bs fuel (bs, t)).2 = false ∧ trip mm bs (pureRes mm bs fuel (bs, t)).1 = (pureRes mm bs fuel (bs, t)).1 := by
  have hstop : (pureRes mm bs fuel (bs, t)).2 = false := by
    by_contra hc
    obtain ⟨j, hj⟩ := pureRes_run mm bs 641 bs t (by simpa using hc)
    exact hj (trip_iterate mm hlt bs bs 641 j (by omega))
  refine ⟨hstop, pureRes_fix mm bs fuel bs t ?_ hstop⟩
  intro htf
  funext j
  unfold trip
  rw [decide_eq_false (by rintro ⟨i, hi, -⟩; exact ht htf i j hi)]; simp

/-- The inner loop stops within its trips, and the row it ends with solves `k j ↔ base j ∧ ¬∃ i, m i j ∧ k i`. -/
theorem inner_fix (H : FlagOps F) (bs : IVec S1x640 1) (a b : FVec F S640x640 .f32) :
    ∃ k : Fin 640 → Bool, innerRes (k0_pay47 k0_pay11 a b) bs fuel (innerStart bs a b) = (rowOf k, 0#1)
      ∧ trip (fun i j => decide (k0_pay47 k0_pay11 a b (ix2 i j) = 1#1)) (fun j => decide (bs (ix2 0 j) = 1#1)) k = k := by
  unfold innerStart
  rw [pay48_flag H, pay49_flag H, innerRes_flag H]
  have key := pureRes_stop (fun i j => decide (k0_pay47 k0_pay11 a b (ix2 i j) = 1#1))
    (fun i j h => pay47_lt a b i j (of_decide_eq_true h)) (fun j => decide (bs (ix2 0 j) = 1#1))
    (decide (∃ i j, k0_pay47 k0_pay11 a b (ix2 i j) = 1#1))
    (fun h i j hm => of_decide_eq_false h ⟨i, j, of_decide_eq_true hm⟩)
  exact ⟨_, by rw [key.1]; rfl, key.2⟩

/-- The inner loop of every block stops. -/
theorem innerHalts (H : FlagOps F) : InnerHalts F := by
  intro bs a b
  obtain ⟨k, hk, -⟩ := inner_fix H bs a b
  rw [hk]; exact (by decide : ¬ (0#1 : BitVec 1) = 1#1)

end Cert.Proof.PI

end
-- ==== Proof.PI.Access.lean ====
/-
  Reading and writing the kernel's buffers place by place: what a load of a row or column segment reads, what a store of
  a column segment leaves, and where the segments of a block lie.
-/
module

public import proofs.«01_k».proof.Proof.PI.Inner

@[expose] public section

noncomputable section

namespace Cert.Proof.PI

open Cert.KernelIdeal Cert.KernelIdeal.Gen

open Idealize.ShloMosaic
open Idealize.ShloMosaic.TcCoe

variable {F : FTy → Type} [FloatOps F]

/-! ### Contents at a place -/

/-- The table's row `c` at column `x`. -/
def atP (P : PtC F) (c : Fin 8) (x : Fin 5120) : F .f32 := P (ix2 c x)
/-- The store's column `c` at row `x`. -/
def atC (C : ColC F) (x : Fin 5120) (c : Fin 8) : F .f32 := C (ix2 x c)
/-- The result's column `c` at row `r`. -/
def atO (O : OdC F) (r : Fin 32) (c : Fin 8) : F .f32 := O (ix2 r c)

omit [FloatOps F] in
theorem ext_O {O O' : OdC F} (h : ∀ r c, atO O r c = atO O' r c) : O = O' := by
  funext i
  have := h (i 0) (i 1)
  unfold atO at this
  rwa [ix2_eta] at this

/-! ### Loads and stores -/

omit [FloatOps F] in
theorem ldP_apply (o : Fin 2 → Nat) (h : ∀ a, o a + S1x640.size a ≤ S8x5120.size a) (P : PtC F) (r : Fin 1) (l : Fin 640)
    (c : Fin 8) (x : Fin 5120) (hc : o 0 = c.val) (hx : o 1 + l.val = x.val) : ldP o h P (ix2 r l) = atP P c x := by
  unfold ldP atP
  rw [View.readAt_apply, View.read_apply]
  refine congrArg P (funext fun a => Fin.ext ?_)
  match a with
  | ⟨0, _⟩ => exact (show o 0 + 1 * r.val = c.val by omega)
  | ⟨1, _⟩ => exact (show o 1 + 1 * l.val = x.val by omega)

omit [FloatOps F] in
theorem ldC_apply (o : Fin 2 → Nat) (h : ∀ a, o a + S640x1.size a ≤ S5120x8.size a) (C : ColC F) (l : Fin 640) (z : Fin 1)
    (x : Fin 5120) (c : Fin 8) (hx : o 0 + l.val = x.val) (hc : o 1 = c.val) : ldC o h C (ix2 l z) = atC C x c := by
  unfold ldC atC
  rw [View.readAt_apply, View.read_apply]
  refine congrArg C (funext fun a => Fin.ext ?_)
  match a with
  | ⟨0, _⟩ => exact (show o 0 + 1 * l.val = x.val by omega)
  | ⟨1, _⟩ => exact (show o 1 + 1 * z.val = c.val by omega)

omit [FloatOps F] in
theorem ldO_apply (o : Fin 2 → Nat) (h : ∀ a, o a + S32x1.size a ≤ S32x8.size a) (O : OdC F) (r : Fin 32) (z : Fin 1)
    (c : Fin 8) (h0 : o 0 = 0) (hc : o 1 = c.val) : ldO o h O (ix2 r z) = atO O r c := by
  unfold ldO atO
  rw [View.readAt_apply, View.read_apply]
  refine congrArg O (funext fun a => Fin.ext ?_)
  match a with
  | ⟨0, _⟩ => exact (show o 0 + 1 * r.val = r.val by omega)
  | ⟨1, _⟩ => exact (show o 1 + 1 * z.val = c.val by omega)

omit [FloatOps F] in
/-- A stored column segment reads back. -/
theorem stC_in (o : Fin 2 → Nat) (h : ∀ a, o a + S640x1.size a ≤ S5120x8.size a) (C : ColC F) (w : Vec F S640x1 .f32) (l : Fin 640)
    (x : Fin 5120) (c : Fin 8) (hx : o 0 + l.val = x.val) (hc : o 1 = c.val) : atC (stC o h C w) x c = w (ix2 l 0) := by
  unfold stC atC
  have e : (ix2 x c : S5120x8.Idx) = ((Memref.whole cc0_scratch1).access (Rect.unit (s := S5120x8) o S640x1.size h)).emb (ix2 l 0) := by
    refine funext fun a => Fin.ext ?_
    match a with
    | ⟨0, _⟩ => exact (show x.val = o 0 + 1 * l.val by omega)
    | ⟨1, _⟩ => exact (show c.val = o 1 + 1 * 0 by omega)
  rw [e]
  exact View.write_emb_of_mem _ _ (Finset.mem_univ _)

omit [FloatOps F] in
/-- Off a stored column segment nothing changes. -/
theorem stC_out (o : Fin 2 → Nat) (h : ∀ a, o a + S640x1.size a ≤ S5120x8.size a) (C : ColC F) (w : Vec F S640x1 .f32)
    (x : Fin 5120) (c : Fin 8) (hn : ¬ (o 0 ≤ x.val ∧ x.val < o 0 + 640 ∧ o 1 = c.val)) : atC (stC o h C w) x c = atC C x c := by
  unfold stC atC
  refine View.write_of_not_mem _ _ _ ?_
  intro hm
  obtain ⟨y, -, hy⟩ := Finset.mem_map.1 hm
  apply hn
  have h0 : o 0 + 1 * (y 0).val = x.val := congrArg Fin.val (congrFun hy 0)
  have h1 : o 1 + 1 * (y 1).val = c.val := congrArg Fin.val (congrFun hy 1)
  have hl : (y 0).val < 640 := (y 0).isLt
  have hz : (y 1).val < 1 := (y 1).isLt
  omega

omit [FloatOps F] in
/-- A stored column of the result reads back, and the other columns do not change. -/
theorem stO_apply (o : Fin 2 → Nat) (h : ∀ a, o a + S32x1.size a ≤ S32x8.size a) (O : OdC F) (w : Vec F S32x1 .f32)
    (r : Fin 32) (c : Fin 8) (h0 : o 0 = 0) : atO (stO o h O w) r c = if o 1 = c.val then w (ix2 r 0) else atO O r c := by
  unfold stO atO
  split
  · next hc =>
    have e : (ix2 r c : S32x8.Idx) = ((Memref.whole cc0_stg2_0).access (Rect.unit (s := S32x8) o S32x1.size h)).emb (ix2 r 0) := by
      refine funext fun a => Fin.ext ?_
      match a with
      | ⟨0, _⟩ => exact (show r.val = o 0 + 1 * r.val by omega)
      | ⟨1, _⟩ => exact (show c.val = o 1 + 1 * 0 by omega)
    rw [e]
    exact View.write_emb_of_mem _ _ (Finset.mem_univ _)
  · next hc =>
    refine View.write_of_not_mem _ _ _ ?_
    intro hm
    obtain ⟨y, -, hy⟩ := Finset.mem_map.1 hm
    apply hc
    have h1 : o 1 + 1 * (y 1).val = c.val := congrArg Fin.val (congrFun hy 1)
    have hz : (y 1).val < 1 := (y 1).isLt
    omega

theorem zero2 : (![0, 0] : Fin 2 → Nat) = fun _ => 0 := by funext a; fin_cases a <;> rfl

omit [FloatOps F] in
theorem ldZ_eq (Z : SelC F) : ldZ Z = Z := Memref.readAt_unit_zero (Elt F) cc0_scratch0 zero2 _ Z
omit [FloatOps F] in
theorem stZ_eq (Z : SelC F) (w : Vec F S1x640 .f32) : stZ Z w = w :=
  Memref.write_access_unit_zero_univ (Elt F) cc0_scratch0 zero2 _ Z w
theorem initO_eq (O : OdC F) : initO O = k0_pay8 (F := F) :=
  Memref.write_access_unit_zero_univ (Elt F) cc0_stg2_0 zero2 _ O _
theorem finV_eq (m : F .f32) (V : OvC F) : finV m V = k0_pay2 m :=
  Memref.write_access_unit_zero_univ (Elt F) cc0_stg3_0 zero2 _ V _

/-! ### Where a block's segments lie -/

theorem off1_eq : ∀ k : Fin 8, k0_off1 (BitVec.ofNat 32 k.val) = ![0, 640 * k.val] := by decide +kernel
theorem off2_eq : ∀ k : Fin 8, k0_off2 (BitVec.ofNat 32 k.val) = ![1, 640 * k.val] := by decide +kernel
theorem off3_eq : ∀ k : Fin 8, k0_off3 (BitVec.ofNat 32 k.val) = ![2, 640 * k.val] := by decide +kernel
theorem off4_eq : ∀ k : Fin 8, k0_off4 (BitVec.ofNat 32 k.val) = ![3, 640 * k.val] := by decide +kernel
theorem off5_eq : ∀ k : Fin 8, k0_off5 (BitVec.ofNat 32 k.val) = ![4, 640 * k.val] := by decide +kernel
theorem off6_eq : ∀ k : Fin 8, k0_off6 (BitVec.ofNat 32 k.val) = ![5, 640 * k.val] := by decide +kernel
theorem off17_eq : ∀ k : Fin 8, k0_off17 (BitVec.ofNat 32 k.val) = ![640 * k.val, 0] := by decide +kernel
theorem off18_eq : ∀ k : Fin 8, k0_off18 (BitVec.ofNat 32 k.val) = ![640 * k.val, 1] := by decide +kernel
theorem off19_eq : ∀ k : Fin 8, k0_off19 (BitVec.ofNat 32 k.val) = ![640 * k.val, 2] := by decide +kernel
theorem off20_eq : ∀ k : Fin 8, k0_off20 (BitVec.ofNat 32 k.val) = ![640 * k.val, 3] := by decide +kernel
theorem off21_eq : ∀ k : Fin 8, k0_off21 (BitVec.ofNat 32 k.val) = ![640 * k.val, 4] := by decide +kernel
theorem trips_eq : ∀ k : Fin 8, (k0_t1_loop (BitVec.ofNat 32 k.val)).trips = k.val := by decide +kernel
theorem off7_eq : ∀ k : Fin 8, ∀ n, k0_off7 (BitVec.ofNat 32 k.val) n = ![640 * n.val, 0] := by decide +kernel
theorem off8_eq : ∀ k : Fin 8, ∀ n, k0_off8 (BitVec.ofNat 32 k.val) n = ![640 * n.val, 1] := by decide +kernel
theorem off9_eq : ∀ k : Fin 8, ∀ n, k0_off9 (BitVec.ofNat 32 k.val) n = ![640 * n.val, 2] := by decide +kernel
theorem off10_eq : ∀ k : Fin 8, ∀ n, k0_off10 (BitVec.ofNat 32 k.val) n = ![640 * n.val, 3] := by decide +kernel
theorem off11_eq : ∀ k : Fin 8, ∀ n, k0_off11 (BitVec.ofNat 32 k.val) n = ![640 * n.val, 4] := by decide +kernel

/-- The place of column `l` of block `k`. -/
def pl (k : Fin 8) (l : Fin 640) : Fin 5120 := ⟨640 * k.val + l.val, by omega⟩

omit [FloatOps F] in
theorem r1_apply (k : Fin 8) (P : PtC F) (r : Fin 1) (l : Fin 640) : r1 (BitVec.ofNat 32 k.val) (chk_of_lt k) P (ix2 r l) = atP P 0 (pl k l) :=
  ldP_apply _ _ _ _ _ _ _ (by rw [off1_eq]; rfl) (by rw [off1_eq]; rfl)
omit [FloatOps F] in
theorem r2_apply (k : Fin 8) (P : PtC F) (r : Fin 1) (l : Fin 640) : r2 (BitVec.ofNat 32 k.val) (chk_of_lt k) P (ix2 r l) = atP P 1 (pl k l) :=
  ldP_apply _ _ _ _ _ _ _ (by rw [off2_eq]; rfl) (by rw [off2_eq]; rfl)
omit [FloatOps F] in
theorem r3_apply (k : Fin 8) (P : PtC F) (r : Fin 1) (l : Fin 640) : r3 (BitVec.ofNat 32 k.val) (chk_of_lt k) P (ix2 r l) = atP P 2 (pl k l) :=
  ldP_apply _ _ _ _ _ _ _ (by rw [off3_eq]; rfl) (by rw [off3_eq]; rfl)
omit [FloatOps F] in
theorem r4_apply (k : Fin 8) (P : PtC F) (r : Fin 1) (l : Fin 640) : r4 (BitVec.ofNat 32 k.val) (chk_of_lt k) P (ix2 r l) = atP P 3 (pl k l) :=
  ldP_apply _ _ _ _ _ _ _ (by rw [off4_eq]; rfl) (by rw [off4_eq]; rfl)
omit [FloatOps F] in
theorem r5_apply (k : Fin 8) (P : PtC F) (r : Fin 1) (l : Fin 640) : r5 (BitVec.ofNat 32 k.val) (chk_of_lt k) P (ix2 r l) = atP P 4 (pl k l) :=
  ldP_apply _ _ _ _ _ _ _ (by rw [off5_eq]; rfl) (by rw [off5_eq]; rfl)
omit [FloatOps F] in
theorem r6_apply (k : Fin 8) (P : PtC F) (r : Fin 1) (l : Fin 640) : r6 (BitVec.ofNat 32 k.val) (chk_of_lt k) P (ix2 r l) = atP P 5 (pl k l) :=
  ldP_apply _ _ _ _ _ _ _ (by rw [off6_eq]; rfl) (by rw [off6_eq]; rfl)

/-! ### The store after a block -/

/-- The column of the store that a block writes at a column index. -/
def colOf (k : Fin 8) (P : PtC F) (C : ColC F) (c : Fin 5) : FVec F S640x1 .f32 :=
  let a := BitVec.ofNat 32 k.val
  let h := chk_of_lt k
  match c with
  | ⟨0, _⟩ => k0_pay51 k0_pay9 (k0_pay34 k0_pay9 (r1 a h P)) (keepR a h P C)
  | ⟨1, _⟩ => k0_pay52 k0_pay9 (k0_pay35 k0_pay9 (r2 a h P)) (keepR a h P C)
  | ⟨2, _⟩ => k0_pay53 k0_pay9 (k0_pay36 k0_pay9 (r3 a h P)) (keepR a h P C)
  | ⟨3, _⟩ => k0_pay54 k0_pay9 (k0_pay37 k0_pay9 (r4 a h P)) (keepR a h P C)
  | ⟨4, _⟩ => k0_pay56 (k0_pay55 k0_pay9 (areaC a h P) (keepR a h P C))

/-- After block `k` its places hold the block's columns. -/
theorem stepC_in (k : Fin 8) (P : PtC F) (C : ColC F) (l : Fin 640) (c : Fin 5) :
    atC (stepC (BitVec.ofNat 32 k.val) (chk_of_lt k) P C) (pl k l) ⟨c.val, by omega⟩ = colOf k P C c (ix2 l 0) := by
  unfold stepC
  match c with
  | ⟨4, _⟩ => exact stC_in _ _ _ _ l _ _ (by rw [off21_eq]; rfl) (by rw [off21_eq]; rfl)
  | ⟨3, _⟩ =>
    rw [stC_out _ _ _ _ _ _ (by rw [off21_eq]; rintro ⟨-, -, h⟩; simp at h)]
    exact stC_in _ _ _ _ l _ _ (by rw [off20_eq]; rfl) (by rw [off20_eq]; rfl)
  | ⟨2, _⟩ =>
    rw [stC_out _ _ _ _ _ _ (by rw [off21_eq]; rintro ⟨-, -, h⟩; simp at h),
      stC_out _ _ _ _ _ _ (by rw [off20_eq]; rintro ⟨-, -, h⟩; simp at h)]
    exact stC_in _ _ _ _ l _ _ (by rw [off19_eq]; rfl) (by rw [off19_eq]; rfl)
  | ⟨1, _⟩ =>
    rw [stC_out _ _ _ _ _ _ (by rw [off21_eq]; rintro ⟨-, -, h⟩; simp at h),
      stC_out _ _ _ _ _ _ (by rw [off20_eq]; rintro ⟨-, -, h⟩; simp at h),
      stC_out _ _ _ _ _ _ (by rw [off19_eq]; rintro ⟨-, -, h⟩; simp at h)]
    exact stC_in _ _ _ _ l _ _ (by rw [off18_eq]; rfl) (by rw [off18_eq]; rfl)
  | ⟨0, _⟩ =>
    rw [stC_out _ _ _ _ _ _ (by rw [off21_eq]; rintro ⟨-, -, h⟩; simp at h),
      stC_out _ _ _ _ _ _ (by rw [off20_eq]; rintro ⟨-, -, h⟩; simp at h),
      stC_out _ _ _ _ _ _ (by rw [off19_eq]; rintro ⟨-, -, h⟩; simp at h),
      stC_out _ _ _ _ _ _ (by rw [off18_eq]; rintro ⟨-, -, h⟩; simp at h)]
    exact stC_in _ _ _ _ l _ _ (by rw [off17_eq]; rfl) (by rw [off17_eq]; rfl)

/-- The places of other blocks are not changed by block `k`. -/
theorem stepC_out (k : Fin 8) (P : PtC F) (C : ColC F) (x : Fin 5120) (c : Fin 8)
    (hx : x.val < 640 * k.val ∨ 640 * k.val + 640 ≤ x.val) :
    atC (stepC (BitVec.ofNat 32 k.val) (chk_of_lt k) P C) x c = atC C x c := by
  unfold stepC
  rw [stC_out _ _ _ _ _ _ (by rw [off21_eq]; simp only [Matrix.cons_val_zero]; omega),
    stC_out _ _ _ _ _ _ (by rw [off20_eq]; simp only [Matrix.cons_val_zero]; omega),
    stC_out _ _ _ _ _ _ (by rw [off19_eq]; simp only [Matrix.cons_val_zero]; omega),
    stC_out _ _ _ _ _ _ (by rw [off18_eq]; simp only [Matrix.cons_val_zero]; omega),
    stC_out _ _ _ _ _ _ (by rw [off17_eq]; simp only [Matrix.cons_val_zero]; omega)]

end Cert.Proof.PI

end
-- ==== Proof.PI.Fresh.lean ====
/-
  What the kernel leaves does not depend on what its buffers held before: the result rows and the selection row are
  overwritten whole, and a block reads of the store of kept columns only what the earlier blocks wrote.
-/
module

public import proofs.«01_k».proof.Proof.PI.Access

@[expose] public section

noncomputable section

namespace Cert.Proof.PI

open Cert.KernelIdeal Cert.KernelIdeal.Gen

open Idealize.ShloMosaic
open Idealize.ShloMosaic.TcCoe

variable {F : FTy → Type} [FloatOps F]

/-- Two stores agree on the columns that blocks before block `k` wrote. -/
def Agree (k : ℕ) (C C' : ColC F) : Prop := ∀ (x : Fin 5120) (c : Fin 8), x.val < 640 * k → c.val < 5 → atC C x c = atC C' x c

omit [FloatOps F] in
theorem ldC_congr (k : Fin 8) {C C' : ColC F} (hC : Agree k.val C C') (o : Fin 2 → Nat)
    (h : ∀ a, o a + S640x1.size a ≤ S5120x8.size a) (n : ℕ) (hn : n < k.val) (c : Fin 5) (e : o = ![640 * n, c.val]) :
    ldC o h C = ldC o h C' := by
  funext i
  obtain ⟨l, z, rfl⟩ : ∃ (l : Fin 640) (z : Fin 1), i = ix2 l z := ⟨i 0, i 1, (ix2_eta i).symm⟩
  have hl := l.isLt
  have hk := k.isLt
  rw [ldC_apply o h C l z ⟨640 * n + l.val, by omega⟩ ⟨c.val, by omega⟩ (by rw [e]; rfl) (by rw [e]; rfl),
    ldC_apply o h C' l z ⟨640 * n + l.val, by omega⟩ ⟨c.val, by omega⟩ (by rw [e]; rfl) (by rw [e]; rfl)]
  exact hC _ _ (show 640 * n + l.val < _ by omega) c.isLt

section Block

variable (k : Fin 8) (P : PtC F) {C C' : ColC F} (hC : Agree k.val C C')

include hC

theorem crossAt_congr (n : ℕ) : crossAt (BitVec.ofNat 32 k.val) (chk_of_lt k) P C n = crossAt (BitVec.ofNat 32 k.val) (chk_of_lt k) P C' n := by
  induction n with
  | zero => rfl
  | succ n ih =>
    unfold crossAt
    split
    · next hn =>
      have hk : n < k.val := by rw [trips_eq k] at hn; exact hn
      rw [ih, ldC_congr k hC _ _ n hk 0 (off7_eq k ⟨n, hn⟩), ldC_congr k hC _ _ n hk 1 (off8_eq k ⟨n, hn⟩),
        ldC_congr k hC _ _ n hk 2 (off9_eq k ⟨n, hn⟩), ldC_congr k hC _ _ n hk 3 (off10_eq k ⟨n, hn⟩),
        ldC_congr k hC _ _ n hk 4 (off11_eq k ⟨n, hn⟩)]
    · exact ih

theorem keepR_congr : keepR (BitVec.ofNat 32 k.val) (chk_of_lt k) P C = keepR (BitVec.ofNat 32 k.val) (chk_of_lt k) P C' := by
  unfold keepR baseR
  rw [crossAt_congr k P hC]

variable (s : St F) (mc : F .f32)

theorem hselR_congr : hselR (BitVec.ofNat 32 k.val) (chk_of_lt k) P s C = hselR (BitVec.ofNat 32 k.val) (chk_of_lt k) P s C' := by
  unfold hselR; rw [keepR_congr k P hC]
theorem okoR_congr : okoR (BitVec.ofNat 32 k.val) (chk_of_lt k) P C = okoR (BitVec.ofNat 32 k.val) (chk_of_lt k) P C' := by
  unfold okoR; rw [keepR_congr k P hC]
theorem cumoR_congr : cumoR (BitVec.ofNat 32 k.val) (chk_of_lt k) P s C = cumoR (BitVec.ofNat 32 k.val) (chk_of_lt k) P s C' := by
  unfold cumoR; rw [keepR_congr k P hC]

theorem stepS_congr : stepS (BitVec.ofNat 32 k.val) (chk_of_lt k) P s C = stepS (BitVec.ofNat 32 k.val) (chk_of_lt k) P s C' := by
  unfold stepS; rw [keepR_congr k P hC, hselR_congr k P hC, okoR_congr k P hC, cumoR_congr k P hC]

theorem stepO_congr (O : OdC F) :
    stepO (BitVec.ofNat 32 k.val) (chk_of_lt k) P mc s C O = stepO (BitVec.ofNat 32 k.val) (chk_of_lt k) P mc s C' O := by
  unfold stepO hotB; rw [hselR_congr k P hC, okoR_congr k P hC, cumoR_congr k P hC]

theorem stepZ_congr (Z Z' : SelC F) (hZ : Z = Z' ∨ k.val = 0) :
    stepZ (BitVec.ofNat 32 k.val) (chk_of_lt k) P s C Z = stepZ (BitVec.ofNat 32 k.val) (chk_of_lt k) P s C' Z' := by
  unfold stepZ
  rw [hselR_congr k P hC, okoR_congr k P hC, cumoR_congr k P hC]
  rcases hZ with rfl | hk
  · rfl
  · have hc : Scalar.cmpi .ne (Scalar.extui (Scalar.cmpi .eq (BitVec.ofNat 32 k.val) 0#32) : BitVec 32) 0#32 = 1#1 := by
      rw [hk]; decide
    rw [if_pos hc, if_pos hc, stZ_eq, stZ_eq]

theorem stepC_agree : Agree (k.val + 1) (stepC (BitVec.ofNat 32 k.val) (chk_of_lt k) P C) (stepC (BitVec.ofNat 32 k.val) (chk_of_lt k) P C') := by
  intro x c hx hc
  by_cases hlt : x.val < 640 * k.val
  · rw [stepC_out k P C x c (.inl hlt), stepC_out k P C' x c (.inl hlt)]
    exact hC x c hlt hc
  · obtain ⟨l, rfl⟩ : ∃ l, x = pl k l :=
      ⟨⟨x.val - 640 * k.val, by omega⟩, Fin.ext (show x.val = 640 * k.val + (x.val - 640 * k.val) by omega)⟩
    refine (stepC_in k P C l ⟨c.val, hc⟩).trans (Eq.trans ?_ (stepC_in k P C' l ⟨c.val, hc⟩).symm)
    have e : colOf k P C = colOf k P C' := by funext c'; unfold colOf; dsimp only; rw [keepR_congr k P hC]
    rw [e]

end Block

/-- Runs of the outer loop from buffers that agree where they are read end alike. -/
theorem outRun_congr (P : PtC F) (mc : F .f32) (n : ℕ) : ∀ (k : ℕ) (s : St F) (M M' : Mem F), M.O = M'.O → Agree k M.C M'.C →
    (M.Z = M'.Z ∨ (k = 0 ∧ 0 < n ∧ s.dn = 0#1)) →
    (outRun P mc n k s M).1 = (outRun P mc n k s M').1 ∧ (outRun P mc n k s M).2.O = (outRun P mc n k s M').2.O ∧
      (outRun P mc n k s M).2.Z = (outRun P mc n k s M').2.Z := by
  induction n with
  | zero => exact fun k s M M' hO _ hZ => ⟨rfl, hO, hZ.elim id fun h => absurd h.2.1 (lt_irrefl 0)⟩
  | succ n ih =>
    intro k s M M' hO hC hZ
    unfold outRun
    by_cases hk : k < 8
    · rw [dif_pos hk, dif_pos hk]
      by_cases hd : Scalar.xori s.dn 1#1 = 1#1
      · rw [if_pos hd, if_pos hd, show stepS (BitVec.ofNat 32 k) (chk_of_lt ⟨k, hk⟩) P s M.C = _ from stepS_congr ⟨k, hk⟩ P hC s]
        refine ih (k + 1) _ (stepM (BitVec.ofNat 32 k) (chk_of_lt ⟨k, hk⟩) P mc s M) (stepM (BitVec.ofNat 32 k) (chk_of_lt ⟨k, hk⟩) P mc s M') ?_ ?_ (.inl ?_)
          <;> unfold stepM <;> dsimp only
        · rw [hO]; exact stepO_congr ⟨k, hk⟩ P hC s mc M'.O
        · exact stepC_agree ⟨k, hk⟩ P hC
        · exact stepZ_congr ⟨k, hk⟩ P hC s M.Z M'.Z (hZ.imp_right fun h => h.1)
      · rw [if_neg hd, if_neg hd]
        exact ⟨rfl, hO, hZ.elim id fun h => absurd (by rw [h.2.2]; decide) hd⟩
    · rw [dif_neg hk, dif_neg hk]
      exact ⟨rfl, hO, hZ.elim id fun h => absurd (by omega) hk⟩

theorem outEnd_congr (P : PtC F) (Mc : McC F) (O O' : OdC F) (Z Z' : SelC F) (C C' : ColC F) :
    (outEnd P Mc O Z C).1 = (outEnd P Mc O' Z' C').1 ∧ (outEnd P Mc O Z C).2.O = (outEnd P Mc O' Z' C').2.O ∧
      (outEnd P Mc O Z C).2.Z = (outEnd P Mc O' Z' C').2.Z := by
  unfold outEnd
  refine outRun_congr P (mcOf Mc) 8 0 St.init _ _ ?_ ?_ (.inr ⟨rfl, by omega, rfl⟩)
  · exact (initO_eq O).trans (initO_eq O').symm
  · intro x c hx; exact absurd hx (by omega)

/-- The result rows do not depend on what the buffers held. -/
theorem kerO_congr (P : PtC F) (Mc : McC F) (O O' : OdC F) (Z Z' : SelC F) (C C' : ColC F) : kerO P Mc O Z C = kerO P Mc O' Z' C' := by
  obtain ⟨h1, h2, h3⟩ := outEnd_congr P Mc O O' Z Z' C C'
  unfold kerO
  rw [h1, h2, h3]

/-- The result flags do not depend on what the buffers held. -/
theorem kerV_congr (P : PtC F) (Mc : McC F) (O O' : OdC F) (Z Z' : SelC F) (C C' : ColC F) (V V' : OvC F) :
    kerV P Mc O Z C V = kerV P Mc O' Z' C' V' := by
  unfold kerV
  rw [finV_eq, finV_eq, (outEnd_congr P Mc O O' Z Z' C C').1]

end Cert.Proof.PI

end
-- ==== Proof.PI.Body.lean ====
/-
  The kernel body met by its model: the inner loop's label answered by `innerRes`, the outer loop's label by `outRun`,
  and the whole body, holding the four staging buffers and the two scratch buffers, leaving `kerO` and `kerV`.
-/
module

public import proofs.«01_k».proof.Proof.PI.Model
public import proofs.«01_k».proof.Proof.Gen.KernelIdeal.Launch

@[expose] public section

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (UR sig nD τ) ℕ

/-- The order of the loops' bounds. -/
abbrev 𝒱₀ : Variants := Variants.nat

/-! ### The inner loop -/

section Inner

variable (c : Dev nD) (a : BitVec 32) (h : k0_chk1 a) (mm : IVec S640x640 1) (bs : IVec S1x640 1)

/-- The inner loop's label returns the given pair and touches no buffer. -/
def innerSpec (r : FVec F S1x640 .f32 × BitVec 1) : sWPT 𝕄 (FVec F S1x640 .f32 × BitVec 1) := pure r

theorem innerSpec_apply (r : FVec F S1x640 .f32 × BitVec 1) (K : FVec F S1x640 .f32 × BitVec 1 → sProp 𝕄) :
    innerSpec r K = K r := rfl

/-- With `n` trips allowed and the test failing at the end of them, the inner loop ends in `innerRes`. -/
theorem inner_le (E : Set ℕ) : ∀ (n : ℕ) (s : FVec F S1x640 .f32 × BitVec 1), ¬ (innerRes mm bs n s).2 = 1#1 →
    ∀ K, innerSpec (innerRes mm bs n s) K
      ⊢ wp frame (wpE (defs₀ (F := F)) 𝒱₀ (c : Thread nD τ) (some n)) E
          (defs₀ (F := F) .tc 2 ⟨a, h, k0_pay9, mm, bs, s.1, s.2⟩) K := by
  intro n
  induction n with
  | zero =>
    intro s hs K
    rw [innerSpec_apply]
    show _ ⊢ wp frame (wpE (defs₀ (F := F)) 𝒱₀ (c : Thread nD τ) (some 0)) E (cc0_while2 a h k0_pay9 mm bs s.1 s.2) K
    simp only [cc0_while2_eq_skeleton]; unfold cc0_while2_skel
    simp only [innerRes] at hs ⊢
    simp only [hs, ↓reduceIte, Prog.pure_eq_ret]
    rw [wp_ret]
    iintro H; imodintro; iexact H
  | succ n ih =>
    intro s hs K
    rw [innerSpec_apply]
    show _ ⊢ wp frame (wpE (defs₀ (F := F)) 𝒱₀ (c : Thread nD τ) (some (n + 1))) E (cc0_while2 a h k0_pay9 mm bs s.1 s.2) K
    simp only [cc0_while2_eq_skeleton]; unfold cc0_while2_skel
    by_cases ht : s.2 = 1#1
    · rw [innerRes, if_pos ht] at hs ⊢
      simp only [ht, ↓reduceIte, Prog.lift, Prog.bind_op, Prog.bind_ret, Prog.pure_eq_ret]
      iintro H
      iapply (wp_call_spec 𝒱₀ (c : Thread nD τ) (some (n + 1)) E
        (innerSpec (innerRes mm bs n (k0_pay6 k0_pay9 mm bs s.1, Scalar.cmpf .ogt (k0_pay7 k0_pay9 mm bs s.1) (Scalar.ofBits .f32 0x00000000#32)))) n
        (fun u hu => by cases hu; exact Nat.lt_succ_self n) (ih _ hs))
      rw [innerSpec_apply, wp_ret]; imodintro; iexact H
    · rw [innerRes, if_neg ht]
      simp only [ht, ↓reduceIte, Prog.pure_eq_ret]
      rw [wp_ret]
      iintro H; imodintro; iexact H

end Inner

/-! ### The outer loop -/

section Outer

variable (c : Dev nD) (P : PtC F) (mc : F .f32)

/-- The table, the result rows and the two scratch buffers, held whole. -/
def held (M : Mem F) : sProp 𝕄 :=
  iprop((((c : Thread nD τ).loc cc0_stg0_0) ↦{fullShare} P) ∗ (((c : Thread nD τ).loc cc0_stg2_0) ↦{fullShare} M.O)
    ∗ (((c : Thread nD τ).loc cc0_scratch0) ↦{fullShare} M.Z) ∗ (((c : Thread nD τ).loc cc0_scratch1) ↦{fullShare} M.C))

/-- The outer loop's label: holding the four buffers it returns a tuple whose count of selected rows is the model's,
    the table as it was and the other three as the model leaves them. -/
def outSpec (n k : ℕ) (s : St F) (M : Mem F) : sWPT 𝕄 (BitVec 32 × F .f32 × F .f32 × F .f32 × BitVec 1) := do
  sWPT.consume (held c P M)
  let r ← sWPT.arbitrary
  sWPT.assume (r.2.2.2.1 = (outRun P mc n k s M).1.m)
  sWPT.produce (held c P (outRun P mc n k s M).2)
  pure r

theorem outSpec_apply (n k : ℕ) (s : St F) (M : Mem F) (K : BitVec 32 × F .f32 × F .f32 × F .f32 × BitVec 1 → sProp 𝕄) :
    outSpec c P mc n k s M K
      = iprop(held c P M ∗ ∀ r : BitVec 32 × F .f32 × F .f32 × F .f32 × BitVec 1, ⌜r.2.2.2.1 = (outRun P mc n k s M).1.m⌝ -∗
          (held c P (outRun P mc n k s M).2 -∗ K r)) := rfl

theorem slt_eight : ∀ k : Fin 9, (Scalar.cmpi .slt (BitVec.ofNat 32 k.val) 8#32 = 1#1) ↔ k.val < 8 := by decide

theorem and_one (a b : BitVec 1) : Scalar.andi a b = 1#1 ↔ a = 1#1 ∧ b = 1#1 := by
  revert a b; decide

theorem addi_one (k : ℕ) (_ : k < 8) : Scalar.addi (BitVec.ofNat 32 k) 1#32 = BitVec.ofNat 32 (k + 1) := by
  simp only [BitVec.ofNat_add]; rfl

/-- The remainder loop over the earlier blocks has no trip. -/
theorem t2_trips : ∀ k : Fin 8, (k0_t2_loop (BitVec.ofNat 32 k.val)).trips = 0 := by decide +kernel

/-- The loop over the earlier blocks' kept boxes, holding the store of kept columns, ends in `crossAt`. -/
theorem cross_le (bd : Option ℕ) (E : Set ℕ) (k : ℕ) (hk : k < 8) (C : ColC F)
    (v132 : BitVec 32) (hc oc m' : F .f32) (dn : BitVec 1) (v153 v159 v165 v171 v174 : FVec F S640x1 .f32) (v176 : Vec F S1x640 .f32)
    (K : FVec F S1x640 .f32 → sProp 𝕄) :
    iprop((((c : Thread nD τ).loc cc0_scratch1) ↦{fullShare} C)
        ∗ ((((c : Thread nD τ).loc cc0_scratch1) ↦{fullShare} C) -∗
            K (crossAt (BitVec.ofNat 32 k) (chk_of_lt ⟨k, hk⟩) P C (k0_t1_loop (BitVec.ofNat 32 k)).trips)))
      ⊢ wp frame (wpE (defs₀ (F := F)) 𝒱₀ (c : Thread nD τ) bd) E
          (Scf.Loop.for (k0_t1_loop (BitVec.ofNat 32 k)) (k0_t1_ok (BitVec.ofNat 32 k) (chk_of_lt ⟨k, hk⟩)) (k0_pay41 (F := F))
            (k0_t1_body (Memref.whole cc0_stg0_0) (Memref.isWhole_whole _) k0_pay9 (Memref.whole cc0_scratch1) (Memref.isWhole_whole _)
              k0_pay11 k0_pay10 (Memref.whole cc0_scratch0) (Memref.isWhole_whole _) k0_pay12 mc (Memref.whole cc0_stg2_0) (Memref.isWhole_whole _)
              (BitVec.ofNat 32 k) hc oc m' dn (chk_of_lt ⟨k, hk⟩) v132
              (k0_pay29 (r1 (BitVec.ofNat 32 k) (chk_of_lt ⟨k, hk⟩) P)) (k0_pay30 (r2 (BitVec.ofNat 32 k) (chk_of_lt ⟨k, hk⟩) P))
              (k0_pay31 (r3 (BitVec.ofNat 32 k) (chk_of_lt ⟨k, hk⟩) P)) (k0_pay32 (r4 (BitVec.ofNat 32 k) (chk_of_lt ⟨k, hk⟩) P))
              (areaR (BitVec.ofNat 32 k) (chk_of_lt ⟨k, hk⟩) P) v153 v159 v165 v171 v174 v176)) K := by
  iintro ⟨Hc, HK⟩
  iapply (Scf.wp_for frame (wpE (defs₀ (F := F)) 𝒱₀ (c : Thread nD τ) bd) E (k0_t1_loop (BitVec.ofNat 32 k)).lb
    (k0_t1_loop (BitVec.ofNat 32 k)).ub (k0_t1_loop (BitVec.ofNat 32 k)).st (k0_t1_ok (BitVec.ofNat 32 k) (chk_of_lt ⟨k, hk⟩)) _ _
    (fun n acc => iprop(⌜acc = crossAt (BitVec.ofNat 32 k) (chk_of_lt ⟨k, hk⟩) P C n⌝ ∗ (((c : Thread nD τ).loc cc0_scratch1) ↦{fullShare} C)))
    (fun n acc => by
      unfold k0_t1_body
      simp only [Prog.lift, Prog.bind_op, Prog.bind_ret, Prog.pure_eq_ret]
      iintro ⟨%hacc, Hc⟩
      iapply (wp_load 𝒱₀ (c : Thread nD τ) bd E (m := Memref.whole cc0_scratch1) (Finset.subset_univ _)) $$ Hc; iintro Hc
      iapply (wp_load 𝒱₀ (c : Thread nD τ) bd E (m := Memref.whole cc0_scratch1) (Finset.subset_univ _)) $$ Hc; iintro Hc
      iapply (wp_load 𝒱₀ (c : Thread nD τ) bd E (m := Memref.whole cc0_scratch1) (Finset.subset_univ _)) $$ Hc; iintro Hc
      iapply (wp_load 𝒱₀ (c : Thread nD τ) bd E (m := Memref.whole cc0_scratch1) (Finset.subset_univ _)) $$ Hc; iintro Hc
      iapply (wp_load 𝒱₀ (c : Thread nD τ) bd E (m := Memref.whole cc0_scratch1) (Finset.subset_univ _)) $$ Hc; iintro Hc
      rw [wp_ret]; imodintro
      isplitr
      · ipureintro
        rw [crossAt, dif_pos (show n.val < (k0_t1_loop (BitVec.ofNat 32 k)).trips from n.isLt), hacc]
        rfl
      · iexact Hc))
  isplitl [Hc]
  · isplitr
    · ipureintro; rfl
    · iexact Hc
  · iintro %acc ⟨%hacc, Hc⟩
    rw [hacc]
    iapply HK; iexact Hc

/-- A loop without a trip returns what it starts from. -/
theorem noTrip_le {w : ℕ} (lb ub st : BitVec w) (hok : Scf.OK lb ub st) (h0 : Scf.trips lb ub st = 0) (bd : Option ℕ) (E : Set ℕ) {σ : Type}
    (init : σ) (body : Fin (Scf.trips lb ub st) → σ → Prog (TpuEff nD τ sig (Elt F) (Λ₀ F) .tc) σ) (K : σ → sProp 𝕄) :
    K init ⊢ wp frame (wpE (defs₀ (F := F)) 𝒱₀ (c : Thread nD τ) bd) E (Scf.for lb ub st hok init body) K := by
  iintro HK
  iapply (Scf.wp_for frame (wpE (defs₀ (F := F)) 𝒱₀ (c : Thread nD τ) bd) E lb ub st hok init body
    (fun _ acc => iprop(⌜acc = init⌝ ∗ K init)) (fun n _ => absurd n.isLt (by omega)))
  isplitl [HK]
  · isplitr
    · ipureintro; rfl
    · iexact HK
  · iintro %acc ⟨%hacc, HK⟩
    rw [hacc]; iexact HK

/-- The first block's selection row is stored at block 0 and left as it was at every other, before the rest `T`. -/
theorem cond_le (bd : Option ℕ) (E : Set ℕ) (k : ℕ) (hk : k < 8) (s : St F) (C : ColC F) (Z : SelC F) {β : Type}
    (T : Prog (TpuEff nD τ sig (Elt F) (Λ₀ F) .tc) β) (K : β → sProp 𝕄) :
    iprop((((c : Thread nD τ).loc cc0_scratch0) ↦{fullShare} Z)
        ∗ ((((c : Thread nD τ).loc cc0_scratch0) ↦{fullShare} stepZ (BitVec.ofNat 32 k) (chk_of_lt ⟨k, hk⟩) P s C Z) -∗
            wp frame (wpE (defs₀ (F := F)) 𝒱₀ (c : Thread nD τ) bd) E T K))
      ⊢ wp frame (wpE (defs₀ (F := F)) 𝒱₀ (c : Thread nD τ) bd) E
          (if Scalar.cmpi .ne (Scalar.extui (Scalar.cmpi .eq (BitVec.ofNat 32 k) 0#32) : BitVec 32) 0#32 = 1#1 then
            .op (.load (Memref.whole cc0_scratch0) (Rect.unit (s := S1x640) ![0, 0] S1x640.size inb_S1x640_S1x640_0_0).toLoadRect (View.loadsAt_vmem h_S1x640)) fun _ =>
              .op (.store (Val := Elt F) (e := .f32) (Memref.whole cc0_scratch0) (Rect.unit (s := S1x640) ![0, 0] S1x640.size inb_S1x640_S1x640_0_0)
                (k0_pay66 (hselR (BitVec.ofNat 32 k) (chk_of_lt ⟨k, hk⟩) P s C) (okoR (BitVec.ofNat 32 k) (chk_of_lt ⟨k, hk⟩) P C)
                  (cumoR (BitVec.ofNat 32 k) (chk_of_lt ⟨k, hk⟩) P s C) k0_pay63) Finset.univ
                (View.stores_vmem_bits_univ h_S1x640 rfl) (.inl rfl)) fun _ => T
          else T) K := by
  unfold stepZ
  split_ifs with h0
  · iintro ⟨Hz, HK⟩
    iapply (wp_load 𝒱₀ (c : Thread nD τ) bd E (m := Memref.whole cc0_scratch0) (Finset.subset_univ _)) $$ Hz; iintro Hz
    iapply (wp_store 𝒱₀ (c : Thread nD τ) bd E (m := Memref.whole cc0_scratch0)
      (r := Rect.unit (s := S1x640) ![0, 0] S1x640.size inb_S1x640_S1x640_0_0) (Mk := Finset.univ) (Finset.subset_univ _)) $$ Hz; iintro Hz
    iapply HK; iexact Hz
  · iintro ⟨Hz, HK⟩
    iapply HK; iexact Hz

set_option maxHeartbeats 2000000 in
/-- With `n` blocks to run from block `k = 8 - n`, the outer loop's label is met by its body. -/
theorem out_le (hin : InnerHalts F) (E : Set ℕ) : ∀ (n k : ℕ), n + k = 8 → ∀ (s : St F) (M : Mem F) (K : _ → sProp 𝕄),
    outSpec c P mc n k s M K
      ⊢ wp frame (wpE (defs₀ (F := F)) 𝒱₀ (c : Thread nD τ) (some (1000 * n))) E
          (defs₀ (F := F) .tc 1 ⟨Memref.whole cc0_stg0_0, Memref.isWhole_whole _, k0_pay9, Memref.whole cc0_scratch1, Memref.isWhole_whole _,
            k0_pay11, k0_pay10, Memref.whole cc0_scratch0, Memref.isWhole_whole _, k0_pay12, mc, Memref.whole cc0_stg2_0, Memref.isWhole_whole _,
            BitVec.ofNat 32 k, s.hc, s.oc, s.m, s.dn⟩) K := by
  intro n
  induction n with
  | zero =>
    intro k hk s M K
    have hk8 : k = 8 := by omega
    subst hk8
    rw [outSpec_apply]
    show _ ⊢ wp frame (wpE (defs₀ (F := F)) 𝒱₀ (c : Thread nD τ) (some (1000 * 0))) E (cc0_while1 _ _ _ _ _ _ _ _ _ _ _ _ _ _ _ _ _ _) K
    simp only [cc0_while1_eq_skeleton]; unfold cc0_while1_skel
    have ht : ¬ Scalar.andi (Scalar.cmpi .slt (BitVec.ofNat 32 8) 8#32) (Scalar.xori s.dn 1#1) = 1#1 := by
      rw [and_one]; exact fun h => absurd h.1 (by decide)
    simp only [ht, ↓reduceIte, Prog.pure_eq_ret]
    simp only [outRun]
    iintro ⟨H, Hk⟩
    rw [wp_ret]; imodintro
    iapply Hk
    · ipureintro; rfl
    · iexact H
  | succ n ih =>
    intro k hk s M K
    have hk8 : k < 8 := by omega
    rw [outSpec_apply]
    show _ ⊢ wp frame (wpE (defs₀ (F := F)) 𝒱₀ (c : Thread nD τ) (some (1000 * (n + 1)))) E (cc0_while1 _ _ _ _ _ _ _ _ _ _ _ _ _ _ _ _ _ _) K
    simp only [cc0_while1_eq_skeleton]; unfold cc0_while1_skel
    rw [outRun, dif_pos hk8]
    by_cases hd : Scalar.xori s.dn 1#1 = 1#1
    · have ht : Scalar.andi (Scalar.cmpi .slt (BitVec.ofNat 32 k) 8#32) (Scalar.xori s.dn 1#1) = 1#1 := by
        rw [and_one]; exact ⟨(slt_eight ⟨k, by omega⟩).2 hk8, hd⟩
      simp only [ht, ↓reduceIte]
      rw [if_pos hd]
      simp only [k0_part4_eq_skeleton]; unfold k0_part4_skel
      simp only [Prog.lift, Prog.bind_op, Prog.bind_ret, Prog.pure_eq_ret]
      unfold held
      iintro ⟨⟨Hp, Ho, Hz, Hc⟩, Hk⟩
      iapply (wp_assume 𝒱₀ (c : Thread nD τ) (some (1000 * (n + 1))) E (chk_of_lt ⟨k, hk8⟩))
      iapply (wp_load 𝒱₀ (c : Thread nD τ) (some (1000 * (n + 1))) E (m := Memref.whole cc0_stg0_0) (Finset.subset_univ _)) $$ Hp; iintro Hp
      iapply (wp_load 𝒱₀ (c : Thread nD τ) (some (1000 * (n + 1))) E (m := Memref.whole cc0_stg0_0) (Finset.subset_univ _)) $$ Hp; iintro Hp
      iapply (wp_load 𝒱₀ (c : Thread nD τ) (some (1000 * (n + 1))) E (m := Memref.whole cc0_stg0_0) (Finset.subset_univ _)) $$ Hp; iintro Hp
      iapply (wp_load 𝒱₀ (c : Thread nD τ) (some (1000 * (n + 1))) E (m := Memref.whole cc0_stg0_0) (Finset.subset_univ _)) $$ Hp; iintro Hp
      iapply (wp_load 𝒱₀ (c : Thread nD τ) (some (1000 * (n + 1))) E (m := Memref.whole cc0_stg0_0) (Finset.subset_univ _)) $$ Hp; iintro Hp
      simp only [k0_part5_eq_skeleton]; unfold k0_part5_skel
      simp only [Prog.lift, Prog.bind_op, Prog.bind_ret, Prog.pure_eq_ret]
      iapply (wp_load 𝒱₀ (c : Thread nD τ) (some (1000 * (n + 1))) E (m := Memref.whole cc0_stg0_0) (Finset.subset_univ _)) $$ Hp; iintro Hp
      rw [wp_bind, wp_bind]
      iapply (cross_le c P mc (some (1000 * (n + 1))) E k hk8 M.C)
      isplitl [Hc]; · iexact Hc
      iintro Hc
      rw [wp_bind]
      iapply (noTrip_le c _ _ _ _ (t2_trips ⟨k, hk8⟩) (some (1000 * (n + 1))) E)
      rw [wp_ret]; imodintro
      dsimp only
      simp only [k0_part6_eq_skeleton]; unfold k0_part6_skel
      simp only [Prog.lift, Prog.bind_op, Prog.bind_ret, Prog.pure_eq_ret]
      iapply (wp_call_spec 𝒱₀ (c : Thread nD τ) (some (1000 * (n + 1))) E
        (innerSpec (innerRes (k0_pay47 k0_pay11 (interB (BitVec.ofNat 32 k) (chk_of_lt ⟨k, hk8⟩) P) (unionB (BitVec.ofNat 32 k) (chk_of_lt ⟨k, hk8⟩) P))
          (baseR (BitVec.ofNat 32 k) (chk_of_lt ⟨k, hk8⟩) P M.C) fuel
          (innerStart (baseR (BitVec.ofNat 32 k) (chk_of_lt ⟨k, hk8⟩) P M.C) (interB (BitVec.ofNat 32 k) (chk_of_lt ⟨k, hk8⟩) P)
            (unionB (BitVec.ofNat 32 k) (chk_of_lt ⟨k, hk8⟩) P)))) fuel
        (fun u hu => by cases hu; show 642 < 1000 * (n + 1); omega)
        (inner_le c (BitVec.ofNat 32 k) (chk_of_lt ⟨k, hk8⟩) _ _ E fuel _ (hin _ _ _)))
      rw [innerSpec_apply]
      simp only [Prog.lift, Prog.bind_op, Prog.bind_ret, Prog.pure_eq_ret]
      iapply (wp_load 𝒱₀ (c : Thread nD τ) (some (1000 * (n + 1))) E (m := Memref.whole cc0_scratch1) (Finset.subset_univ _)) $$ Hc; iintro Hc
      iapply (wp_store 𝒱₀ (c : Thread nD τ) (some (1000 * (n + 1))) E (m := Memref.whole cc0_scratch1) (r := Rect.unit (s := S5120x8) (k0_off17 _) S640x1.size (k0_off17_inb _ (chk_of_lt ⟨k, hk8⟩))) (Mk := Finset.univ) (Finset.subset_univ _)) $$ Hc; iintro Hc
      iapply (wp_load 𝒱₀ (c : Thread nD τ) (some (1000 * (n + 1))) E (m := Memref.whole cc0_scratch1) (Finset.subset_univ _)) $$ Hc; iintro Hc
      iapply (wp_store 𝒱₀ (c : Thread nD τ) (some (1000 * (n + 1))) E (m := Memref.whole cc0_scratch1) (r := Rect.unit (s := S5120x8) (k0_off18 _) S640x1.size (k0_off18_inb _ (chk_of_lt ⟨k, hk8⟩))) (Mk := Finset.univ) (Finset.subset_univ _)) $$ Hc; iintro Hc
      iapply (wp_load 𝒱₀ (c : Thread nD τ) (some (1000 * (n + 1))) E (m := Memref.whole cc0_scratch1) (Finset.subset_univ _)) $$ Hc; iintro Hc
      iapply (wp_store 𝒱₀ (c : Thread nD τ) (some (1000 * (n + 1))) E (m := Memref.whole cc0_scratch1) (r := Rect.unit (s := S5120x8) (k0_off19 _) S640x1.size (k0_off19_inb _ (chk_of_lt ⟨k, hk8⟩))) (Mk := Finset.univ) (Finset.subset_univ _)) $$ Hc; iintro Hc
      iapply (wp_load 𝒱₀ (c : Thread nD τ) (some (1000 * (n + 1))) E (m := Memref.whole cc0_scratch1) (Finset.subset_univ _)) $$ Hc; iintro Hc
      iapply (wp_store 𝒱₀ (c : Thread nD τ) (some (1000 * (n + 1))) E (m := Memref.whole cc0_scratch1) (r := Rect.unit (s := S5120x8) (k0_off20 _) S640x1.size (k0_off20_inb _ (chk_of_lt ⟨k, hk8⟩))) (Mk := Finset.univ) (Finset.subset_univ _)) $$ Hc; iintro Hc
      simp only [k0_part7_eq_skeleton]; unfold k0_part7_skel
      simp only [Prog.lift, Prog.bind_op, Prog.bind_ret, Prog.pure_eq_ret]
      iapply (wp_load 𝒱₀ (c : Thread nD τ) (some (1000 * (n + 1))) E (m := Memref.whole cc0_scratch1) (Finset.subset_univ _)) $$ Hc; iintro Hc
      iapply (wp_store 𝒱₀ (c : Thread nD τ) (some (1000 * (n + 1))) E (m := Memref.whole cc0_scratch1) (r := Rect.unit (s := S5120x8) (k0_off21 _) S640x1.size (k0_off21_inb _ (chk_of_lt ⟨k, hk8⟩))) (Mk := Finset.univ) (Finset.subset_univ _)) $$ Hc; iintro Hc
      simp only [k0_part8_eq_skeleton]; unfold k0_part8_skel
      simp only [Prog.lift, Prog.bind_op, Prog.bind_ret, Prog.pure_eq_ret]
      rw [wp_bind]
      iapply (cond_le c P (some (1000 * (n + 1))) E k hk8 s M.C M.Z)
      isplitl [Hz]; · iexact Hz
      iintro Hz
      iapply (wp_load 𝒱₀ (c : Thread nD τ) (some (1000 * (n + 1))) E (m := Memref.whole cc0_stg0_0) (Finset.subset_univ _)) $$ Hp; iintro Hp
      iapply (wp_load 𝒱₀ (c : Thread nD τ) (some (1000 * (n + 1))) E (m := Memref.whole cc0_stg0_0) (Finset.subset_univ _)) $$ Hp; iintro Hp
      iapply (wp_load 𝒱₀ (c : Thread nD τ) (some (1000 * (n + 1))) E (m := Memref.whole cc0_stg0_0) (Finset.subset_univ _)) $$ Hp; iintro Hp
      rw [wp_ret]; imodintro
      dsimp only
      simp only [k0_part9_eq_skeleton]; unfold k0_part9_skel
      simp only [Prog.lift, Prog.bind_op, Prog.bind_ret, Prog.pure_eq_ret]
      iapply (wp_load 𝒱₀ (c : Thread nD τ) (some (1000 * (n + 1))) E (m := Memref.whole cc0_stg0_0) (Finset.subset_univ _)) $$ Hp; iintro Hp
      iapply (wp_load 𝒱₀ (c : Thread nD τ) (some (1000 * (n + 1))) E (m := Memref.whole cc0_stg0_0) (Finset.subset_univ _)) $$ Hp; iintro Hp
      iapply (wp_load 𝒱₀ (c : Thread nD τ) (some (1000 * (n + 1))) E (m := Memref.whole cc0_stg0_0) (Finset.subset_univ _)) $$ Hp; iintro Hp
      iapply (wp_load 𝒱₀ (c : Thread nD τ) (some (1000 * (n + 1))) E (m := Memref.whole cc0_stg2_0) (Finset.subset_univ _)) $$ Ho; iintro Ho
      iapply (wp_load 𝒱₀ (c : Thread nD τ) (some (1000 * (n + 1))) E (m := Memref.whole cc0_stg2_0) (Finset.subset_univ _)) $$ Ho; iintro Ho
      iapply (wp_store 𝒱₀ (c : Thread nD τ) (some (1000 * (n + 1))) E (m := Memref.whole cc0_stg2_0) (r := Rect.unit (s := S32x8) ![0, 0] S32x1.size inb_S32x8_S32x1_0_0) (Mk := Finset.univ) (Finset.subset_univ _)) $$ Ho; iintro Ho
      iapply (wp_load 𝒱₀ (c : Thread nD τ) (some (1000 * (n + 1))) E (m := Memref.whole cc0_stg2_0) (Finset.subset_univ _)) $$ Ho; iintro Ho
      iapply (wp_load 𝒱₀ (c : Thread nD τ) (some (1000 * (n + 1))) E (m := Memref.whole cc0_stg2_0) (Finset.subset_univ _)) $$ Ho; iintro Ho
      iapply (wp_store 𝒱₀ (c : Thread nD τ) (some (1000 * (n + 1))) E (m := Memref.whole cc0_stg2_0) (r := Rect.unit (s := S32x8) ![0, 1] S32x1.size inb_S32x8_S32x1_0_1) (Mk := Finset.univ) (Finset.subset_univ _)) $$ Ho; iintro Ho
      iapply (wp_load 𝒱₀ (c : Thread nD τ) (some (1000 * (n + 1))) E (m := Memref.whole cc0_stg2_0) (Finset.subset_univ _)) $$ Ho; iintro Ho
      simp only [k0_part10_eq_skeleton]; unfold k0_part10_skel
      simp only [Prog.lift, Prog.bind_op, Prog.bind_ret, Prog.pure_eq_ret]
      iapply (wp_load 𝒱₀ (c : Thread nD τ) (some (1000 * (n + 1))) E (m := Memref.whole cc0_stg2_0) (Finset.subset_univ _)) $$ Ho; iintro Ho
      iapply (wp_store 𝒱₀ (c : Thread nD τ) (some (1000 * (n + 1))) E (m := Memref.whole cc0_stg2_0) (r := Rect.unit (s := S32x8) ![0, 2] S32x1.size inb_S32x8_S32x1_0_2) (Mk := Finset.univ) (Finset.subset_univ _)) $$ Ho; iintro Ho
      iapply (wp_load 𝒱₀ (c : Thread nD τ) (some (1000 * (n + 1))) E (m := Memref.whole cc0_stg2_0) (Finset.subset_univ _)) $$ Ho; iintro Ho
      iapply (wp_load 𝒱₀ (c : Thread nD τ) (some (1000 * (n + 1))) E (m := Memref.whole cc0_stg2_0) (Finset.subset_univ _)) $$ Ho; iintro Ho
      iapply (wp_store 𝒱₀ (c : Thread nD τ) (some (1000 * (n + 1))) E (m := Memref.whole cc0_stg2_0) (r := Rect.unit (s := S32x8) ![0, 3] S32x1.size inb_S32x8_S32x1_0_3) (Mk := Finset.univ) (Finset.subset_univ _)) $$ Ho; iintro Ho
      iapply (wp_load 𝒱₀ (c : Thread nD τ) (some (1000 * (n + 1))) E (m := Memref.whole cc0_stg2_0) (Finset.subset_univ _)) $$ Ho; iintro Ho
      iapply (wp_load 𝒱₀ (c : Thread nD τ) (some (1000 * (n + 1))) E (m := Memref.whole cc0_stg2_0) (Finset.subset_univ _)) $$ Ho; iintro Ho
      iapply (wp_store 𝒱₀ (c : Thread nD τ) (some (1000 * (n + 1))) E (m := Memref.whole cc0_stg2_0) (r := Rect.unit (s := S32x8) ![0, 4] S32x1.size inb_S32x8_S32x1_0_4) (Mk := Finset.univ) (Finset.subset_univ _)) $$ Ho; iintro Ho
      iapply (wp_load 𝒱₀ (c : Thread nD τ) (some (1000 * (n + 1))) E (m := Memref.whole cc0_stg2_0) (Finset.subset_univ _)) $$ Ho; iintro Ho
      iapply (wp_load 𝒱₀ (c : Thread nD τ) (some (1000 * (n + 1))) E (m := Memref.whole cc0_stg2_0) (Finset.subset_univ _)) $$ Ho; iintro Ho
      iapply (wp_store 𝒱₀ (c : Thread nD τ) (some (1000 * (n + 1))) E (m := Memref.whole cc0_stg2_0) (r := Rect.unit (s := S32x8) ![0, 5] S32x1.size inb_S32x8_S32x1_0_5) (Mk := Finset.univ) (Finset.subset_univ _)) $$ Ho; iintro Ho
      rw [addi_one k hk8]
      iapply (wp_call_spec 𝒱₀ (c : Thread nD τ) (some (1000 * (n + 1))) E
        (outSpec c P mc n (k + 1) (stepS (BitVec.ofNat 32 k) (chk_of_lt ⟨k, hk8⟩) P s M.C)
          (stepM (BitVec.ofNat 32 k) (chk_of_lt ⟨k, hk8⟩) P mc s M)) (1000 * n)
        (fun u hu => by cases hu; show 1000 * n < 1000 * (n + 1); omega)
        (ih (k + 1) (by omega) _ _))
      rw [outSpec_apply]; unfold held
      isplitl [Hp Ho Hz Hc]
      · isplitl [Hp]; · iexact Hp
        isplitl [Ho]; · iexact Ho
        isplitl [Hz]; · iexact Hz
        iexact Hc
      iintro %r %hr ⟨Hp, Ho, Hz, Hc⟩
      rw [wp_ret]; imodintro
      iapply Hk
      · ipureintro; exact hr
      · isplitl [Hp]; · iexact Hp
        isplitl [Ho]; · iexact Ho
        isplitl [Hz]; · iexact Hz
        iexact Hc
    · have ht : ¬ Scalar.andi (Scalar.cmpi .slt (BitVec.ofNat 32 k) 8#32) (Scalar.xori s.dn 1#1) = 1#1 := by
        rw [and_one]; exact fun h => hd h.2
      simp only [ht, ↓reduceIte, Prog.pure_eq_ret]
      rw [if_neg hd]
      iintro ⟨H, Hk⟩
      rw [wp_ret]; imodintro
      iapply Hk
      · ipureintro; rfl
      · iexact H

end Outer

/-! ### The whole body -/

set_option maxHeartbeats 2000000 in
/-- The kernel body, holding the four staging buffers and the two scratch buffers whole: it leaves the two inputs as they
    were, the result rows at `kerO`, the result flags at `kerV` and the scratch buffers at something. -/
theorem body_le (hin : InnerHalts F) (c : Dev nD) (E : Set ℕ) (P : PtC F) (Mc : McC F) (O : OdC F) (V : OvC F) (Z : SelC F) (C : ColC F)
    (K : PUnit → sProp 𝕄) :
    iprop(((((c : Thread nD τ).loc cc0_stg0_0) ↦{fullShare} P) ∗ (((c : Thread nD τ).loc cc0_stg1_0) ↦{fullShare} Mc)
        ∗ (((c : Thread nD τ).loc cc0_stg2_0) ↦{fullShare} O) ∗ (((c : Thread nD τ).loc cc0_stg3_0) ↦{fullShare} V)
        ∗ (((c : Thread nD τ).loc cc0_scratch0) ↦{fullShare} Z) ∗ (((c : Thread nD τ).loc cc0_scratch1) ↦{fullShare} C))
      ∗ (((((c : Thread nD τ).loc cc0_stg0_0) ↦{fullShare} P) ∗ (((c : Thread nD τ).loc cc0_stg1_0) ↦{fullShare} Mc)
        ∗ (((c : Thread nD τ).loc cc0_stg2_0) ↦{fullShare} kerO P Mc O Z C) ∗ (((c : Thread nD τ).loc cc0_stg3_0) ↦{fullShare} kerV P Mc O Z C V)
        ∗ (((c : Thread nD τ).loc cc0_scratch0) ↦{fullShare} (outEnd P Mc O Z C).2.Z)
        ∗ (((c : Thread nD τ).loc cc0_scratch1) ↦{fullShare} (outEnd P Mc O Z C).2.C)) -∗ K ⟨⟩))
      ⊢ wp frame (wpE (defs₀ (F := F)) 𝒱₀ (c : Thread nD τ) none) E
          (cc0__nms_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)) K := by
  simp only [cc0__nms_body_eq_skeleton]; unfold cc0__nms_body_skel
  simp only [k0_part1_eq_skeleton]; unfold k0_part1_skel
  simp only [Prog.lift, Prog.bind_op, Prog.bind_ret, Prog.pure_eq_ret]
  iintro ⟨⟨Hp, Hm, Ho, Hv, Hz, Hc⟩, Hk⟩
  iapply (wp_load 𝒱₀ (c : Thread nD τ) none E (m := Memref.whole cc0_stg2_0) (Finset.subset_univ _)) $$ Ho; iintro Ho
  iapply (wp_store 𝒱₀ (c : Thread nD τ) none E (m := Memref.whole cc0_stg2_0) (r := Rect.unit (s := S32x8) ![0, 0] S32x8.size inb_S32x8_S32x8_0_0) (Mk := Finset.univ) (Finset.subset_univ _)) $$ Ho; iintro Ho
  iapply (wp_load 𝒱₀ (c : Thread nD τ) none E (m := Memref.whole cc0_stg1_0) (Finset.subset_univ _)) $$ Hm; iintro Hm
  have hT := out_le c P (mcOf Mc) hin E 8 0 rfl St.init ⟨initO O, Z, C⟩
  dsimp only [St.init, mcOf, Scalar.ofBits] at hT
  iapply (wp_call_spec 𝒱₀ (c : Thread nD τ) none E (outSpec c P (mcOf Mc) 8 0 St.init ⟨initO O, Z, C⟩) (1000 * 8)
    (fun u hu => nomatch hu) hT)
  rw [outSpec_apply]; unfold held
  isplitl [Hp Ho Hz Hc]
  · isplitl [Hp]; · iexact Hp
    isplitl [Ho]; · iexact Ho
    isplitl [Hz]; · iexact Hz
    iexact Hc
  iintro %r %hr ⟨Hp, Ho, Hz, Hc⟩
  obtain ⟨q0, q1, q2, q3, q4⟩ := r
  simp only at hr
  subst hr
  simp only [Prog.lift, Prog.bind_op, Prog.bind_ret, Prog.pure_eq_ret]
  iapply (wp_load 𝒱₀ (c : Thread nD τ) none E (m := Memref.whole cc0_scratch0) (Finset.subset_univ _)) $$ Hz; iintro Hz
  simp only [k0_part2_eq_skeleton]; unfold k0_part2_skel
  simp only [Prog.lift, Prog.bind_op, Prog.bind_ret, Prog.pure_eq_ret]
  iapply (wp_load 𝒱₀ (c : Thread nD τ) none E (m := Memref.whole cc0_stg0_0) (Finset.subset_univ _)) $$ Hp; iintro Hp
  iapply (wp_load 𝒱₀ (c : Thread nD τ) none E (m := Memref.whole cc0_stg0_0) (Finset.subset_univ _)) $$ Hp; iintro Hp
  iapply (wp_load 𝒱₀ (c : Thread nD τ) none E (m := Memref.whole cc0_stg0_0) (Finset.subset_univ _)) $$ Hp; iintro Hp
  iapply (wp_load 𝒱₀ (c : Thread nD τ) none E (m := Memref.whole cc0_stg0_0) (Finset.subset_univ _)) $$ Hp; iintro Hp
  iapply (wp_load 𝒱₀ (c : Thread nD τ) none E (m := Memref.whole cc0_stg0_0) (Finset.subset_univ _)) $$ Hp; iintro Hp
  iapply (wp_load 𝒱₀ (c : Thread nD τ) none E (m := Memref.whole cc0_stg0_0) (Finset.subset_univ _)) $$ Hp; iintro Hp
  iapply (wp_load 𝒱₀ (c : Thread nD τ) none E (m := Memref.whole cc0_stg2_0) (Finset.subset_univ _)) $$ Ho; iintro Ho
  iapply (wp_load 𝒱₀ (c : Thread nD τ) none E (m := Memref.whole cc0_stg2_0) (Finset.subset_univ _)) $$ Ho; iintro Ho
  iapply (wp_store 𝒱₀ (c : Thread nD τ) none E (m := Memref.whole cc0_stg2_0) (r := Rect.unit (s := S32x8) ![0, 0] S32x1.size inb_S32x8_S32x1_0_0) (Mk := Finset.univ) (Finset.subset_univ _)) $$ Ho; iintro Ho
  simp only [k0_part3_eq_skeleton]; unfold k0_part3_skel
  simp only [Prog.lift, Prog.bind_op, Prog.bind_ret, Prog.pure_eq_ret]
  iapply (wp_load 𝒱₀ (c : Thread nD τ) none E (m := Memref.whole cc0_stg2_0) (Finset.subset_univ _)) $$ Ho; iintro Ho
  iapply (wp_load 𝒱₀ (c : Thread nD τ) none E (m := Memref.whole cc0_stg2_0) (Finset.subset_univ _)) $$ Ho; iintro Ho
  iapply (wp_store 𝒱₀ (c : Thread nD τ) none E (m := Memref.whole cc0_stg2_0) (r := Rect.unit (s := S32x8) ![0, 1] S32x1.size inb_S32x8_S32x1_0_1) (Mk := Finset.univ) (Finset.subset_univ _)) $$ Ho; iintro Ho
  iapply (wp_load 𝒱₀ (c : Thread nD τ) none E (m := Memref.whole cc0_stg2_0) (Finset.subset_univ _)) $$ Ho; iintro Ho
  iapply (wp_load 𝒱₀ (c : Thread nD τ) none E (m := Memref.whole cc0_stg2_0) (Finset.subset_univ _)) $$ Ho; iintro Ho
  iapply (wp_store 𝒱₀ (c : Thread nD τ) none E (m := Memref.whole cc0_stg2_0) (r := Rect.unit (s := S32x8) ![0, 2] S32x1.size inb_S32x8_S32x1_0_2) (Mk := Finset.univ) (Finset.subset_univ _)) $$ Ho; iintro Ho
  iapply (wp_load 𝒱₀ (c : Thread nD τ) none E (m := Memref.whole cc0_stg2_0) (Finset.subset_univ _)) $$ Ho; iintro Ho
  iapply (wp_load 𝒱₀ (c : Thread nD τ) none E (m := Memref.whole cc0_stg2_0) (Finset.subset_univ _)) $$ Ho; iintro Ho
  iapply (wp_store 𝒱₀ (c : Thread nD τ) none E (m := Memref.whole cc0_stg2_0) (r := Rect.unit (s := S32x8) ![0, 3] S32x1.size inb_S32x8_S32x1_0_3) (Mk := Finset.univ) (Finset.subset_univ _)) $$ Ho; iintro Ho
  iapply (wp_load 𝒱₀ (c : Thread nD τ) none E (m := Memref.whole cc0_stg2_0) (Finset.subset_univ _)) $$ Ho; iintro Ho
  iapply (wp_load 𝒱₀ (c : Thread nD τ) none E (m := Memref.whole cc0_stg2_0) (Finset.subset_univ _)) $$ Ho; iintro Ho
  iapply (wp_store 𝒱₀ (c : Thread nD τ) none E (m := Memref.whole cc0_stg2_0) (r := Rect.unit (s := S32x8) ![0, 4] S32x1.size inb_S32x8_S32x1_0_4) (Mk := Finset.univ) (Finset.subset_univ _)) $$ Ho; iintro Ho
  iapply (wp_load 𝒱₀ (c : Thread nD τ) none E (m := Memref.whole cc0_stg2_0) (Finset.subset_univ _)) $$ Ho; iintro Ho
  iapply (wp_load 𝒱₀ (c : Thread nD τ) none E (m := Memref.whole cc0_stg2_0) (Finset.subset_univ _)) $$ Ho; iintro Ho
  iapply (wp_store 𝒱₀ (c : Thread nD τ) none E (m := Memref.whole cc0_stg2_0) (r := Rect.unit (s := S32x8) ![0, 5] S32x1.size inb_S32x8_S32x1_0_5) (Mk := Finset.univ) (Finset.subset_univ _)) $$ Ho; iintro Ho
  iapply (wp_load 𝒱₀ (c : Thread nD τ) none E (m := Memref.whole cc0_stg3_0) (Finset.subset_univ _)) $$ Hv; iintro Hv
  iapply (wp_store 𝒱₀ (c : Thread nD τ) none E (m := Memref.whole cc0_stg3_0) (r := Rect.unit (s := S32x1) ![0, 0] S32x1.size inb_S32x1_S32x1_0_0) (Mk := Finset.univ) (Finset.subset_univ _)) $$ Hv; iintro Hv
  rw [wp_ret]; imodintro
  iapply Hk
  isplitl [Hp]; · iexact Hp
  isplitl [Hm]; · iexact Hm
  isplitl [Ho]; · iexact Ho
  isplitl [Hv]; · iexact Hv
  isplitl [Hz]; · iexact Hz
  iexact Hc

end Cert.Proof.PI

end
-- ==== Proof.PI.Run.lean ====
/-
  The run of the whole program: the host lines before the kernel, the kernel's one launch, the host lines after it. What
  every final state holds is said by `FramePost`: the table and the shift untouched, the two results at what the kernel
  body leaves, every other buffer at what the host lines make of these.
-/
module

public import proofs.«01_k».proof.Proof.PI.Fresh
public import proofs.«01_k».proof.Proof.PI.Body
public import proofs.«01_k».proof.Proof.Gen.KernelIdeal.Points
public import Idealize.ShloMosaic.Lib.Pipeline.FrameSuffix
public import Idealize.ShloMosaic.Lib.Pipeline.ValueKit
public import Idealize.ShloMosaic.Lib.StableHlo.RunRead

@[expose] public section

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The host lines -/

/-- The host lines before the launch. -/
abbrev pre : List (List (HloOp τ sig (Elt F))) := [hostOps0, hostOps0_1, hostOps0_2, hostOps0_3, hostOps0_4]
/-- The host lines after the launch. -/
abbrev post : List (List (HloOp τ sig (Elt F))) := [hostOps1, hostOps1_1, hostOps1_2]

theorem pre_sub : (pre (F := F)).Forall fun ops => ops.Forall fun op => op.bufs ⊆ StableHlo.tcRefs τ sig :=
  ⟨hostOps0_sub, hostOps0_1_sub, hostOps0_2_sub, hostOps0_3_sub, hostOps0_4_sub⟩

theorem post_sub : (post (F := F)).Forall fun ops => ops.Forall fun op => op.bufs ⊆ StableHlo.tcRefs τ sig :=
  ⟨hostOps1_sub, hostOps1_1_sub, hostOps1_2_sub⟩

theorem pre_fresh : (pre (F := F)).Forall fun ops => ops.Forall fun op => op.fresh = ∅ := by
  simp only [List.Forall]
  refine ⟨?_, ?_, ?_, ?_, ?_⟩ <;> repeat' constructor

theorem post_fresh : (post (F := F)).Forall fun ops => ops.Forall fun op => op.fresh = ∅ := by
  simp only [List.Forall]
  refine ⟨?_, ?_, ?_⟩ <;> repeat' constructor

/-- What the buffers of core `c` hold when the kernel is launched. -/
def V₀ (c : Dev nD) : Valuation τ sig (Elt F) := StableHlo.after pre.flatten fun b => m (c, b)

/-- The same at a reference. -/
abbrev V (c : Dev nD) (b : Ref sig .tc) : Buf (Elt F) ((c : Thread nD τ).loc b) := V₀ m c (Proc.devRef .tc b)

/-! ### The kernel's data -/

/-- The table as the kernel's body finds it. -/
def tab (c : Dev nD) : PtC F := (win0_0.blk t0_0).view.read (Elt F) (V m c main_v28)
/-- The shift as the kernel's body finds it. -/
def shf (c : Dev nD) : McC F := (win0_1.blk t0_0).view.read (Elt F) (V m c main_v29)

/-- The result rows: what the body leaves, whatever its buffers held. -/
def outO (c : Dev nD) : OdC F := kerO (tab m c) (shf m c) k0_pay8 (fun _ => Scalar.ofBits .f32 0x00000000#32) fun _ => Scalar.ofBits .f32 0x00000000#32
/-- The result flags. -/
def outV (c : Dev nD) : OvC F :=
  kerV (tab m c) (shf m c) k0_pay8 (fun _ => Scalar.ofBits .f32 0x00000000#32) (fun _ => Scalar.ofBits .f32 0x00000000#32) fun _ => Scalar.ofBits .f32 0x00000000#32

/-- The launch's data on core `c`. -/
def dats (_ : Fin 1) (c : Dev nD) : Dat τ (Elt F) Unit ℕ (UR sig nD τ) ℕ (cfg0 (F := F)) c where
  A w := V m c (Pipeline.arrRef spec0 w)
  after w _ := match w with
    | ⟨0, _⟩ => tab m c
    | ⟨1, _⟩ => shf m c
    | ⟨2, _⟩ => outO m c
    | ⟨3, _⟩ => outV m c
  Φ _ := Pipeline.ΦA spec0 c
  q _ := fullShare
  owed _ := 0

theorem after_0 (c : Dev nD) (t : Fin (cfg0 (F := F)).N) : (dats m 0 c).after 0 t = tab m c := by dsimp only [dats]; rfl
theorem after_1 (c : Dev nD) (t : Fin (cfg0 (F := F)).N) : (dats m 0 c).after 1 t = shf m c := by dsimp only [dats]; rfl
theorem after_2 (c : Dev nD) (t : Fin (cfg0 (F := F)).N) : (dats m 0 c).after 2 t = outO m c := by dsimp only [dats]; rfl
theorem after_3 (c : Dev nD) (t : Fin (cfg0 (F := F)).N) : (dats m 0 c).after 3 t = outV m c := by dsimp only [dats]; rfl

theorem before_0 (c : Dev nD) (d) : (dats m 0 c).before 0 t0_0 d = tab m c := by
  rw [Dat.before_fetched _ _ _ (fetch0_0 t0_0)]; rfl
theorem before_1 (c : Dev nD) (d) : (dats m 0 c).before 1 t0_0 d = shf m c := by
  rw [Dat.before_fetched _ _ _ (fetch0_1 t0_0)]; rfl

theorem body_obligation (H : InnerHalts F) (c : Dev nD) : BodyObligation (dats (F := F) m 0 c) (defs₀ (F := F)) 𝒱₀ () Set.univ := fun t => by
  obtain rfl : t = t0_0 := fin_N0 t
  rw [bigSep_W0, bigSep_W0]
  sl_whnfR [defs₀, Defs.onTc]
  simp only [owns_whole_eq]
  simp only [show stage0_0 0 = Memref.whole cc0_stg0_0 from rfl, show stage0_1 0 = Memref.whole cc0_stg1_0 from rfl,
    show stage0_2 0 = Memref.whole cc0_stg2_0 from rfl, show stage0_3 0 = Memref.whole cc0_stg3_0 from rfl]
  rw [after_0, after_1, after_2, after_3, show (dats m 0 c).Φ t0_0.succ = Pipeline.ΦA spec0 c from rfl,
    show (dats m 0 c).Φ t0_0.castSucc = Pipeline.ΦA spec0 c from rfl,
    show (dats m 0 c).owesAt () t0_0.succ = (dats m 0 c).owesAt () t0_0.castSucc from rfl]
  unfold Pipeline.ΦA
  rw [scopedRest0_eq]
  iintro ⟨⟨⟨⟨%Z, Hz⟩, ⟨%C, Hc⟩⟩, Hg⟩, Howes, ⟨%d0, %f0, %h0, H0⟩, ⟨%d1, %f1, %h1, H1⟩, ⟨%d2, %O, -, H2⟩, ⟨%d3, %V, -, H3⟩⟩
  obtain rfl : f0 = tab m c := h0.trans (before_0 m c d0)
  obtain rfl : f1 = shf m c := h1.trans (before_1 m c d1)
  iapply (body_le H c Set.univ (tab m c) (shf m c) O V Z C _)
  isplitl [Hz Hc H0 H1 H2 H3]
  · isplitl [H0]; · iexact H0
    isplitl [H1]; · iexact H1
    isplitl [H2]; · iexact H2
    isplitl [H3]; · iexact H3
    isplitl [Hz]; · iexact Hz
    iexact Hc
  iintro ⟨H0, H1, H2, H3, Hz, Hc⟩
  isplitl [Hz Hc Hg]
  · isplitl [Hz Hc]
    · isplitl [Hz]
      · iexists _; iexact Hz
      iexists _; iexact Hc
    iexact Hg
  isplitl [Howes]; · iexact Howes
  isplitl [H0]
  · iexists _; isplitr; · (ipureintro; rfl)
    iexact H0
  isplitl [H1]
  · iexists _; isplitr; · (ipureintro; rfl)
    iexact H1
  isplitl [H2]
  · iexists _; isplitr; swap; · iexact H2
    ipureintro; exact kerO_congr ..
  iexists _; isplitr; swap; · iexact H3
  ipureintro; exact kerV_congr ..

/-! ### The run -/

theorem hmain : Pipeline.HMainK (Ix := Unit) (Name := ℕ) (U := UR sig nD τ) (Lvl := ℕ) cfgs (0 : Fin 1) (defs₀ (F := F)) 𝒱₀ m main
    (fun c b => V₀ m c (Proc.devRef .tc b)) (fun _ => Pipeline.chain (post.map StableHlo.seq)) :=
  Pipeline.hmain_around cfgs (0 : Fin 1) defs₀ 𝒱₀ m main pre post pre_sub pre_fresh main_chain

theorem post_bufs : ∀ ops ∈ (post (F := F)), ∀ op ∈ ops, op.bufs ⊆ Pipeline.tailRefs sig Pipeline.Prefetch.none spec0 := fun ops h op h' =>
  Pipeline.sub_tailRefs _ _ op (List.forall_iff_forall_mem.1 (List.forall_iff_forall_mem.1 post_sub ops h) op h') fun k => k.elim0

theorem post_keep : ∀ ops ∈ (post (F := F)), ∀ op ∈ ops, ∀ w, Proc.devRef .tc (Pipeline.arrRef spec0 w) ∉ op.writes := by
  simp only [List.forall_mem_cons, List.forall_mem_nil, List.not_mem_nil, forall_false, forall_const, implies_true, and_true,
    StableHlo.unary_writes, StableHlo.binary_writes, StableHlo.nullary_writes, StableHlo.reshape_writes, Finset.mem_singleton]
  refine ⟨⟨?_, ?_, ?_⟩, ?_, ?_, ?_, ?_, ?_, ?_, ?_⟩ <;> exact fun w => StableHlo.devRef_ne_of_ne (by revert w; decide)

set_option backward.isDefEq.respectTransparency.types false in
/-- At the compiled mesh, for any float values whose flags are told apart, from any memory with zero counters: every weakly
    fair execution of the program terminates, and every final state has the kernel's arrays at what the data say, every
    other buffer at what the host lines leave, and every semaphore counter at zero. -/
theorem run_main (H : InnerHalts F) : θ_run defs (onTc (τ := τ) (main (F := F))) (s₀ m ρ)
    (fun r => Pipeline.FramePost cfgs (dats m) 0 (Pipeline.afterTail₀ cfgs (dats m) 0 (V₀ m) post) r ∧ r.2.sem = fun _ => 0) :=
  Pipeline.θ_run_frame_around (Q' := _) cfgs (dats m) (0 : Fin 1) launch0 defs₀ 𝒱₀ m ρ main
    (hbody := fun c => (body_obligation m H c).loose) (hshare := fun c => (dats m 0 c).share_full fun _ => rfl)
    (howed := fun _ _ => rfl) (V₀ := V₀ m) (opss := post) (hsub := post_bufs)
    (hfresh := fun ops h op h' => List.forall_iff_forall_mem.1 (List.forall_iff_forall_mem.1 post_fresh ops h) op h')
    (hkeep := post_keep) (hmain := hmain m) (hA := fun _ _ => rfl) (hΦ := fun _ _ => rfl)

/-! ### The arguments -/

/-- The three arguments. -/
def isArg (b : Ref sig .tc) : Prop := b = main_arg0 ∨ b = main_arg1 ∨ b = main_arg2

/-- An argument ends as it was launched. -/
theorem arg_end (c : Dev nD) (b : Ref sig .tc) (hb : isArg b) :
    Pipeline.afterTail₀ cfgs (dats m) 0 (V₀ m) post c b = m ((c : Thread nD τ).loc b) := by
  unfold Pipeline.afterTail₀
  have h1 : StableHlo.after (post (F := F)).flatten (Pipeline.withArrays spec0 c (V₀ m c) fun w => (dats m 0 c).arrAt w (cfg0 (F := F)).N) (Proc.devRef .tc b)
      = Pipeline.withArrays spec0 c (V₀ m c) (fun w => (dats m 0 c).arrAt w (cfg0 (F := F)).N) (Proc.devRef .tc b) := by
    rcases hb with rfl | rfl | rfl <;> simp only [post, List.flatten, List.cons_append, List.nil_append] <;> after_reads_simp
  have h2 : V₀ m c (Proc.devRef .tc b) = m ((c : Thread nD τ).loc b) := by
    unfold V₀
    rcases hb with rfl | rfl | rfl <;> simp only [pre, List.flatten, List.cons_append, List.nil_append] <;> after_reads_simp <;> rfl
  refine Eq.trans h1 (Eq.trans (Pipeline.withArrays_of_ne spec0 c (V₀ m c) _ b ?_) h2)
  rcases hb with rfl | rfl | rfl <;> decide

theorem arg_rest (b : Ref sig .tc) (hb : isArg b) : b ∈ Pipeline.restRefs sig spec0 := by
  rcases hb with rfl | rfl | rfl <;> decide

/-- In a final state the arguments hold what they held. -/
theorem args_of_post (r : PUnit × MemSt nD τ sig (Elt F))
    (h : Pipeline.FramePost cfgs (dats m) 0 (Pipeline.afterTail₀ cfgs (dats m) 0 (V₀ m) post) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  have k : ∀ b, isArg b → r.2.mem ((c.tc : Thread nD τ).loc b) = m ((c.tc : Thread nD τ).loc b) := fun b hb =>
    ((h c).2 b (arg_rest b hb)).trans (arg_end m c b hb)
  ⟨k main_arg0 (.inl rfl), k main_arg1 (.inr (.inl rfl)), k main_arg2 (.inr (.inr rfl))⟩

/-- The program runs, its arguments end unchanged and every semaphore counter ends at zero. -/
theorem frame (H : InnerHalts F) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨args_of_post m r h.1, h.2⟩) (run_main m ρ H)

end Cert.Proof.PI

end
-- ==== Proof.RI.Frame.lean ====
/-
  The reference runs: its host lines and its one counted loop terminate, no line writes an argument, and it declares
  no semaphore, so none can be left raised.
-/
module

public import proofs.«01_k».proof.Proof.Gen.ReferenceIdeal.Run
public import Idealize.ShloMosaic.Lib.Quiescent

@[expose] public section

noncomputable section

namespace Cert.Proof.RI

open Cert.ReferenceIdeal Cert.ReferenceIdeal.Gen Cert.ReferenceIdeal.Value
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- A reference is an argument of the program. -/
def isArg (b : Ref sig .tc) : Prop := b = main_arg0 ∨ b = main_arg1 ∨ b = main_arg2

/-- The lines before the loop write no argument. -/
theorem arg_pre (V : Valuation τ sig (Elt F)) (b : Ref sig .tc) (hb : isArg b) :
    afterL preI V (Proc.devRef .tc b) = V (Proc.devRef .tc b) := by
  simp only [afterL_cons, afterL_nil]
  rw [after_of_writes_sub hostOps0_6 _ hostOps0_6_writes (by rcases hb with rfl | rfl | rfl <;> decide +kernel),
    after_of_writes_sub hostOps0_5 _ hostOps0_5_writes (by rcases hb with rfl | rfl | rfl <;> decide +kernel),
    after_of_writes_sub hostOps0_4 _ hostOps0_4_writes (by rcases hb with rfl | rfl | rfl <;> decide +kernel),
    after_of_writes_sub hostOps0_3 _ hostOps0_3_writes (by rcases hb with rfl | rfl | rfl <;> decide +kernel),
    after_of_writes_sub hostOps0_2 _ hostOps0_2_writes (by rcases hb with rfl | rfl | rfl <;> decide +kernel),
    after_of_writes_sub hostOps0_1 _ hostOps0_1_writes (by rcases hb with rfl | rfl | rfl <;> decide +kernel),
    after_of_writes_sub hostOps0 _ hostOps0_writes (by rcases hb with rfl | rfl | rfl <;> decide +kernel)]

/-- Nor does the loop's condition, -/
theorem arg_cond (V : Valuation τ sig (Elt F)) (b : Ref sig .tc) (hb : isArg b) :
    after condOps V (Proc.devRef .tc b) = V (Proc.devRef .tc b) :=
  after_of_writes_sub condOps V condOps_writes (by rcases hb with rfl | rfl | rfl <;> decide +kernel)

/-- nor its body, -/
theorem arg_body (V : Valuation τ sig (Elt F)) (b : Ref sig .tc) (hb : isArg b) :
    afterL bodyI V (Proc.devRef .tc b) = V (Proc.devRef .tc b) := by
  simp only [afterL_cons, afterL_nil]
  exact after_of_writes_sub while0Ops0 V while0Ops0_writes (by rcases hb with rfl | rfl | rfl <;> decide +kernel)

/-- so neither does any number of trips. -/
theorem arg_trips (c : Dev nD) (b : Ref sig .tc) (hb : isArg b) (k : ℕ) :
    atTrip condOps bodyI (entryContents preI m) k c (Proc.devRef .tc b) = m ((c.tc : Thread nD τ).loc b) := by
  induction k with
  | zero => exact arg_pre _ b hb
  | succ k ih => rw [atTrip_succ, arg_body _ b hb, arg_cond _ b hb, ih]

/-- The lines after the loop write no argument. -/
theorem arg_post (V : Valuation τ sig (Elt F)) (b : Ref sig .tc) (hb : isArg b) :
    afterL postI V (Proc.devRef .tc b) = V (Proc.devRef .tc b) := by
  simp only [afterL_cons, afterL_nil]
  rcases hb with rfl | rfl | rfl <;>
    simp only [hostOps0_7, hostOps0_8, hostOps0_9, hostOps0_10, hostOps0_11, hostOps0_12, hostOps0_13] <;> after_reads_simp

/-- An argument ends as it was launched. -/
theorem arg_end (c : Dev nD) (b : Ref sig .tc) (hb : isArg b) :
    finalContents condOps preI bodyI postI 5000 m c (Proc.devRef .tc b) = m ((c.tc : Thread nD τ).loc b) := by
  unfold finalContents
  rw [arg_post _ b hb, arg_cond _ b hb, arg_trips m c b hb]

/-- The program runs, its arguments end unchanged and every semaphore counter ends at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h c main_arg0 rfl).trans (arg_end m c _ (.inl rfl)), (h c main_arg1 rfl).trans (arg_end m c _ (.inr (.inl rfl))),
      (h c main_arg2 rfl).trans (arg_end m c _ (.inr (.inr rfl)))⟩,
    sem_eq_zero_of_no_sems rfl r.2⟩) (run_fold m ρ)

end Cert.Proof.RI

end
-- ==== Proof.PI.Host.lean ====
/-
  The host lines around the kernel, as expressions of the three arguments.
-/
module

public import proofs.«01_k».proof.Proof.PI.Run

@[expose] public section

noncomputable section

namespace Cert.Proof.PI

open Cert.KernelIdeal Cert.KernelIdeal.Gen

open Idealize.ShloMosaic
open Idealize.ShloMosaic.TcCoe
open Idealize.SL

variable {F : FTy → Type} [FloatOps F]
variable (m : (ℓ : Loc nD τ sig) → Buf (Elt F) ℓ)

/-- The table of the kernel, from its six rows. -/
def tabV (a0 a1 a2 a3 a4 a5 : FVec F S5000 .f32) : FVec F S8x5120 .f32 :=
  pad S8x5120 ![0, 0] ![2, 120] ![0, 0] (concatenate S6x5000 0
      [⟨S1x5000, broadcastInDim S1x5000 ![1] bcast_S5000_S1x5000_1 a0⟩, ⟨S1x5000, broadcastInDim S1x5000 ![1] bcast_S5000_S1x5000_1 a1⟩,
        ⟨S1x5000, broadcastInDim S1x5000 ![1] bcast_S5000_S1x5000_1 a2⟩, ⟨S1x5000, broadcastInDim S1x5000 ![1] bcast_S5000_S1x5000_1 a3⟩,
        ⟨S1x5000, broadcastInDim S1x5000 ![1] bcast_S5000_S1x5000_1 a4⟩, ⟨S1x5000, broadcastInDim S1x5000 ![1] bcast_S5000_S1x5000_1 a5⟩]
      concatenates_S1x5000_S1x5000_S1x5000_S1x5000_S1x5000_S1x5000_S6x5000_d0) (sitofp .f32 (constantI S_ 32 0#32))
    pads_S6x5000_S8x5120_020_01200 h_S_

/-- A column sorted with the others. -/
def srtV (a0 a1 a2 a3 a4 a5 a6 x : FVec F S5000 .f32) : FVec F S5000 .f32 :=
  Host.sortBy S5000 0 comparator_f32_f32_f32_f32_f32_f32_f32_d0 (fun j => (a0 j, a1 j, a2 j, a3 j, a4 j, a5 j, a6 j)) x

section Read
variable (A : FVec F S5000x4 .f32) (B : FVec F S5000 .f32) (C : IVec S5000 32)

/-- The greatest coordinate, and one more. -/
def mcV : FVec F S_ .f32 :=
  addf (Host.reduce FloatOps.maximumf A (constant S_ .f32 0xFF800000#32) reducesTo_S5000x4_S_d0_1 h_S_) (constant S_ .f32 0x3F800000#32)
/-- The labels as numbers. -/
def labV : FVec F S5000 .f32 := sitofp .f32 C
/-- The shifted boxes. -/
def boxV : FVec F S5000x4 .f32 :=
  addf A (broadcastInDim S5000x4 ![0, 1] bcast_S5000x1_S5000x4_0_1 (broadcastInDim S5000x1 ![0] bcast_S5000_S5000x1_0
    (mulf (labV C) (broadcastInDim S5000 ![] bcast_S_S5000 (mcV A)))))
/-- The sort key. -/
def keyV : FVec F S5000 .f32 :=
  Host.negf (select (cmpf .oge B (broadcastInDim S5000 ![] bcast_S_S5000 (constant S_ .f32 0x3E4CCCCD#32))) B
    (broadcastInDim S5000 ![] bcast_S_S5000 (constant S_ .f32 0xFF800000#32)))
/-- The columns of the shifted boxes. -/
def col0 : FVec F S5000 .f32 := shapeCast S5000 (extractStridedSlice S5000x1 ![0, 0] (boxV A C) slices_S5000x4_S5000x1_0_0) shapeCasts_S5000x1_S5000
def col1 : FVec F S5000 .f32 := shapeCast S5000 (extractStridedSlice S5000x1 ![0, 1] (boxV A C) slices_S5000x4_S5000x1_0_1) shapeCasts_S5000x1_S5000
def col2 : FVec F S5000 .f32 := shapeCast S5000 (extractStridedSlice S5000x1 ![0, 2] (boxV A C) slices_S5000x4_S5000x1_0_2) shapeCasts_S5000x1_S5000
def col3 : FVec F S5000 .f32 := shapeCast S5000 (extractStridedSlice S5000x1 ![0, 3] (boxV A C) slices_S5000x4_S5000x1_0_3) shapeCasts_S5000x1_S5000
/-- A column sorted by the key. -/
def byKey (x : FVec F S5000 .f32) : FVec F S5000 .f32 :=
  srtV (keyV B) (col0 A C) (col1 A C) (col2 A C) (col3 A C) B (labV C) x
/-- The kernel's table. -/
def tableV : FVec F S8x5120 .f32 :=
  tabV (byKey A B C (col0 A C)) (byKey A B C (col1 A C)) (byKey A B C (col2 A C)) (byKey A B C (col3 A C)) (byKey A B C B) (byKey A B C (labV C))
end Read

/-- The arguments. -/
abbrev arg0 (c : Dev nD) : FVec F S5000x4 .f32 := m (c, Proc.devRef .tc main_arg0)
abbrev arg1 (c : Dev nD) : FVec F S5000 .f32 := m (c, Proc.devRef .tc main_arg1)
abbrev arg2 (c : Dev nD) : IVec S5000 32 := m (c, Proc.devRef .tc main_arg2)

/-- The six sorted rows, before the table is put together. -/
theorem rows_read (c : Dev nD) (U : Valuation τ sig (Elt F)) (hU : U = StableHlo.upto (pre.flatten) (fun b => m (c, b)) 39)
    (r : FVec F S5000 .f32 → FVec F S1x5000 .f32) (hr : r = broadcastInDim S1x5000 ![1] bcast_S5000_S1x5000_1) :
    U (Proc.devRef .tc main_v21) = r (byKey (arg0 m c) (arg1 m c) (arg2 m c) (col0 (arg0 m c) (arg2 m c)))
      ∧ U (Proc.devRef .tc main_v22) = r (byKey (arg0 m c) (arg1 m c) (arg2 m c) (col1 (arg0 m c) (arg2 m c)))
      ∧ U (Proc.devRef .tc main_v23) = r (byKey (arg0 m c) (arg1 m c) (arg2 m c) (col2 (arg0 m c) (arg2 m c)))
      ∧ U (Proc.devRef .tc main_v24) = r (byKey (arg0 m c) (arg1 m c) (arg2 m c) (col3 (arg0 m c) (arg2 m c)))
      ∧ U (Proc.devRef .tc main_v25) = r (byKey (arg0 m c) (arg1 m c) (arg2 m c) (arg1 m c))
      ∧ U (Proc.devRef .tc main_v26) = r (byKey (arg0 m c) (arg1 m c) (arg2 m c) (labV (arg2 m c))) := by
  subst hU hr
  refine ⟨?_, ?_, ?_, ?_, ?_, ?_⟩ <;>
  · simp only [pre, List.flatten, List.cons_append, List.nil_append]
    after_reads_simp
    dsimp only [Matrix.cons_val]
    after_reads_simp
    rfl

/-- The table the kernel is given. -/
theorem v28 (c : Dev nD) : V₀ m c (Proc.devRef .tc main_v28) = tableV (arg0 m c) (arg1 m c) (arg2 m c) := by
  obtain ⟨h0, h1, h2, h3, h4, h5⟩ := rows_read m c _ rfl _ rfl
  unfold V₀
  simp only [pre, List.flatten, List.cons_append, List.nil_append]
  after_reads_simp
  show pad S8x5120 ![0, 0] ![2, 120] ![0, 0] (concatenate S6x5000 0
      [⟨S1x5000, StableHlo.upto (pre.flatten) (fun b => m (c, b)) 39 (Proc.devRef .tc main_v21)⟩,
        ⟨S1x5000, StableHlo.upto (pre.flatten) (fun b => m (c, b)) 39 (Proc.devRef .tc main_v22)⟩,
        ⟨S1x5000, StableHlo.upto (pre.flatten) (fun b => m (c, b)) 39 (Proc.devRef .tc main_v23)⟩,
        ⟨S1x5000, StableHlo.upto (pre.flatten) (fun b => m (c, b)) 39 (Proc.devRef .tc main_v24)⟩,
        ⟨S1x5000, StableHlo.upto (pre.flatten) (fun b => m (c, b)) 39 (Proc.devRef .tc main_v25)⟩,
        ⟨S1x5000, StableHlo.upto (pre.flatten) (fun b => m (c, b)) 39 (Proc.devRef .tc main_v26)⟩]
      concatenates_S1x5000_S1x5000_S1x5000_S1x5000_S1x5000_S1x5000_S6x5000_d0) (sitofp .f32 (constantI S_ 32 0#32))
    pads_S6x5000_S8x5120_020_01200 h_S_ = _
  rw [h0, h1, h2, h3, h4, h5]
  rfl

/-- The shift the kernel is given. -/
theorem v29 (c : Dev nD) : V₀ m c (Proc.devRef .tc main_v29) = fun i => shapeCast S1x1 (mcV (arg0 m c)) shapeCasts_S_S1x1 i := by
  unfold V₀
  simp only [pre, List.flatten, List.cons_append, List.nil_append]
  after_reads_simp
  rfl

/-! ### The lines after the kernel -/

/-- The result rows in their buffer. -/
theorem arr2 (c : Dev nD) : (dats m 0 c).arrAt 2 (cfg0 (F := F)).N = (outO m c : (⟨S32x8, .f32⟩ : BufTy).Contents (Elt F)) := by
  refine Pipeline.Dat.arrAt_eq_of_after_last _ 2 t0_0 (show win0_2.WholeAt t0_0 by decide +kernel) _ fun j => ?_
  blk_simp
  rfl
/-- The result flags in their buffer. -/
theorem arr3 (c : Dev nD) : (dats m 0 c).arrAt 3 (cfg0 (F := F)).N = (outV m c : (⟨S32x1, .f32⟩ : BufTy).Contents (Elt F)) := by
  refine Pipeline.Dat.arrAt_eq_of_after_last _ 3 t0_0 (show win0_3.WholeAt t0_0 by decide +kernel) _ fun j => ?_
  blk_simp
  rfl

/-- The buffers after the launch. -/
abbrev W (c : Dev nD) : Valuation τ sig (Elt F) :=
  Pipeline.withArrays spec0 c (V₀ m c) fun w => (dats m 0 c).arrAt w (cfg0 (F := F)).N

theorem w30_0 (c : Dev nD) : W m c (Proc.devRef .tc main_v30_0) = (outO m c : (⟨S32x8, .f32⟩ : BufTy).Contents (Elt F)) :=
  (Pipeline.withArrays_arr spec0 (by decide) c (V₀ m c) _ 2).trans (arr2 m c)
theorem w30_1 (c : Dev nD) : W m c (Proc.devRef .tc main_v30_1) = (outV m c : (⟨S32x1, .f32⟩ : BufTy).Contents (Elt F)) :=
  (Pipeline.withArrays_arr spec0 (by decide) c (V₀ m c) _ 3).trans (arr3 m c)

/-- The packed rows. -/
theorem end31 (c : Dev nD) : Pipeline.afterTail₀ cfgs (dats m) 0 (V₀ m) post c main_v31
    = extractStridedSlice S30x5 ![0, 0] (outO m c) slices_S32x8_S30x5_0_0 := by
  rw [← w30_0]
  unfold Pipeline.afterTail₀
  simp only [post, List.flatten, List.cons_append, List.nil_append]
  after_reads_simp
/-- The labels. -/
theorem end35 (c : Dev nD) : Pipeline.afterTail₀ cfgs (dats m) 0 (V₀ m) post c main_v35
    = fptosi 32 (Host.roundeven (shapeCast S30 (extractStridedSlice S30x1 ![0, 5] (outO m c) slices_S32x8_S30x1_0_5) shapeCasts_S30x1_S30)) := by
  rw [← w30_0]
  unfold Pipeline.afterTail₀
  simp only [post, List.flatten, List.cons_append, List.nil_append]
  after_reads_simp
  rfl
/-- The flags. -/
theorem end39 (c : Dev nD) : Pipeline.afterTail₀ cfgs (dats m) 0 (V₀ m) post c main_v39
    = cmpf .ogt (shapeCast S30 (extractStridedSlice S30x1 ![0, 0] (outV m c) slices_S32x1_S30x1_0_0) shapeCasts_S30x1_S30)
        (broadcastInDim S30 ![] bcast_S_S30 (constant S_ .f32 0x3F000000#32)) := by
  rw [← w30_1]
  unfold Pipeline.afterTail₀
  simp only [post, List.flatten, List.cons_append, List.nil_append]
  after_reads_simp
  rfl

end Cert.Proof.PI

end
-- ==== Proof.Spec.lean ====
/-
  Greedy suppression with capped counts, as plain mathematics over places numbered from 0: which places are kept, which
  of them are selected, and which place stands in an output row. No floats and no programs here.
-/
module

public import Idealize.ShloMosaic.Lib.Pointwise

@[expose] public section

noncomputable section

namespace Cert.Proof

/-! ### Counting -/

open Classical in
/-- How many of the first `n` places satisfy `p`. -/
def cnt (p : ℕ → Prop) : ℕ → ℕ
  | 0 => 0
  | n + 1 => cnt p n + if p n then 1 else 0

theorem cnt_pos (p : ℕ → Prop) (n : ℕ) (h : p n) : cnt p (n + 1) = cnt p n + 1 := by rw [cnt, if_pos h]
theorem cnt_neg (p : ℕ → Prop) (n : ℕ) (h : ¬ p n) : cnt p (n + 1) = cnt p n := by rw [cnt, if_neg h, Nat.add_zero]

theorem cnt_mono (p : ℕ → Prop) {n m : ℕ} (h : n ≤ m) : cnt p n ≤ cnt p m := by
  induction m, h using Nat.le_induction with
  | base => exact le_refl _
  | succ m _ ih => rw [cnt]; omega

theorem cnt_add_not (p : ℕ → Prop) (n : ℕ) : cnt p n + cnt (fun i => ¬ p i) n = n := by
  induction n with
  | zero => rfl
  | succ n ih =>
    by_cases h : p n
    · rw [cnt_pos p n h, cnt_neg (fun i => ¬ p i) n (by simpa using h)]; omega
    · rw [cnt_neg p n h, cnt_pos (fun i => ¬ p i) n h]; omega

theorem cnt_split (p h : ℕ → Prop) (n : ℕ) : cnt (fun i => p i ∧ h i) n + cnt (fun i => p i ∧ ¬ h i) n = cnt p n := by
  induction n with
  | zero => rfl
  | succ n ih =>
    rw [cnt, cnt, cnt]
    by_cases hp : p n <;> by_cases hh : h n <;> simp [hp, hh] <;> omega

/-- Nothing is counted where nothing satisfies `p`. -/
theorem cnt_stop (p : ℕ → Prop) {n m : ℕ} (hn : ∀ j, n ≤ j → j < m → ¬ p j) (h : n ≤ m) : cnt p m = cnt p n := by
  induction m, h using Nat.le_induction with
  | base => rfl
  | succ m hm ih => rw [cnt_neg p m (hn m hm (by omega)), ih fun j h1 h2 => hn j h1 (by omega)]

theorem cnt_lt (p : ℕ → Prop) {i j : ℕ} (hi : p i) (h : i < j) : cnt p i < cnt p j := by
  have h1 := cnt_mono p (show i + 1 ≤ j from h)
  rw [cnt_pos p i hi] at h1; omega

theorem cnt_congr {p p' : ℕ → Prop} {n : ℕ} (h : ∀ i, i < n → (p i ↔ p' i)) : cnt p n = cnt p' n := by
  induction n with
  | zero => rfl
  | succ n ih =>
    have e := h n (by omega)
    have ih' := ih fun i hi => h i (by omega)
    by_cases hp : p n
    · rw [cnt_pos p n hp, cnt_pos p' n (e.1 hp), ih']
    · rw [cnt_neg p n hp, cnt_neg p' n (fun h' => hp (e.2 h')), ih']

theorem cnt_inj (p : ℕ → Prop) {i j : ℕ} (hi : p i) (hj : p j) (h : cnt p i = cnt p j) : i = j := by
  rcases Nat.lt_trichotomy i j with h1 | h1 | h1
  · have := cnt_lt p hi h1; omega
  · exact h1
  · have := cnt_lt p hj h1; omega

theorem cnt_exists (p : ℕ → Prop) {r n : ℕ} (h : r < cnt p n) : ∃ x, x < n ∧ p x ∧ cnt p x = r := by
  induction n with
  | zero => exact absurd h (Nat.not_lt_zero _)
  | succ n ih =>
    by_cases hr : r < cnt p n
    · obtain ⟨x, h1, h2⟩ := ih hr; exact ⟨x, by omega, h2⟩
    · by_cases hp : p n
      · rw [cnt_pos p n hp] at h; exact ⟨n, by omega, hp, by omega⟩
      · rw [cnt_neg p n hp] at h; exact absurd h hr

/-! ### The selection -/

/-- What the selection depends on: which places are valid, which pairs of places overlap too much, and which places
    are of the first class. -/
structure Prob where
  V : ℕ → Prop
  S : ℕ → ℕ → Prop
  H : ℕ → Prop

namespace Prob

variable (q : Prob)

/-- A place is kept if it is valid and no earlier kept place overlaps it. -/
def K (i : ℕ) : Prop := q.V i ∧ ∀ j, ∀ _h : j < i, K j → ¬ q.S j i
termination_by i

theorem K_iff (i : ℕ) : q.K i ↔ q.V i ∧ ∀ j, j < i → q.K j → ¬ q.S j i := by rw [K]

/-- The kept places of the first class and of the others. -/
def KH (i : ℕ) : Prop := q.K i ∧ q.H i
def KO (i : ℕ) : Prop := q.K i ∧ ¬ q.H i

/-- A place is selected if it is kept and at most the 15th kept of its class. -/
def Sel (i : ℕ) : Prop := (q.KH i ∧ cnt q.KH (i + 1) ≤ 15) ∨ (q.KO i ∧ cnt q.KO (i + 1) ≤ 15)

theorem sel_valid {i : ℕ} (h : q.Sel i) : q.V i := by
  rcases h with ⟨h, -⟩ | ⟨h, -⟩ <;> exact ((q.K_iff i).1 h.1).1

theorem sel_H (n : ℕ) : cnt (fun i => q.Sel i ∧ q.H i) n ≤ cnt q.KH n ∧ cnt (fun i => q.Sel i ∧ q.H i) n ≤ 15 := by
  induction n with
  | zero => exact ⟨le_refl _, Nat.zero_le _⟩
  | succ n ih =>
    by_cases h : q.Sel n ∧ q.H n
    · rw [cnt_pos _ n h]
      rcases h.1 with ⟨h1, h2⟩ | ⟨h1, h2⟩
      · rw [cnt_pos _ n h1] at h2 ⊢; omega
      · exact absurd h.2 h1.2
    · rw [cnt_neg _ n h]; exact ⟨ih.1.trans (cnt_mono _ (by omega)), ih.2⟩

theorem sel_O (n : ℕ) : cnt (fun i => q.Sel i ∧ ¬ q.H i) n ≤ cnt q.KO n ∧ cnt (fun i => q.Sel i ∧ ¬ q.H i) n ≤ 15 := by
  induction n with
  | zero => exact ⟨le_refl _, Nat.zero_le _⟩
  | succ n ih =>
    by_cases h : q.Sel n ∧ ¬ q.H n
    · rw [cnt_pos _ n h]
      rcases h.1 with ⟨h1, h2⟩ | ⟨h1, h2⟩
      · exact absurd h1.2 h.2
      · rw [cnt_pos _ n h1] at h2 ⊢; omega
    · rw [cnt_neg _ n h]; exact ⟨ih.1.trans (cnt_mono _ (by omega)), ih.2⟩

/-- At most 30 places are selected. -/
theorem sel_le (n : ℕ) : cnt q.Sel n ≤ 30 := by
  have := cnt_split q.Sel q.H n
  have h1 := (q.sel_H n).2
  have h2 := (q.sel_O n).2
  omega

/-- Once both classes have 15 kept places nothing more is selected. -/
theorem sel_full {n : ℕ} (h1 : 15 ≤ cnt q.KH n) (h2 : 15 ≤ cnt q.KO n) {j : ℕ} (hj : n ≤ j) : ¬ q.Sel j := by
  have h3 := cnt_mono q.KH hj
  have h4 := cnt_mono q.KO hj
  rintro (⟨h, h'⟩ | ⟨h, h'⟩)
  · rw [cnt_pos _ j h] at h'; omega
  · rw [cnt_pos _ j h] at h'; omega

/-- Which place stands in row `r`: the selected places in order, then the others in order. -/
def At (N r x : ℕ) : Prop := (q.Sel x ∧ cnt q.Sel x = r) ∨ (¬ q.Sel x ∧ cnt q.Sel N + cnt (fun i => ¬ q.Sel i) x = r)

theorem at_unique {N r x y : ℕ} (hx : x < N) (hy : y < N) (h : q.At N r x) (h' : q.At N r y) : x = y := by
  rcases h with ⟨h1, h2⟩ | ⟨h1, h2⟩ <;> rcases h' with ⟨h3, h4⟩ | ⟨h3, h4⟩
  · exact cnt_inj _ h1 h3 (by omega)
  · have := cnt_lt q.Sel h1 hx; omega
  · have := cnt_lt q.Sel h3 hy; omega
  · exact cnt_inj (fun i => ¬ q.Sel i) h1 h3 (by omega)

/-- Every one of the first 30 rows has its place, a place not selected among the first 640. -/
theorem at_exists {N r : ℕ} (hr : r < 30) : (∃ x, x < N ∧ q.Sel x ∧ cnt q.Sel x = r)
    ∨ cnt q.Sel N ≤ r ∧ ∃ x, x < 640 ∧ ¬ q.Sel x ∧ cnt q.Sel N + cnt (fun i => ¬ q.Sel i) x = r := by
  by_cases h : r < cnt q.Sel N
  · exact .inl (cnt_exists _ h)
  · refine .inr ⟨by omega, ?_⟩
    have h1 := cnt_add_not q.Sel 640
    have h2 := q.sel_le 640
    obtain ⟨x, h3, h4, h5⟩ := cnt_exists (fun i => ¬ q.Sel i) (r := r - cnt q.Sel N) (n := 640) (by omega)
    exact ⟨x, h3, h4, by omega⟩

/-- If validity only gets lost, nothing is selected from an invalid place on. -/
theorem sel_invalid (hV : ∀ i j, i ≤ j → q.V j → q.V i) {i j : ℕ} (hi : ¬ q.V i) (hj : i ≤ j) : ¬ q.Sel j :=
  fun h => hi (hV i j hj (q.sel_valid h))

end Prob

end Cert.Proof

end
-- ==== Proof.Num.lean ====
/-
  The numbers of the selection as extended reals: counts as casts of naturals, sums of indicators as counts, the
  constants the programs compare with, and the overlap ratio of two boxes.
-/
module

public import proofs.«01_k».proof.Proof.Spec
public import proofs.«01_k».proof.Proof.Flags

@[expose] public section

noncomputable section

namespace Cert.Proof

open Idealize.ShloMosaic

/-! ### Indicators and counts -/

open Classical in
/-- One where a statement holds and zero elsewhere. -/
def ind (p : Prop) : EReal := if p then 1 else 0

theorem ind_true {p : Prop} (h : p) : ind p = 1 := by rw [ind, if_pos h]
theorem ind_false {p : Prop} (h : ¬ p) : ind p = 0 := by rw [ind, if_neg h]

theorem ind_congr {p p' : Prop} (h : p ↔ p') : ind p = ind p' := by
  by_cases hp : p
  · rw [ind_true hp, ind_true (h.1 hp)]
  · rw [ind_false hp, ind_false fun h' => hp (h.2 h')]

theorem ind_and (p p' : Prop) : ind p * ind p' = ind (p ∧ p') := by
  by_cases hp : p <;> by_cases hp' : p' <;> simp [ind, hp, hp']

theorem ind_not (p : Prop) : 1 - ind p = ind (¬ p) := by
  by_cases hp : p
  · rw [ind_true hp, ind_false (not_not.2 hp)]
    rw [← EReal.coe_one, ← EReal.coe_sub, sub_self, EReal.coe_zero]
  · rw [ind_false hp, ind_true hp, sub_zero]

theorem ind_mul (p : Prop) (x : EReal) : ind p * x = open Classical in if p then x else 0 := by
  by_cases hp : p <;> simp [ind, hp]

theorem half_lt_ind (p : Prop) : ((1 / 2 : ℝ) : EReal) < ind p ↔ p := by
  by_cases hp : p
  · rw [ind_true hp, ← EReal.coe_one, EReal.coe_lt_coe_iff]; simp only [hp, iff_true]; norm_num
  · rw [ind_false hp, ← EReal.coe_zero, EReal.coe_lt_coe_iff]; simp only [hp, iff_false]; norm_num

theorem ind_lt_half (p : Prop) : ind p < ((1 / 2 : ℝ) : EReal) ↔ ¬ p := by
  by_cases hp : p
  · rw [ind_true hp, ← EReal.coe_one, EReal.coe_lt_coe_iff]; simp only [hp, not_true, iff_false]; norm_num
  · rw [ind_false hp, ← EReal.coe_zero, EReal.coe_lt_coe_iff]; simp only [hp, not_false_eq_true, iff_true]; norm_num

theorem flag_ind (b : Bool) : (flag b : Ideal .f32) = ind (b = true) := by
  rw [flag_ideal]; cases b <;> simp [ind]

/-- A natural number as an extended real. -/
def ne (n : ℕ) : EReal := ((n : ℝ) : EReal)

theorem ne_zero : ne 0 = 0 := by simp [ne]
theorem ne_one : ne 1 = 1 := by simp [ne]
theorem ne_add (a b : ℕ) : ne a + ne b = ne (a + b) := by rw [ne, ne, ne, ← EReal.coe_add, Nat.cast_add]
theorem ne_sub {a b : ℕ} (h : b ≤ a) : ne a - ne b = ne (a - b) := by rw [ne, ne, ne, ← EReal.coe_sub, Nat.cast_sub h]
theorem ne_le (a b : ℕ) : ne a ≤ ne b ↔ a ≤ b := by rw [ne, ne, EReal.coe_le_coe_iff, Nat.cast_le]
theorem ne_lt (a b : ℕ) : ne a < ne b ↔ a < b := by rw [ne, ne, EReal.coe_lt_coe_iff, Nat.cast_lt]
theorem ne_inj (a b : ℕ) : ne a = ne b ↔ a = b := by rw [ne, ne, EReal.coe_eq_coe_iff, Nat.cast_inj]

theorem ne_cnt_succ (p : ℕ → Prop) (n : ℕ) : ne (cnt p (n + 1)) = ne (cnt p n) + ind (p n) := by
  by_cases h : p n
  · rw [cnt_pos p n h, ind_true h, ← ne_one, ne_add]
  · rw [cnt_neg p n h, ind_false h, add_zero]

theorem cnt_add (p : ℕ → Prop) (b n : ℕ) : cnt p (b + n) = cnt p b + cnt (fun i => p (b + i)) n := by
  induction n with
  | zero => rfl
  | succ n ih =>
    rw [← Nat.add_assoc]
    by_cases h : p (b + n)
    · rw [cnt_pos p _ h, cnt_pos (fun i => p (b + i)) n h, ih, Nat.add_assoc]
    · rw [cnt_neg p _ h, cnt_neg (fun i => p (b + i)) n h, ih]

/-- The sum of the indicators of the first places is their count. -/
theorem sum_ind (p : ℕ → Prop) (n : ℕ) : ∑ x ∈ Finset.range n, ind (p x) = ne (cnt p n) := by
  induction n with
  | zero => rw [Finset.sum_range_zero, cnt, ne_zero]
  | succ n ih => rw [Finset.sum_range_succ, ih, ne_cnt_succ]

theorem sum_ind_fin (p : ℕ → Prop) (n : ℕ) : ∑ x : Fin n, ind (p x.val) = ne (cnt p n) := by
  rw [Fin.sum_univ_eq_sum_range (fun x => ind (p x)) n, sum_ind]

/-- The same sum up to and including a place. -/
theorem sum_ind_le (p : ℕ → Prop) {n : ℕ} (l : Fin n) : ∑ x : Fin n, (if x ≤ l then ind (p x.val) else 0) = ne (cnt p (l.val + 1)) := by
  have key : ∀ x : Fin n, (if x ≤ l then ind (p x.val) else 0) = ind (p x.val ∧ x.val ≤ l.val) := fun x => by
    by_cases h : x ≤ l
    · rw [if_pos h]; exact ind_congr (by simp only [iff_self_and]; exact fun _ => h)
    · rw [if_neg h, ind_false fun h' => h h'.2]
  rw [Finset.sum_congr rfl fun x _ => key x, sum_ind_fin (fun i => p i ∧ i ≤ l.val) n]
  congr 1
  rw [cnt_stop (fun i => p i ∧ i ≤ l.val) (n := l.val + 1) (fun j h1 _ h2 => by omega) l.isLt]
  exact cnt_congr fun i hi => ⟨fun h => h.1, fun h => ⟨h, by omega⟩⟩

/-! ### Constants -/

/-- The score threshold and the floor of the union, as the programs write them. -/
def thr : EReal := Ideal.ofBits .f32 0x3E4CCCCD#32
def eps : EReal := Ideal.ofBits .f32 0x322BCC77#32

theorem thr_pos : 0 < thr := by
  unfold thr; simp [Ideal.ofBits, Ideal.ieee, -EReal.coe_mul]
theorem eps_pos : 0 < eps := by
  unfold eps; simp [Ideal.ofBits, Ideal.ieee, -EReal.coe_mul]
theorem ofBits_15 : Ideal.ofBits .f32 0x41700000#32 = ne 15 := by
  simp [Ideal.ofBits, Ideal.ieee, -EReal.coe_mul, ne]; norm_num
theorem ofBits_30 : Ideal.ofBits .f32 0x41F00000#32 = ne 30 := by
  simp [Ideal.ofBits, Ideal.ieee, -EReal.coe_mul, ne]; norm_num

theorem sitofp_bit (x : BitVec 1) : FloatOps.sitofp (F := Ideal) .f32 (x.setWidth 32) = ind (x = 1#1) := by
  rw [flagOps_ideal.ofBit, flag_ind]; exact ind_congr (by simp)

theorem sitofp_nat (n : ℕ) (h : n < 2 ^ 31) : FloatOps.sitofp (F := Ideal) .f32 (BitVec.ofNat 32 n) = ne n := by
  have e : (BitVec.ofNat 32 n).toInt = (n : Int) := by
    rw [BitVec.toInt_eq_toNat_cond, BitVec.toNat_ofNat, Nat.mod_eq_of_lt (by omega), if_pos (by omega)]
  show (((BitVec.ofNat 32 n).toInt : ℝ) : EReal) = _
  rw [e, ne, Int.cast_natCast]

/-! ### Overlap of boxes -/

/-- The area between two corners. -/
def area (x1 y1 x2 y2 : EReal) : EReal := (x2 - x1) * (y2 - y1)

/-- The common area of two boxes. -/
def inter (x1 y1 x2 y2 u1 v1 u2 v2 : EReal) : EReal := max (min x2 u2 - max x1 u1) 0 * max (min y2 v2 - max y1 v1) 0

/-- The overlap ratio of two boxes with given areas. -/
def ratio (x1 y1 x2 y2 a u1 v1 u2 v2 b : EReal) : EReal :=
  Ideal.div (inter x1 y1 x2 y2 u1 v1 u2 v2) (max (a + b - inter x1 y1 x2 y2 u1 v1 u2 v2) eps)

theorem inter_comm (x1 y1 x2 y2 u1 v1 u2 v2 : EReal) : inter x1 y1 x2 y2 u1 v1 u2 v2 = inter u1 v1 u2 v2 x1 y1 x2 y2 := by
  unfold inter; rw [min_comm x2, max_comm x1, min_comm y2, max_comm y1]

theorem ratio_comm (x1 y1 x2 y2 a u1 v1 u2 v2 b : EReal) : ratio x1 y1 x2 y2 a u1 v1 u2 v2 b = ratio u1 v1 u2 v2 b x1 y1 x2 y2 a := by
  unfold ratio; rw [inter_comm, add_comm a b]

theorem gap_zero (u v : EReal) : max (min 0 u - max 0 v) 0 = 0 := by
  apply max_eq_right
  rw [sub_eq_add_neg]
  have h1 : min (0 : EReal) u ≤ 0 := min_le_left _ _
  have h2 : -(max (0 : EReal) v) ≤ 0 := EReal.neg_le_zero.2 (le_max_left _ _)
  exact (add_le_add h1 h2).trans (le_of_eq (add_zero 0))

/-- The zero box overlaps nothing. -/
theorem ratio_zero (u1 v1 u2 v2 b : EReal) : ratio 0 0 0 0 0 u1 v1 u2 v2 b = 0 := by
  unfold ratio inter
  rw [gap_zero, gap_zero, mul_zero]
  unfold Ideal.div
  rw [if_neg (ne_of_gt (lt_of_lt_of_le eps_pos (le_max_right _ _))), zero_mul]

/-! ### The problem of a table -/

/-- A table: four rows of corners, one of scores and one of labels. -/
abbrev Tab : Type := Fin 6 → ℕ → EReal

namespace Tab

variable (T : Tab)

def ar (n : ℕ) : EReal := area (T 0 n) (T 1 n) (T 2 n) (T 3 n)
def iou (i j : ℕ) : EReal := ratio (T 0 i) (T 1 i) (T 2 i) (T 3 i) (T.ar i) (T 0 j) (T 1 j) (T 2 j) (T 3 j) (T.ar j)

/-- The selection problem of a table. -/
def prob : Prob := ⟨fun n => thr ≤ T 4 n, fun i j => ((1 / 2 : ℝ) : EReal) < T.iou i j, fun n => T 5 n = 1⟩

theorem iou_comm (i j : ℕ) : T.iou i j = T.iou j i := ratio_comm _ _ _ _ _ _ _ _ _ _

end Tab

end Cert.Proof

end
-- ==== Proof.PI.Cells.lean ====
/-
  One block of the kernel, read as the selection problem of its table: the block's areas, the test against the earlier
  kept boxes, the kept row, the selected row, the counts and the one-hot rows, each at a place of the block.
-/
module

public import proofs.«01_k».proof.Proof.PI.Access
public import proofs.«01_k».proof.Proof.Num

@[expose] public section

noncomputable section

namespace Cert.Proof.PI

open Cert.KernelIdeal Cert.KernelIdeal.Gen

open Idealize.ShloMosaic
open Idealize.ShloMosaic.TcCoe

/-! ### Bits -/

theorem ofBool_one (p : Prop) [Decidable p] : BitVec.ofBool (decide p) = 1#1 ↔ p := by
  by_cases h : p <;> simp [h]
theorem andi_one (a b : BitVec 1) : IntOp.andi a b = 1#1 ↔ a = 1#1 ∧ b = 1#1 := by revert a b; decide
theorem ori_one (a b : BitVec 1) : IntOp.ori a b = 1#1 ↔ a = 1#1 ∨ b = 1#1 := by revert a b; decide
theorem select_ind (d : BitVec 1) : Scalar.select d (1 : EReal) 0 = ind (d = 1#1) := by
  rcases (by decide : ∀ x : BitVec 1, x = 0#1 ∨ x = 1#1) d with h | h <;> subst h <;> simp [Scalar.select, ind]

/-! ### The table of the kernel -/

/-- The kernel's table over all places, zero from place 5120 on. -/
def tabOf (P : PtC Ideal) : Tab := fun c n => if h : n < 5120 then atP P ⟨c.val, by omega⟩ ⟨n, h⟩ else 0

variable (P : PtC Ideal)

/-- The selection problem of the kernel's table. -/
abbrev prb : Prob := (tabOf P).prob

theorem tabOf_pl (k : Fin 8) (l : Fin 640) (c : Fin 6) : tabOf P c (640 * k.val + l.val) = atP P ⟨c.val, by omega⟩ (pl k l) := by
  have h : 640 * k.val + l.val < 5120 := by omega
  unfold tabOf; rw [dif_pos h]; rfl

section Rows
variable (k : Fin 8) (r : Fin 1) (l : Fin 640)

theorem r1_tab : r1 (BitVec.ofNat 32 k.val) (chk_of_lt k) P (ix2 r l) = tabOf P 0 (640 * k.val + l.val) := by rw [r1_apply, tabOf_pl]; rfl
theorem r2_tab : r2 (BitVec.ofNat 32 k.val) (chk_of_lt k) P (ix2 r l) = tabOf P 1 (640 * k.val + l.val) := by rw [r2_apply, tabOf_pl]; rfl
theorem r3_tab : r3 (BitVec.ofNat 32 k.val) (chk_of_lt k) P (ix2 r l) = tabOf P 2 (640 * k.val + l.val) := by rw [r3_apply, tabOf_pl]; rfl
theorem r4_tab : r4 (BitVec.ofNat 32 k.val) (chk_of_lt k) P (ix2 r l) = tabOf P 3 (640 * k.val + l.val) := by rw [r4_apply, tabOf_pl]; rfl
theorem r5_tab : r5 (BitVec.ofNat 32 k.val) (chk_of_lt k) P (ix2 r l) = tabOf P 4 (640 * k.val + l.val) := by rw [r5_apply, tabOf_pl]; rfl
theorem r6_tab : r6 (BitVec.ofNat 32 k.val) (chk_of_lt k) P (ix2 r l) = tabOf P 5 (640 * k.val + l.val) := by rw [r6_apply, tabOf_pl]; rfl

theorem areaR_tab : areaR (BitVec.ofNat 32 k.val) (chk_of_lt k) P (ix2 r l) = (tabOf P).ar (640 * k.val + l.val) := by
  unfold areaR k0_pay33 k0_pay29 k0_pay30 k0_pay31 k0_pay32
  pointwise [r1_tab, r2_tab, r3_tab, r4_tab]
  rfl
end Rows

/-! ### Rows turned into columns -/

section Cols
variable (x : FVec Ideal S1x640 .f32) (i : Fin 640) (z : Fin 1)

theorem pay34_apply : k0_pay34 (F := Ideal) k0_pay9 x (ix2 i z) = x (ix2 0 i) := by
  unfold k0_pay34 k0_pay29; pointwise [pay9_apply]
  simp only [Finset.sum_ite_eq, Finset.mem_univ, if_true]
theorem pay35_apply : k0_pay35 (F := Ideal) k0_pay9 x (ix2 i z) = x (ix2 0 i) := pay34_apply x i z
theorem pay36_apply : k0_pay36 (F := Ideal) k0_pay9 x (ix2 i z) = x (ix2 0 i) := pay34_apply x i z
theorem pay37_apply : k0_pay37 (F := Ideal) k0_pay9 x (ix2 i z) = x (ix2 0 i) := pay34_apply x i z
theorem pay50_apply : k0_pay50 (F := Ideal) k0_pay9 x (ix2 i z) = x (ix2 0 i) := by
  unfold k0_pay50; pointwise [pay9_apply]
  simp only [Finset.sum_ite_eq, Finset.mem_univ, if_true]
end Cols

theorem areaC_tab (k : Fin 8) (l : Fin 640) (z : Fin 1) :
    areaC (BitVec.ofNat 32 k.val) (chk_of_lt k) P (ix2 l z) = (tabOf P).ar (640 * k.val + l.val) := by
  unfold areaC k0_pay38
  pointwise [pay34_apply, pay35_apply, pay36_apply, pay37_apply, r1_tab, r2_tab, r3_tab, r4_tab]
  rfl

/-! ### Against the earlier blocks -/

/-- What the store of kept columns holds in column `c` at a kept place. -/
def colVal (c : Fin 5) (x : ℕ) : EReal := if h : c.val < 4 then tabOf P ⟨c.val, by omega⟩ x else (tabOf P).ar x

open Classical in
/-- The store of kept columns before place `b`: the columns of the kept places, zero elsewhere. -/
def ColInv (C : ColC Ideal) (b : ℕ) : Prop :=
  ∀ (x : Fin 5120) (c : Fin 5), x.val < b → atC C x ⟨c.val, by omega⟩ = if (prb P).K x.val then colVal P c x.val else 0

theorem ldC_col (k n : ℕ) (hn : n < 8) (o : Fin 2 → Nat) (h : ∀ a, o a + S640x1.size a ≤ S5120x8.size a) (C : ColC Ideal) (c : Fin 5)
    (ho : o = ![640 * n, c.val]) (hC : ColInv P C (640 * k)) (hnk : n < k) (l : Fin 640) (z : Fin 1) :
    ldC o h C (ix2 l z) = ind ((prb P).K (640 * n + l.val)) * colVal P c (640 * n + l.val) := by
  subst ho
  rw [ldC_apply _ _ _ _ _ (⟨640 * n + l.val, by omega⟩ : Fin 5120) (⟨c.val, by omega⟩ : Fin 8) rfl rfl]
  rw [hC ⟨640 * n + l.val, by omega⟩ c (by show 640 * n + l.val < _; have := l.isLt; omega), ind_mul]

theorem ratio_kept (p : Prop) (x1 y1 x2 y2 a u1 v1 u2 v2 b : EReal) :
    ratio (ind p * x1) (ind p * y1) (ind p * x2) (ind p * y2) (ind p * a) u1 v1 u2 v2 b ≤ ((1 / 2 : ℝ) : EReal)
      ↔ (p → ¬ ((1 / 2 : ℝ) : EReal) < ratio x1 y1 x2 y2 a u1 v1 u2 v2 b) := by
  by_cases h : p
  · rw [ind_true h]; simp only [one_mul, h, forall_true_left, not_lt]
  · rw [ind_false h]; simp only [zero_mul, ratio_zero, h, false_imp_iff, iff_true]
    rw [← EReal.coe_zero, EReal.coe_le_coe_iff]; norm_num

theorem pay42_le (a b c d e f : FVec Ideal S1x640 .f32) (g h i j m : FVec Ideal S640x1 .f32) (l : Fin 640) (t : EReal) :
    k0_pay42 (F := Ideal) a b c d e f g h i j m (ix2 0 l) ≤ t ↔ f (ix2 0 l) ≤ t
      ∧ ∀ x : Fin 640, ratio (g (ix2 x 0)) (h (ix2 x 0)) (i (ix2 x 0)) (j (ix2 x 0)) (m (ix2 x 0))
          (a (ix2 0 l)) (b (ix2 0 l)) (c (ix2 0 l)) (d (ix2 0 l)) (e (ix2 0 l)) ≤ t := by
  unfold k0_pay42
  pointwise
  rw [max_le_iff, Finset.fold_max_le, ofBits_bot]
  simp only [bot_le, true_and, Finset.mem_univ, forall_true_left]
  rfl

/-- The running overlap stays at most one half exactly if no kept place of the blocks gone through overlaps. -/
theorem crossAt_le (k : Fin 8) (C : ColC Ideal) (hC : ColInv P C (640 * k.val)) (l : Fin 640) : ∀ n, n ≤ k.val →
    (crossAt (BitVec.ofNat 32 k.val) (chk_of_lt k) P C n (ix2 0 l) ≤ ((1 / 2 : ℝ) : EReal)
      ↔ ∀ x, x < 640 * n → (prb P).K x → ¬ (prb P).S x (640 * k.val + l.val))
  | 0, _ => by
    have h0 : crossAt (BitVec.ofNat 32 k.val) (chk_of_lt k) P C 0 (ix2 0 l) = (0 : EReal) := by
      unfold crossAt k0_pay41; pointwise
    rw [h0]
    constructor
    · intro _ x hx; omega
    · intro _; rw [← EReal.coe_zero, EReal.coe_le_coe_iff]; norm_num
  | n + 1, hn => by
    have ht : n < (k0_t1_loop (BitVec.ofNat 32 k.val)).trips := by rw [trips_eq]; omega
    have ih := crossAt_le k C hC l n (by omega)
    rw [crossAt, dif_pos ht, pay42_le, ih]
    have hn8 : n < 8 := by omega
    have e : ∀ x : Fin 640, _ := fun x => ratio_kept ((prb P).K (640 * n + x.val)) (tabOf P 0 (640 * n + x.val)) (tabOf P 1 (640 * n + x.val))
      (tabOf P 2 (640 * n + x.val)) (tabOf P 3 (640 * n + x.val)) ((tabOf P).ar (640 * n + x.val))
      (tabOf P 0 (640 * k.val + l.val)) (tabOf P 1 (640 * k.val + l.val)) (tabOf P 2 (640 * k.val + l.val)) (tabOf P 3 (640 * k.val + l.val))
      ((tabOf P).ar (640 * k.val + l.val))
    have e2 : ∀ x : Fin 640, (ratio
        (ldC (k0_off7 (BitVec.ofNat 32 k.val) ⟨n, ht⟩) (k0_off7_inb _ (chk_of_lt k) ⟨n, ht⟩) C (ix2 x 0))
        (ldC (k0_off8 (BitVec.ofNat 32 k.val) ⟨n, ht⟩) (k0_off8_inb _ (chk_of_lt k) ⟨n, ht⟩) C (ix2 x 0))
        (ldC (k0_off9 (BitVec.ofNat 32 k.val) ⟨n, ht⟩) (k0_off9_inb _ (chk_of_lt k) ⟨n, ht⟩) C (ix2 x 0))
        (ldC (k0_off10 (BitVec.ofNat 32 k.val) ⟨n, ht⟩) (k0_off10_inb _ (chk_of_lt k) ⟨n, ht⟩) C (ix2 x 0))
        (ldC (k0_off11 (BitVec.ofNat 32 k.val) ⟨n, ht⟩) (k0_off11_inb _ (chk_of_lt k) ⟨n, ht⟩) C (ix2 x 0))
        (k0_pay29 (r1 (BitVec.ofNat 32 k.val) (chk_of_lt k) P) (ix2 0 l)) (k0_pay30 (r2 (BitVec.ofNat 32 k.val) (chk_of_lt k) P) (ix2 0 l))
        (k0_pay31 (r3 (BitVec.ofNat 32 k.val) (chk_of_lt k) P) (ix2 0 l)) (k0_pay32 (r4 (BitVec.ofNat 32 k.val) (chk_of_lt k) P) (ix2 0 l))
        (areaR (BitVec.ofNat 32 k.val) (chk_of_lt k) P (ix2 0 l)) ≤ ((1 / 2 : ℝ) : EReal))
        ↔ ((prb P).K (640 * n + x.val) → ¬ (prb P).S (640 * n + x.val) (640 * k.val + l.val)) := by
      intro x
      have g : ∀ {o : Fin 2 → Nat} (h : ∀ a, o a + S640x1.size a ≤ S5120x8.size a) (c : Fin 5), o = ![640 * n, c.val] → _ :=
        fun h c ho => ldC_col P k.val n hn8 _ h C c ho hC (by omega) x 0
      rw [g _ 0 (off7_eq k _), g _ 1 (off8_eq k _), g _ 2 (off9_eq k _), g _ 3 (off10_eq k _), g _ 4 (off11_eq k _)]
      unfold k0_pay29 k0_pay30 k0_pay31 k0_pay32
      pointwise [areaR_tab, r1_tab, r2_tab, r3_tab, r4_tab]
      exact e x
    rw [forall_congr' e2]
    constructor
    · rintro ⟨h1, h2⟩ x hx
      by_cases hlt : x < 640 * n
      · exact h1 x hlt
      · have := h2 ⟨x - 640 * n, by omega⟩
        rwa [show 640 * n + (x - 640 * n) = x by omega] at this
    · intro h
      exact ⟨fun x hx => h x (by omega), fun x => h _ (by have := x.isLt; omega)⟩

/-! ### The kept row -/

theorem baseR_one (k : Fin 8) (C : ColC Ideal) (hC : ColInv P C (640 * k.val)) (l : Fin 640) :
    baseR (BitVec.ofNat 32 k.val) (chk_of_lt k) P C (ix2 0 l) = 1#1
      ↔ (prb P).V (640 * k.val + l.val) ∧ ∀ x, x < 640 * k.val → (prb P).K x → ¬ (prb P).S x (640 * k.val + l.val) := by
  have h := crossAt_le P k C hC l k.val (le_refl _)
  unfold baseR k0_pay44 k0_pay39
  rw [trips_eq]
  pointwise [r5_tab, sitofp_bit]
  rw [andi_one, ofBool_one, ofBool_one, ofBits_half, half_lt_ind, ofBool_one, h]
  rfl

theorem pay47_one (k : Fin 8) (i j : Fin 640) :
    k0_pay47 (F := Ideal) k0_pay11 (interB (BitVec.ofNat 32 k.val) (chk_of_lt k) P) (unionB (BitVec.ofNat 32 k.val) (chk_of_lt k) P) (ix2 i j) = 1#1
      ↔ (prb P).S (640 * k.val + i.val) (640 * k.val + j.val) ∧ i < j := by
  unfold k0_pay47 unionB k0_pay46 interB k0_pay45 k0_pay29 k0_pay30 k0_pay31 k0_pay32
  pointwise [pay11_apply, pay34_apply, pay35_apply, pay36_apply, pay37_apply, areaR_tab, areaC_tab, r1_tab, r2_tab, r3_tab, r4_tab]
  rw [andi_one, ofBool_one, ofBool_one, ofBits_half]
  rfl

/-- The row the inner loop ends with, place by place. -/
theorem inner_iff (bs : IVec S1x640 1) (a b : FVec Ideal S640x640 .f32) :
    ∃ kk : Fin 640 → Bool, (innerRes (k0_pay47 k0_pay11 a b) bs fuel (innerStart bs a b)).1 = rowOf kk
      ∧ ∀ n, kk n = true ↔ bs (ix2 0 n) = 1#1 ∧ ∀ i, k0_pay47 k0_pay11 a b (ix2 i n) = 1#1 → ¬ kk i = true := by
  obtain ⟨kk, h1, h2⟩ := inner_fix flagOps_ideal bs a b
  refine ⟨kk, by rw [h1], fun n => ?_⟩
  have e : kk n = trip _ _ kk n := (congrFun h2 n).symm
  generalize k0_pay47 k0_pay11 a b = mm at *
  rw [e]
  unfold trip
  simp only [Bool.and_eq_true, decide_eq_true_eq, Bool.not_eq_true', decide_eq_false_iff_not, not_exists, not_and]

/-- A row that is kept place by place among the places of a block is the kept row of the problem. -/
theorem kept_row (q : Prob) (b : ℕ) (kk : Fin 640 → Bool)
    (h : ∀ n : Fin 640, kk n = true ↔ (q.V (b + n.val) ∧ ∀ x, x < b → q.K x → ¬ q.S x (b + n.val))
      ∧ ∀ i : Fin 640, (q.S (b + i.val) (b + n.val) ∧ i < n) → ¬ kk i = true) (l : Fin 640) : kk l = true ↔ q.K (b + l.val) := by
  have key : ∀ n (hn : n < 640), kk ⟨n, hn⟩ = true ↔ q.K (b + n) := by
    intro n
    induction n using Nat.strong_induction_on with
    | _ n ih =>
      intro hn
      rw [h, Prob.K_iff, and_assoc]
      refine and_congr Iff.rfl ⟨?_, ?_⟩
      · rintro ⟨ha, hb⟩ j hj hK hS
        by_cases hlt : j < b
        · exact ha j hlt hK hS
        · have hj' : j - b < n := by omega
          have ej : b + (j - b) = j := by omega
          refine hb ⟨j - b, by omega⟩ ⟨?_, hj'⟩ ((ih _ hj' (by omega)).2 (by rwa [ej]))
          show q.S (b + (j - b)) _
          rwa [ej]
      · intro h
        refine ⟨fun x hx => h x (by omega), ?_⟩
        rintro ⟨i, hi⟩ ⟨hS, hi'⟩ hb
        have hi2 : i < n := hi'
        exact h (b + i) (by omega) ((ih i hi2 hi).1 hb) hS
  exact key l.val l.isLt

/-- Where the kept row comes from, for any float values. -/
theorem keepR_eq {F : FTy → Type} [FloatOps F] (a : BitVec 32) (h : k0_chk1 a) (P : PtC F) (C : ColC F) :
    keepR a h P C = (innerRes (k0_pay47 k0_pay11 (interB a h P) (unionB a h P)) (baseR a h P C) fuel
      (innerStart (baseR a h P C) (interB a h P) (unionB a h P))).1 := rfl

/-- The kept row of a block: the flags of the kept places. -/
theorem keepR_tab (k : Fin 8) (C : ColC Ideal) (hC : ColInv P C (640 * k.val)) (l : Fin 640) :
    keepR (BitVec.ofNat 32 k.val) (chk_of_lt k) P C (ix2 0 l) = ind ((prb P).K (640 * k.val + l.val)) := by
  obtain ⟨kk, h1, h2⟩ := inner_iff (baseR (BitVec.ofNat 32 k.val) (chk_of_lt k) P C)
    (interB (BitVec.ofNat 32 k.val) (chk_of_lt k) P) (unionB (BitVec.ofNat 32 k.val) (chk_of_lt k) P)
  rw [(keepR_eq _ _ P C).trans h1, rowOf_ix2, flag_ind]
  refine ind_congr (kept_row (prb P) (640 * k.val) kk (fun n => ?_) l)
  refine (h2 n).trans (and_congr (baseR_one P k C hC n) (forall_congr' fun i => ?_))
  exact imp_congr (pay47_one P k i n) Iff.rfl

end Cert.Proof.PI

end
-- ==== Proof.PI.Block.lean ====
/-
  What one block of the kernel leaves: the selected row, the one-hot rows, the counts it carries on, the store of kept
  columns, the first block's selection row and the result rows, all in terms of the selection problem of the table.
-/
module

public import proofs.«01_k».proof.Proof.PI.Cells

@[expose] public section

noncomputable section

namespace Cert.Proof.PI

open Cert.KernelIdeal Cert.KernelIdeal.Gen

open Idealize.ShloMosaic
open Idealize.ShloMosaic.TcCoe

/-! ### Sums along a block -/

/-- A block's row of indicators, summed up to and including a place. -/
theorem cum_ind (p : ℕ → Prop) (b : ℕ) (l : Fin 640) :
    ne (cnt p b) + ∑ x : Fin 640, (if x ≤ l then ind (p (b + x.val)) else 0) = ne (cnt p (b + l.val + 1)) := by
  rw [sum_ind_le (fun i => p (b + i)) l, ne_add, Nat.add_assoc b, cnt_add p b (l.val + 1)]

theorem all_ind (p : ℕ → Prop) (b : ℕ) : ne (cnt p b) + ∑ x : Fin 640, ind (p (b + x.val)) = ne (cnt p (b + 640)) := by
  rw [sum_ind_fin (fun i => p (b + i)) 640, ne_add, cnt_add p b 640]

/-- The place of a selected column, as the kernel computes it. -/
theorem pos_iff (p : ℕ → Prop) (n r : ℕ) : (ne (cnt p (n + 1)) - 1 = ne r ∧ p n) ↔ (p n ∧ cnt p n = r) := by
  constructor
  · rintro ⟨h, hp⟩
    refine ⟨hp, ?_⟩
    rw [cnt_pos p n hp, ← ne_one, ne_sub (by omega), ne_inj] at h; omega
  · rintro ⟨hp, h⟩
    refine ⟨?_, hp⟩
    rw [cnt_pos p n hp, ← ne_one, ne_sub (by omega), ne_inj]; omega

/-! ### The selected row -/

section Sel

variable (q : Prob) (b : ℕ) (h40 kf : FVec Ideal S1x640 .f32)
  (hH : ∀ l : Fin 640, h40 (ix2 0 l) = ind (q.H (b + l.val))) (hK : ∀ l : Fin 640, kf (ix2 0 l) = ind (q.K (b + l.val)))

include hH hK

theorem pay57_tab (l : Fin 640) : k0_pay57 (F := Ideal) h40 kf (ix2 0 l) = ind (q.KH (b + l.val)) := by
  unfold k0_pay57; pointwise; rw [hH, hK, ind_and]; rfl

theorem pay58_tab (l : Fin 640) : k0_pay58 (F := Ideal) h40 kf (ix2 0 l) = ind (q.KO (b + l.val)) := by
  unfold k0_pay58; pointwise; rw [hH, hK, ind_not, ind_and]; rfl

theorem pay59_tab (l : Fin 640) : k0_pay59 (F := Ideal) k0_pay9 k0_pay10 h40 kf (ix2 0 l)
    = ∑ x : Fin 640, (if x ≤ l then ind (q.KH (b + x.val)) else 0) := by
  unfold k0_pay59; pointwise [pay9_apply, pay10_apply]
  simp only [Finset.sum_ite_eq, Finset.mem_univ, if_true, pay57_tab q b h40 kf hH hK]

theorem pay60_one (hc : EReal) (hhc : hc = ne (cnt q.KH b)) (l : Fin 640) :
    k0_pay60 (F := Ideal) k0_pay9 k0_pay10 hc h40 kf (ix2 0 l) = 1#1 ↔ q.KH (b + l.val) ∧ cnt q.KH (b + l.val + 1) ≤ 15 := by
  unfold k0_pay60; pointwise
  rw [pay59_tab q b h40 kf hH hK, pay57_tab q b h40 kf hH hK, andi_one, ofBool_one, ofBool_one, ofBits_half, half_lt_ind, hhc, add_comm _ (ne _), cum_ind,
    ofBits_15, ne_le]

theorem pay61_one (l : Fin 640) : k0_pay61 (F := Ideal) h40 kf (ix2 0 l) = 1#1 ↔ q.KO (b + l.val) := by
  unfold k0_pay61; pointwise
  rw [pay58_tab q b h40 kf hH hK, ofBool_one, ofBits_half, half_lt_ind]

theorem pay62_tab (oc : EReal) (hoc : oc = ne (cnt q.KO b)) (l : Fin 640) :
    k0_pay62 (F := Ideal) k0_pay9 k0_pay10 oc h40 kf (ix2 0 l) = ne (cnt q.KO (b + l.val + 1)) := by
  unfold k0_pay62; pointwise [pay9_apply, pay10_apply]
  simp only [Finset.sum_ite_eq, Finset.mem_univ, if_true, hK]
  rw [pay59_tab q b h40 kf hH hK, hoc, sum_ind_le (fun i => q.K (b + i)) l, sum_ind_le (fun i => q.KH (b + i)) l]
  have e := cnt_split (fun i => q.K (b + i)) (fun i => q.H (b + i)) (l.val + 1)
  have e2 : cnt (fun i => q.K (b + i) ∧ q.H (b + i)) (l.val + 1) = cnt (fun i => q.KH (b + i)) (l.val + 1) := rfl
  have e3 : cnt (fun i => q.K (b + i) ∧ ¬ q.H (b + i)) (l.val + 1) = cnt (fun i => q.KO (b + i)) (l.val + 1) := rfl
  rw [e2, e3] at e
  rw [ne_sub (by omega), ne_add, ne_inj, Nat.add_assoc b, cnt_add q.KO b (l.val + 1)]
  omega

end Sel

/-! ### One block -/

section Step

variable (P : PtC Ideal) (k : Fin 8) (C : ColC Ideal) (s : St Ideal)

theorem pay40_tab (l : Fin 640) : k0_pay40 (F := Ideal) (r6 (BitVec.ofNat 32 k.val) (chk_of_lt k) P) (ix2 0 l) = ind ((prb P).H (640 * k.val + l.val)) := by
  unfold k0_pay40; pointwise [r6_tab, sitofp_bit]
  exact ind_congr (ofBool_one _)

/-- The counts carried into a block. -/
structure StInv (b : ℕ) : Prop where
  hc : s.hc = ne (cnt (prb P).KH b)
  oc : s.oc = ne (cnt (prb P).KO b)
  m : s.m = ne (cnt (prb P).Sel b)

variable (hC : ColInv P C (640 * k.val)) (hs : StInv P s (640 * k.val))

include hC hs

theorem pay64_one (l : Fin 640) :
    k0_pay64 (F := Ideal) (hselR (BitVec.ofNat 32 k.val) (chk_of_lt k) P s C) (okoR (BitVec.ofNat 32 k.val) (chk_of_lt k) P C)
      (cumoR (BitVec.ofNat 32 k.val) (chk_of_lt k) P s C) k0_pay63 (ix2 0 l) = 1#1 ↔ (prb P).Sel (640 * k.val + l.val) := by
  unfold k0_pay64 k0_pay63 hselR okoR cumoR
  pointwise
  rw [ori_one, andi_one, ofBool_one, pay60_one (prb P) (640 * k.val) _ _ (pay40_tab P k) (keepR_tab P k C hC) _ hs.hc,
    pay61_one (prb P) (640 * k.val) _ _ (pay40_tab P k) (keepR_tab P k C hC),
    pay62_tab (prb P) (640 * k.val) _ _ (pay40_tab P k) (keepR_tab P k C hC) _ hs.oc, ofBits_15, ne_le]
  rfl

theorem pay65_tab (l : Fin 640) :
    k0_pay65 (F := Ideal) (hselR (BitVec.ofNat 32 k.val) (chk_of_lt k) P s C) (okoR (BitVec.ofNat 32 k.val) (chk_of_lt k) P C)
      (cumoR (BitVec.ofNat 32 k.val) (chk_of_lt k) P s C) k0_pay63 (ix2 0 l) = ind ((prb P).Sel (640 * k.val + l.val)) := by
  unfold k0_pay65
  pointwise [sitofp_bit]
  exact ind_congr (pay64_one P k C s hC hs l)

theorem hotB_tab (r : Fin 32) (l : Fin 640) : hotB (BitVec.ofNat 32 k.val) (chk_of_lt k) P s C (ix2 r l)
    = ind ((prb P).Sel (640 * k.val + l.val) ∧ cnt (prb P).Sel (640 * k.val + l.val) = r.val) := by
  unfold hotB k0_pay67 k0_pay12
  pointwise [pay9_apply, pay10_apply]
  simp only [Finset.sum_ite_eq, Finset.mem_univ, if_true, pay65_tab P k C s hC hs]
  rw [select_ind]
  refine ind_congr ?_
  rw [andi_one, ofBool_one, pay64_one P k C s hC hs, hs.m, cum_ind, sitofp_nat _ (by omega), pos_iff]

/-- The counts carried out of a block. -/
theorem stepS_inv : StInv P (stepS (BitVec.ofNat 32 k.val) (chk_of_lt k) P s C) (640 * k.val + 640) := by
  refine ⟨?_, ?_, ?_⟩
  · show k0_pay80 s.hc _ = _
    unfold k0_pay80; pointwise
    simp only [pay57_tab (prb P) (640 * k.val) _ _ (pay40_tab P k) (keepR_tab P k C hC), Finset.sum_const, Finset.card_univ, Fintype.card_fin, one_smul]
    rw [hs.hc, all_ind]
  · show k0_pay3 s.oc _ = _
    unfold k0_pay3 k0_pay81; pointwise
    simp only [pay58_tab (prb P) (640 * k.val) _ _ (pay40_tab P k) (keepR_tab P k C hC), Finset.sum_const, Finset.card_univ, Fintype.card_fin, one_smul]
    rw [hs.oc, all_ind]
  · show k0_pay4 s.m _ = _
    unfold k0_pay4; pointwise
    simp only [pay65_tab P k C s hC hs, Finset.sum_const, Finset.card_univ, Fintype.card_fin, one_smul]
    rw [hs.m, all_ind]

omit hs in
open Classical in
/-- The store of kept columns after a block. -/
theorem stepC_inv : ColInv P (stepC (BitVec.ofNat 32 k.val) (chk_of_lt k) P C) (640 * k.val + 640) := by
  intro x c hx
  by_cases hlt : x.val < 640 * k.val
  · rw [stepC_out k P C x _ (.inl hlt)]; exact hC x c hlt
  · obtain ⟨l, rfl⟩ : ∃ l : Fin 640, x = pl k l := ⟨⟨x.val - 640 * k.val, by omega⟩, Fin.ext (by show x.val = 640 * k.val + (x.val - 640 * k.val); omega)⟩
    rw [stepC_in]
    show _ = if (prb P).K (640 * k.val + l.val) then colVal P c (640 * k.val + l.val) else 0
    rw [← ind_mul, mul_comm]
    have hk := keepR_tab P k C hC l
    match c with
    | ⟨0, _⟩ =>
      show k0_pay51 (F := Ideal) k0_pay9 _ _ (ix2 l 0) = _
      unfold k0_pay51; pointwise [pay34_apply, pay50_apply, r1_tab]; rw [hk]; rfl
    | ⟨1, _⟩ =>
      show k0_pay52 (F := Ideal) k0_pay9 _ _ (ix2 l 0) = _
      unfold k0_pay52; pointwise [pay35_apply, pay50_apply, r2_tab]; rw [hk]; rfl
    | ⟨2, _⟩ =>
      show k0_pay53 (F := Ideal) k0_pay9 _ _ (ix2 l 0) = _
      unfold k0_pay53; pointwise [pay36_apply, pay50_apply, r3_tab]; rw [hk]; rfl
    | ⟨3, _⟩ =>
      show k0_pay54 (F := Ideal) k0_pay9 _ _ (ix2 l 0) = _
      unfold k0_pay54; pointwise [pay37_apply, pay50_apply, r4_tab]; rw [hk]; rfl
    | ⟨4, _⟩ =>
      show k0_pay56 (F := Ideal) (k0_pay55 k0_pay9 (areaC (BitVec.ofNat 32 k.val) (chk_of_lt k) P) (keepR (BitVec.ofNat 32 k.val) (chk_of_lt k) P C)) (ix2 l 0) = _
      unfold k0_pay56 k0_pay55; pointwise [areaC_tab, pay50_apply]; rw [hk]; rfl

/-- The first block's selection row after a block. -/
theorem stepZ_first (Z : SelC Ideal) (h0 : k.val = 0) (l : Fin 640) :
    stepZ (BitVec.ofNat 32 k.val) (chk_of_lt k) P s C Z (ix2 0 l) = ind ((prb P).Sel l.val) := by
  have hb : Scalar.cmpi .ne (Scalar.extui (Scalar.cmpi .eq (BitVec.ofNat 32 k.val) 0#32) : BitVec 32) 0#32 = 1#1 := by rw [h0]; decide
  unfold stepZ
  rw [if_pos hb, stZ_eq]
  unfold k0_pay66
  pointwise
  rw [pay65_tab P k C s hC hs, h0, Nat.mul_zero, Nat.zero_add]

omit hC hs in
theorem stepZ_later (Z : SelC Ideal) (h0 : k.val ≠ 0) : stepZ (BitVec.ofNat 32 k.val) (chk_of_lt k) P s C Z = Z := by
  have hb : ¬ Scalar.cmpi .ne (Scalar.extui (Scalar.cmpi .eq (BitVec.ofNat 32 k.val) 0#32) : BitVec 32) 0#32 = 1#1 := by
    have : ∀ k : Fin 8, k.val ≠ 0 → ¬ Scalar.cmpi .ne (Scalar.extui (Scalar.cmpi .eq (BitVec.ofNat 32 k.val) 0#32) : BitVec 32) 0#32 = 1#1 := by decide
    exact this k h0
  unfold stepZ
  rw [if_neg hb]

end Step

/-! ### The result rows -/

/-- What a result column holds for a place: the corners shifted back, the score, the label. -/
def plane (P : PtC Ideal) (mc : EReal) (c : Fin 6) (x : ℕ) : EReal :=
  if c.val < 4 then tabOf P c x - tabOf P 5 x * mc else tabOf P c x

/-- The result rows before place `b`: in row `r` the sum over the places selected for it. -/
def OutInv (P : PtC Ideal) (mc : EReal) (O : OdC Ideal) (b : ℕ) : Prop :=
  ∀ (r : Fin 32) (c : Fin 6), atO O r ⟨c.val, by omega⟩
    = ∑ x ∈ Finset.range b, ind ((prb P).Sel x ∧ cnt (prb P).Sel x = r.val) * plane P mc c x

/-- Result rows to which each column has had a one-hot sum added. -/
theorem stO_six (e : FVec Ideal S32x640 .f32) (O : OdC Ideal) (w0 w1 w2 w3 w4 w5 : FVec Ideal S32x1 .f32) (f : Fin 6 → Fin 640 → EReal)
    (g0 : ∀ r : Fin 32, w0 (ix2 r 0) = atO O r 0 + ∑ l, e (ix2 r l) * f 0 l) (g1 : ∀ r : Fin 32, w1 (ix2 r 0) = atO O r 1 + ∑ l, e (ix2 r l) * f 1 l)
    (g2 : ∀ r : Fin 32, w2 (ix2 r 0) = atO O r 2 + ∑ l, e (ix2 r l) * f 2 l) (g3 : ∀ r : Fin 32, w3 (ix2 r 0) = atO O r 3 + ∑ l, e (ix2 r l) * f 3 l)
    (g4 : ∀ r : Fin 32, w4 (ix2 r 0) = atO O r 4 + ∑ l, e (ix2 r l) * f 4 l) (g5 : ∀ r : Fin 32, w5 (ix2 r 0) = atO O r 5 + ∑ l, e (ix2 r l) * f 5 l)
    (r : Fin 32) (c : Fin 6) :
    atO (stO ![0, 5] inb_S32x8_S32x1_0_5 (stO ![0, 4] inb_S32x8_S32x1_0_4 (stO ![0, 3] inb_S32x8_S32x1_0_3 (stO ![0, 2] inb_S32x8_S32x1_0_2
      (stO ![0, 1] inb_S32x8_S32x1_0_1 (stO ![0, 0] inb_S32x8_S32x1_0_0 O w0) w1) w2) w3) w4) w5) r ⟨c.val, by omega⟩
      = atO O r ⟨c.val, by omega⟩ + ∑ l, e (ix2 r l) * f c l := by
  rw [stO_apply _ _ _ _ _ _ rfl, stO_apply _ _ _ _ _ _ rfl, stO_apply _ _ _ _ _ _ rfl, stO_apply _ _ _ _ _ _ rfl, stO_apply _ _ _ _ _ _ rfl,
    stO_apply _ _ _ _ _ _ rfl]
  match c with
  | ⟨0, _⟩ => exact g0 r
  | ⟨1, _⟩ => exact g1 r
  | ⟨2, _⟩ => exact g2 r
  | ⟨3, _⟩ => exact g3 r
  | ⟨4, _⟩ => exact g4 r
  | ⟨5, _⟩ => exact g5 r

theorem ldO_col (o : Fin 2 → Nat) (h : ∀ a, o a + S32x1.size a ≤ S32x8.size a) (O : OdC Ideal) (r : Fin 32) (c : Fin 8)
    (ho : o = ![0, c.val]) : ldO o h O (ix2 r 0) = atO O r c := by
  subst ho; exact ldO_apply _ _ _ _ _ _ rfl rfl

/-- The result rows after a block. -/
theorem stepO_inv (P : PtC Ideal) (mc : EReal) (k : Fin 8) (C : ColC Ideal) (s : St Ideal) (hC : ColInv P C (640 * k.val))
    (hs : StInv P s (640 * k.val)) (O : OdC Ideal) (hO : OutInv P mc O (640 * k.val)) :
    OutInv P mc (stepO (BitVec.ofNat 32 k.val) (chk_of_lt k) P mc s C O) (640 * k.val + 640) := by
  intro r c
  rw [Finset.sum_range_add, ← hO r c,
    ← Fin.sum_univ_eq_sum_range (fun x => ind ((prb P).Sel (640 * k.val + x) ∧ cnt (prb P).Sel (640 * k.val + x) = r.val) * plane P mc c (640 * k.val + x)) 640]
  have e : ∀ l : Fin 640, ind ((prb P).Sel (640 * k.val + l.val) ∧ cnt (prb P).Sel (640 * k.val + l.val) = r.val) * plane P mc c (640 * k.val + l.val)
      = hotB (BitVec.ofNat 32 k.val) (chk_of_lt k) P s C (ix2 r l) * plane P mc c (640 * k.val + l.val) := fun l => by
    rw [hotB_tab P k C s hC hs]
  rw [Finset.sum_congr rfl fun l _ => e l]
  unfold stepO
  dsimp only
  refine stO_six _ O _ _ _ _ _ _ (fun c l => plane P mc c (640 * k.val + l.val)) ?_ ?_ ?_ ?_ ?_ ?_ r c
  · intro r
    unfold k0_pay74 k0_pay69 k0_pay68
    pointwise [r1_tab, r6_tab]
    rw [ldO_col ![0, 0] _ _ _ 0 rfl]; rfl
  · intro r
    unfold k0_pay75 k0_pay70 k0_pay71 k0_pay68
    pointwise [r2_tab, r6_tab]
    rw [ldO_col ![0, 1] _ _ _ 1 rfl, stO_apply _ _ _ _ _ _ rfl]; rfl
  · intro r
    unfold k0_pay76 k0_pay68
    pointwise [r3_tab, r6_tab]
    rw [ldO_col ![0, 2] _ _ _ 2 rfl, stO_apply _ _ _ _ _ _ rfl, stO_apply _ _ _ _ _ _ rfl]; rfl
  · intro r
    unfold k0_pay77 k0_pay72 k0_pay68
    pointwise [r4_tab, r6_tab]
    rw [ldO_col ![0, 3] _ _ _ 3 rfl, stO_apply _ _ _ _ _ _ rfl, stO_apply _ _ _ _ _ _ rfl, stO_apply _ _ _ _ _ _ rfl]; rfl
  · intro r
    unfold k0_pay78 k0_pay73
    pointwise [r5_tab]
    rw [ldO_col ![0, 4] _ _ _ 4 rfl, stO_apply _ _ _ _ _ _ rfl, stO_apply _ _ _ _ _ _ rfl, stO_apply _ _ _ _ _ _ rfl, stO_apply _ _ _ _ _ _ rfl]; rfl
  · intro r
    unfold k0_pay79 k0_pay68
    pointwise [r6_tab]
    rw [ldO_col ![0, 5] _ _ _ 5 rfl, stO_apply _ _ _ _ _ _ rfl, stO_apply _ _ _ _ _ _ rfl, stO_apply _ _ _ _ _ _ rfl, stO_apply _ _ _ _ _ _ rfl,
      stO_apply _ _ _ _ _ _ rfl]; rfl

end Cert.Proof.PI

end
-- ==== Proof.PI.Value.lean ====
/-
  The whole kernel on its table: after the blocks and the fill, output row `r` below 30 holds the place that the
  selection problem puts there, and the flag of a row says whether the row is below the number selected.
-/
module

public import proofs.«01_k».proof.Proof.PI.Block

@[expose] public section

noncomputable section

namespace Cert.Proof.PI

open Cert.KernelIdeal Cert.KernelIdeal.Gen

open Idealize.ShloMosaic
open Idealize.ShloMosaic.TcCoe

variable (P : PtC Ideal) (mc : EReal)

theorem oge_one (x y : EReal) : Scalar.cmpf (F := Ideal) (φ := .f32) .oge x y = 1#1 ↔ y ≤ x := ofBool_one _
theorem ogt_one (x y : EReal) : Scalar.cmpf (F := Ideal) (φ := .f32) .ogt x y = 1#1 ↔ y < x := ofBool_one _
theorem and_one (x y : BitVec 1) : Scalar.andi x y = 1#1 ↔ x = 1#1 ∧ y = 1#1 := andi_one x y
theorem or_one (x y : BitVec 1) : Scalar.ori x y = 1#1 ↔ x = 1#1 ∨ y = 1#1 := ori_one x y

/-! ### When a block says it is the last -/

theorem pay39_tab (k : Fin 8) (l : Fin 640) : k0_pay39 (F := Ideal) (r5 (BitVec.ofNat 32 k.val) (chk_of_lt k) P) (ix2 0 l)
    = ind ((prb P).V (640 * k.val + l.val)) := by
  unfold k0_pay39; pointwise [r5_tab, sitofp_bit]
  exact ind_congr (ofBool_one _)

theorem pay5_pos (k : Fin 8) (h : (0 : EReal) < k0_pay5 (F := Ideal) (k0_pay39 (r5 (BitVec.ofNat 32 k.val) (chk_of_lt k) P))) :
    ∃ l : Fin 640, ¬ (prb P).V (640 * k.val + l.val) := by
  by_contra hn
  have hV : ∀ l : Fin 640, (prb P).V (640 * k.val + l.val) := fun l => by
    by_contra h'; exact hn ⟨l, h'⟩
  refine absurd h (not_lt.2 ?_)
  unfold k0_pay5
  pointwise [pay39_tab]
  simp only [Finset.fold_max_le, ofBits_bot, bot_le, true_and]
  intro x _
  rw [ofBits_half, if_neg (by rw [ind_lt_half]; exact not_not.2 (hV x.2))]

variable (k : Fin 8) (C : ColC Ideal) (s : St Ideal)

/-- After the block that says it is the last nothing more is selected. -/
theorem stepS_done (hV : ∀ i j, i ≤ j → (prb P).V j → (prb P).V i) (hC : ColInv P C (640 * k.val)) (hs : StInv P s (640 * k.val))
    (hd : (stepS (BitVec.ofNat 32 k.val) (chk_of_lt k) P s C).dn = 1#1) (j : ℕ) (hj : 640 * k.val + 640 ≤ j) : ¬ (prb P).Sel j := by
  have hi := stepS_inv P k C s hC hs
  have h1 := hi.hc
  have h2 := hi.oc
  unfold stepS at hd h1 h2
  dsimp only at hd h1 h2
  rw [h1, h2, or_one, and_one, oge_one, oge_one, ogt_one] at hd
  have e15 : (Scalar.ofBits .f32 0x41700000#32 : Ideal .f32) = ne 15 := ofBits_15
  have e0 : (Scalar.ofBits .f32 0x00000000#32 : Ideal .f32) = (0 : EReal) := Ideal.ofBits_zero_f32
  rw [e15, e0] at hd
  rcases hd with ⟨ha, hb⟩ | hp
  · exact (prb P).sel_full ((ne_le _ _).1 ha) ((ne_le _ _).1 hb) hj
  · obtain ⟨l, hl⟩ := pay5_pos P k hp
    exact (prb P).sel_invalid hV hl (by omega)

/-! ### The blocks one after another -/

/-- What holds before block `k`. -/
structure Inv (n : ℕ) (s : St Ideal) (M : Mem Ideal) : Prop where
  st : StInv P s (640 * n)
  col : ColInv P M.C (640 * n)
  out : OutInv P mc M.O (640 * n)
  sel : 0 < n → ∀ l : Fin 640, M.Z (ix2 0 l) = ind ((prb P).Sel l.val)
  done : s.dn = 1#1 → 0 < n ∧ ∀ j, 640 * n ≤ j → ¬ (prb P).Sel j

/-- What holds after the blocks. -/
structure Fin' (s : St Ideal) (M : Mem Ideal) : Prop where
  m : s.m = ne (cnt (prb P).Sel 5120)
  out : OutInv P mc M.O 5120
  sel : ∀ l : Fin 640, M.Z (ix2 0 l) = ind ((prb P).Sel l.val)

theorem outInv_extend (O : OdC Ideal) {a b : ℕ} (hab : a ≤ b) (h : ∀ j, a ≤ j → ¬ (prb P).Sel j) (hO : OutInv P mc O a) : OutInv P mc O b := by
  intro r c
  rw [hO r c]
  refine Finset.sum_subset (fun x hx => Finset.mem_range.2 (lt_of_lt_of_le (Finset.mem_range.1 hx) hab)) fun x _ hx => ?_
  have hx' : a ≤ x := not_lt.1 fun h' => hx (Finset.mem_range.2 h')
  rw [ind_false fun h' => h x hx' h'.1, zero_mul]

theorem xor_one (x : BitVec 1) : Scalar.xori x 1#1 = 1#1 ↔ x ≠ 1#1 := by revert x; decide

theorem inv_step (hV : ∀ i j, i ≤ j → (prb P).V j → (prb P).V i) (M : Mem Ideal) (h : Inv P mc k.val s M) :
    Inv P mc (k.val + 1) (stepS (BitVec.ofNat 32 k.val) (chk_of_lt k) P s M.C) (stepM (BitVec.ofNat 32 k.val) (chk_of_lt k) P mc s M) := by
  have e : 640 * (k.val + 1) = 640 * k.val + 640 := by omega
  refine ⟨?_, ?_, ?_, ?_, ?_⟩
  · rw [e]; exact stepS_inv P k M.C s h.col h.st
  · rw [e]; unfold stepM; dsimp only; exact stepC_inv P k M.C h.col
  · rw [e]; unfold stepM; dsimp only; exact stepO_inv P mc k M.C s h.col h.st M.O h.out
  · intro _ l
    unfold stepM; dsimp only
    by_cases h0 : k.val = 0
    · exact stepZ_first P k M.C s h.col h.st M.Z h0 l
    · rw [stepZ_later P k M.C s M.Z h0]; exact h.sel (by omega) l
  · intro hd
    refine ⟨by omega, fun j hj => ?_⟩
    exact stepS_done P k M.C s hV h.col h.st hd j (by omega)

theorem outRun_zero {F : FTy → Type} [FloatOps F] (P : PtC F) (mc : F .f32) (k : ℕ) (s : St F) (M : Mem F) : outRun P mc 0 k s M = (s, M) := rfl

theorem outRun_succ {F : FTy → Type} [FloatOps F] (P : PtC F) (mc : F .f32) (n : ℕ) (k : Fin 8) (s : St F) (M : Mem F) :
    outRun P mc (n + 1) k.val s M = if Scalar.xori s.dn 1#1 = 1#1 then
        outRun P mc n (k.val + 1) (stepS (BitVec.ofNat 32 k.val) (chk_of_lt k) P s M.C) (stepM (BitVec.ofNat 32 k.val) (chk_of_lt k) P mc s M)
      else (s, M) := by
  rw [outRun, dif_pos k.isLt]

theorem outRun_fin (hV : ∀ i j, i ≤ j → (prb P).V j → (prb P).V i) : ∀ (n k : ℕ) (s : St Ideal) (M : Mem Ideal), n + k = 8 → Inv P mc k s M →
    Fin' P mc (outRun P mc n k s M).1 (outRun P mc n k s M).2
  | 0, k, s, M, hk, h => by
    obtain rfl : k = 8 := by omega
    rw [outRun_zero]
    exact ⟨h.st.m, h.out, h.sel (by omega)⟩
  | n + 1, k, s, M, hk, h => by
    have e := outRun_succ P mc n (⟨k, by omega⟩ : Fin 8) s M
    dsimp only at e
    rw [e]
    by_cases hd : s.dn = 1#1
    · rw [if_neg (by rw [xor_one]; exact not_not.2 hd)]
      have hd' := h.done hd
      refine ⟨?_, outInv_extend P mc M.O (by omega) hd'.2 h.out, h.sel hd'.1⟩
      rw [h.st.m, cnt_stop (prb P).Sel (fun j hj _ => hd'.2 j hj) (show 640 * k ≤ 5120 by omega)]
    · rw [if_pos (by rw [xor_one]; exact hd)]
      exact outRun_fin hV n (k + 1) _ _ (by omega) (inv_step P mc ⟨k, by omega⟩ s hV M h)

theorem outEnd_eq {F : FTy → Type} [FloatOps F] (P : PtC F) (Mc : McC F) (O : OdC F) (Z : SelC F) (C : ColC F) :
    outEnd P Mc O Z C = outRun P (mcOf Mc) 8 0 St.init ⟨k0_pay8, Z, C⟩ := by
  rw [← initO_eq O]; rfl

theorem inv_init (Z : SelC Ideal) (C : ColC Ideal) : Inv P mc 0 St.init ⟨k0_pay8 (F := Ideal), Z, C⟩ := by
  refine ⟨⟨?_, ?_, ?_⟩, fun x c h => absurd h (by omega), fun r c => ?_, fun h => absurd h (by omega), fun h => absurd h (by decide)⟩
  · exact Ideal.ofBits_zero_f32.trans ne_zero.symm
  · exact Ideal.ofBits_zero_f32.trans ne_zero.symm
  · exact Ideal.ofBits_zero_f32.trans ne_zero.symm
  · rw [Nat.mul_zero, Finset.sum_range_zero]
    show k0_pay8 (F := Ideal) (ix2 r ⟨c.val, by omega⟩) = 0
    unfold k0_pay8; exact Ideal.ofBits_zero_f32

theorem outEnd_fin (hV : ∀ i j, i ≤ j → (prb P).V j → (prb P).V i) (Mc : McC Ideal) (O : OdC Ideal) (Z : SelC Ideal) (C : ColC Ideal) :
    Fin' P (mcOf Mc) (outEnd P Mc O Z C).1 (outEnd P Mc O Z C).2 := by
  rw [outEnd_eq]
  exact outRun_fin P (mcOf Mc) hV 8 0 _ _ rfl (inv_init P (mcOf Mc) Z C)

/-! ### The fill -/

theorem pay15_tab (Z : SelC Ideal) (hZ : ∀ l : Fin 640, Z (ix2 0 l) = ind ((prb P).Sel l.val)) (l : Fin 640) :
    k0_pay15 (F := Ideal) Z (ix2 0 l) = ne (cnt (fun i => ¬ (prb P).Sel i) (l.val + 1)) := by
  unfold k0_pay15 k0_pay14; pointwise [pay9_apply, pay10_apply]
  simp only [Finset.sum_ite_eq, Finset.mem_univ, if_true, hZ, ind_not]
  exact sum_ind_le (fun i => ¬ (prb P).Sel i) l

theorem fillHot_tab (M : ℕ) (hM : M ≤ 30) (Z : SelC Ideal) (hZ : ∀ l : Fin 640, Z (ix2 0 l) = ind ((prb P).Sel l.val)) (r : Fin 32) (l : Fin 640) :
    fillHot (F := Ideal) (ne M) Z (ix2 r l) = ind (¬ (prb P).Sel l.val ∧ M + cnt (fun i => ¬ (prb P).Sel i) l.val = r.val ∧ r.val < 30) := by
  unfold fillHot k0_pay18 k0_pay12 k0_pay16 k0_pay17 k0_pay14
  rw [ldZ_eq]
  pointwise
  rw [select_ind]
  refine ind_congr ?_
  rw [andi_one, andi_one, ofBool_one, ofBool_one, ofBool_one, pay15_tab P Z hZ, hZ, ofBits_30, ofBits_half, sitofp_nat _ (by omega), ne_sub hM, ne_add, ne_le]
  rw [ind_not, half_lt_ind]
  by_cases hS : (prb P).Sel l.val
  · exact ⟨fun h => absurd hS h.2.1, fun h => absurd hS h.1⟩
  · rw [cnt_pos (fun i => ¬ (prb P).Sel i) l.val hS, ← ne_one, ne_sub (by omega), ne_inj]
    constructor
    · rintro ⟨h1, h2, h3⟩; exact ⟨h2, by omega, by omega⟩
    · rintro ⟨h1, h2, h3⟩; exact ⟨by omega, h1, by omega⟩

theorem tabOf_lt (x : Fin 5120) (c : Fin 6) : tabOf P c x.val = atP P ⟨c.val, by omega⟩ x := by unfold tabOf; rw [dif_pos x.isLt]

theorem ldP_tab (o : Fin 2 → Nat) (h : ∀ a, o a + S1x640.size a ≤ S8x5120.size a) (c : Fin 6) (ho : o = ![c.val, 0]) (r : Fin 1) (l : Fin 640) :
    ldP o h P (ix2 r l) = tabOf P c l.val := by
  subst ho
  rw [ldP_apply _ _ _ _ _ ⟨c.val, by omega⟩ ⟨l.val, by omega⟩ rfl (Nat.zero_add _)]
  exact (tabOf_lt P ⟨l.val, by omega⟩ c).symm

/-- The result rows after the fill. -/
theorem finO_tab (m : EReal) (Z : SelC Ideal) (O : OdC Ideal) (r : Fin 32) (c : Fin 6) :
    atO (finO P mc m Z O) r ⟨c.val, by omega⟩ = atO O r ⟨c.val, by omega⟩ + ∑ l : Fin 640, fillHot m Z (ix2 r l) * plane P mc c l.val := by
  unfold finO
  dsimp only
  refine stO_six (fillHot m Z) O _ _ _ _ _ _ (fun c l => plane P mc c l.val) ?_ ?_ ?_ ?_ ?_ ?_ r c
  · intro r
    unfold k0_pay24 k0_pay19
    pointwise
    rw [ldO_col ![0, 0] _ _ _ 0 rfl]
    simp only [ldP_tab P ![0, 0] _ 0 rfl, ldP_tab P ![5, 0] _ 5 rfl]; rfl
  · intro r
    unfold k0_pay25 k0_pay20 k0_pay19
    pointwise
    rw [ldO_col ![0, 1] _ _ _ 1 rfl, stO_apply _ _ _ _ _ _ rfl]
    simp only [ldP_tab P ![1, 0] _ 1 rfl, ldP_tab P ![5, 0] _ 5 rfl]; rfl
  · intro r
    unfold k0_pay26 k0_pay21 k0_pay19
    pointwise
    rw [ldO_col ![0, 2] _ _ _ 2 rfl, stO_apply _ _ _ _ _ _ rfl, stO_apply _ _ _ _ _ _ rfl]
    simp only [ldP_tab P ![2, 0] _ 2 rfl, ldP_tab P ![5, 0] _ 5 rfl]; rfl
  · intro r
    unfold k0_pay27 k0_pay22 k0_pay19
    pointwise
    rw [ldO_col ![0, 3] _ _ _ 3 rfl, stO_apply _ _ _ _ _ _ rfl, stO_apply _ _ _ _ _ _ rfl, stO_apply _ _ _ _ _ _ rfl]
    simp only [ldP_tab P ![3, 0] _ 3 rfl, ldP_tab P ![5, 0] _ 5 rfl]; rfl
  · intro r
    unfold k0_pay28 k0_pay23
    pointwise
    rw [ldO_col ![0, 4] _ _ _ 4 rfl, stO_apply _ _ _ _ _ _ rfl, stO_apply _ _ _ _ _ _ rfl, stO_apply _ _ _ _ _ _ rfl, stO_apply _ _ _ _ _ _ rfl]
    simp only [ldP_tab P ![4, 0] _ 4 rfl]; rfl
  · intro r
    unfold k0_pay1 k0_pay19
    pointwise
    rw [ldO_col ![0, 5] _ _ _ 5 rfl, stO_apply _ _ _ _ _ _ rfl, stO_apply _ _ _ _ _ _ rfl, stO_apply _ _ _ _ _ _ rfl, stO_apply _ _ _ _ _ _ rfl,
      stO_apply _ _ _ _ _ _ rfl]
    simp only [ldP_tab P ![5, 0] _ 5 rfl]; rfl

/-! ### The results -/

theorem kerO_eq {F : FTy → Type} [FloatOps F] (P : PtC F) (Mc : McC F) (O : OdC F) (Z : SelC F) (C : ColC F) :
    kerO P Mc O Z C = finO P (mcOf Mc) (outEnd P Mc O Z C).1.m (outEnd P Mc O Z C).2.Z (outEnd P Mc O Z C).2.O := rfl

theorem kerV_eq {F : FTy → Type} [FloatOps F] (P : PtC F) (Mc : McC F) (O : OdC F) (Z : SelC F) (C : ColC F) (V : OvC F) :
    kerV P Mc O Z C V = k0_pay2 (outEnd P Mc O Z C).1.m := finV_eq _ _

variable (hV : ∀ i j, i ≤ j → (prb P).V j → (prb P).V i)

include hV

/-- Row `r` of the result holds the place that stands in row `r`. -/
theorem kerO_at (Mc : McC Ideal) (O : OdC Ideal) (Z : SelC Ideal) (C : ColC Ideal) (r : Fin 32) (hr : r.val < 30) (c : Fin 6)
    {x : ℕ} (hx : x < 5120) (hat : (prb P).At 5120 r.val x) : atO (kerO P Mc O Z C) r ⟨c.val, by omega⟩ = plane P (mcOf Mc) c x := by
  have hf := outEnd_fin P hV Mc O Z C
  rw [kerO_eq, finO_tab, hf.out r c, hf.m]
  simp only [fillHot_tab P _ ((prb P).sel_le 5120) _ hf.sel]
  rcases hat with ⟨h1, h2⟩ | ⟨h1, h2⟩
  · rw [Finset.sum_eq_single x, ind_true ⟨h1, h2⟩, one_mul, Finset.sum_eq_zero, add_zero]
    · intro l _
      rw [ind_false, zero_mul]
      rintro ⟨_, h, _⟩
      have := cnt_lt (prb P).Sel h1 hx
      omega
    · intro y _ hy
      rw [ind_false, zero_mul]
      rintro ⟨h3, h4⟩
      exact hy (cnt_inj _ h3 h1 (by omega))
    · intro h; exact absurd (Finset.mem_range.2 hx) h
  · have h640 : x < 640 := by
      rcases (prb P).at_exists (N := 5120) hr with ⟨y, hy, h3, h4⟩ | ⟨_, y, hy, h3, h4⟩
      · have := (prb P).at_unique hx hy (.inr ⟨h1, h2⟩) (.inl ⟨h3, h4⟩)
        subst this; exact absurd h3 h1
      · have := (prb P).at_unique hx (show y < 5120 by omega) (.inr ⟨h1, h2⟩) (.inr ⟨h3, h4⟩)
        omega
    rw [Finset.sum_eq_zero, zero_add, Finset.sum_eq_single (⟨x, h640⟩ : Fin 640), ind_true ⟨h1, h2, hr⟩, one_mul]
    · intro y _ hy
      rw [ind_false, zero_mul]
      rintro ⟨h3, h4, _⟩
      exact hy (Fin.ext (cnt_inj (fun i => ¬ (prb P).Sel i) h3 h1 (by show cnt _ y.val = cnt _ x; omega)))
    · intro h; exact absurd (Finset.mem_univ _) h
    · intro y hy
      rw [ind_false, zero_mul]
      rintro ⟨h3, h4⟩
      have := cnt_lt (prb P).Sel h3 (Finset.mem_range.1 hy)
      omega

/-- The flag of row `r` says whether the row holds a selected place. -/
theorem kerV_at (Mc : McC Ideal) (O : OdC Ideal) (Z : SelC Ideal) (C : ColC Ideal) (V : OvC Ideal) (r : Fin 32) :
    kerV P Mc O Z C V (ix2 r 0) = ind (r.val < cnt (prb P).Sel 5120) := by
  have hf := outEnd_fin P hV Mc O Z C
  rw [kerV_eq, hf.m]
  unfold k0_pay2
  pointwise
  rw [sitofp_nat _ (by omega)]
  simp only [ne_lt]
  unfold ind
  split <;> rfl

end Cert.Proof.PI

end
-- ==== Proof.Order.lean ====
/-
  The order of the boxes: both programs sort by the same key, stably, and the selected boxes of the sorted table are
  found again by a second stable sort of which only the first thirty rows are kept.
-/
module

public import proofs.«01_k».proof.Proof.Num
public import Idealize.ShloMosaic.Lib.SortFacts
public import Idealize.ShloMosaic.Lib.SortPrefix

@[expose] public section

noncomputable section

namespace Cert.Proof

open Idealize.ShloMosaic

/-! ### A stable sort by a key is a sort by the key and then the position -/

/-- The order by a key alone. -/
def ltKey {n : ℕ} (key : Fin n → EReal) (a b : Fin n) : Bool := open Classical in decide (key a < key b)

/-- The order by the key and then the position. -/
def ltPos {n : ℕ} (key : Fin n → EReal) (a b : Fin n) : Bool :=
  open Classical in decide (key a < key b) || (decide (key a = key b) && decide (a < b))

theorem stable_pos {n : ℕ} (key : Fin n → EReal) (l : List (Fin n)) (hl : l.Pairwise (· < ·)) :
    stableSort (ltKey key) l = stableSort (ltPos key) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.1 hb)
    unfold ltKey ltPos
    simp [not_lt.2 hab.le]

theorem sortedFrom_pos {n : ℕ} (key : Fin n → EReal) : sortedFrom (ltKey key) = sortedFrom (ltPos key) := by
  funext k
  unfold sortedFrom sortPositions
  rw [List.get_of_eq (stable_pos key (List.finRange n) (List.pairwise_lt_finRange n))]
  rfl

theorem ltPos_strict {n : ℕ} (key : Fin n → EReal) : StrictTotalBefore (ltPos key) := by
  classical
  exact StrictTotalBefore.of_key_then_position (fun a b => decide (a < b)) key (fun a => by simp)
    (fun a b c h1 h2 => by simp only [decide_eq_true_eq] at *; exact h1.trans h2)
    (fun a b => by simp only [decide_eq_true_eq]; exact lt_trichotomy a b)

theorem sorted_le {n : ℕ} (key : Fin n → EReal) {i j : Fin n} (hij : i ≤ j) :
    key (sortedFrom (ltKey key) i) ≤ key (sortedFrom (ltKey key) j) := by
  rcases eq_or_lt_of_le hij with rfl | h
  · exact le_refl _
  · have := sortedFrom_noInversion (ltKey key) (ltKey key)
      (fun a b h => by unfold ltKey at *; simp only [decide_eq_true_eq, decide_eq_false_iff_not] at *; exact not_lt.2 h.le)
      (fun _ _ h => h)
      (fun a b c h1 h2 => by unfold ltKey at *; simp only [decide_eq_false_iff_not, not_lt] at *; exact h2.trans h1) i j h
    unfold ltKey at this ⊢
    simpa only [decide_eq_false_iff_not, not_lt] using this

/-! ### Finding the selected places by a second sort -/

section Top

variable (q : Prob) (N : ℕ) (M : Fin N → EReal) (hbot : ∀ i : Fin N, ¬ q.Sel i.val → M i = ⊥) (hsel : ∀ i : Fin N, q.Sel i.val → ⊥ < M i)
  (hanti : ∀ i j : Fin N, i ≤ j → q.Sel i.val → q.Sel j.val → M j ≤ M i)

include hbot hsel hanti

/-- A place of a later row does not sort before one of an earlier row. -/
theorem top_order {r r' : ℕ} (hr : r < r') (x y : Fin N) (hx : q.At N r x.val) (hy : q.At N r' y.val) :
    ltPos (fun i => -M i) y x = false := by
  have key : M y < M x ∨ (M y = M x ∧ x < y) := by
    rcases hx with ⟨h1, h2⟩ | ⟨h1, h2⟩ <;> rcases hy with ⟨h3, h4⟩ | ⟨h3, h4⟩
    · have hxy : x < y := by
        by_contra h
        have := cnt_mono q.Sel (show y.val ≤ x.val from not_lt.1 h)
        omega
      rcases eq_or_lt_of_le (hanti x y hxy.le h1 h3) with h | h
      · exact .inr ⟨h, hxy⟩
      · exact .inl h
    · rw [hbot y h3]; exact .inl (hsel x h1)
    · have := cnt_lt q.Sel h3 y.isLt; omega
    · refine .inr ⟨by rw [hbot x h1, hbot y h3], ?_⟩
      by_contra h
      have := cnt_mono (fun i => ¬ q.Sel i) (show y.val ≤ x.val from not_lt.1 h)
      omega
  unfold ltPos
  simp only [EReal.neg_lt_neg_iff, Bool.or_eq_false_iff, decide_eq_false_iff_not, Bool.and_eq_false_iff, neg_inj]
  rcases key with h | ⟨h, h'⟩
  · exact ⟨not_lt.2 h.le, .inl h.ne⟩
  · exact ⟨by rw [h]; exact lt_irrefl _, .inr (not_lt.2 h'.le)⟩

/-- The sort by the masked score has in row `r` the place that stands in row `r`. -/
theorem top_at (h640 : 640 ≤ N) (r : Fin 30) (x : Fin N) (hx : q.At N r.val x.val) :
    sortedFrom (ltKey fun i => -M i) (r.castLE (by omega)) = x := by
  have hex : ∀ r : Fin 30, ∃ x : Fin N, q.At N r.val x.val := fun r => by
    rcases q.at_exists (N := N) r.isLt with ⟨y, hy, h⟩ | ⟨_, y, hy, h⟩
    · exact ⟨⟨y, hy⟩, .inl h⟩
    · exact ⟨⟨y, by omega⟩, .inr h⟩
  choose σ hσ using hex
  rw [sortedFrom_pos]
  have hall : ∀ y : Fin N, ∃ r, q.At N r y.val := fun y => by
    by_cases h : q.Sel y.val
    · exact ⟨_, .inl ⟨h, rfl⟩⟩
    · exact ⟨_, .inr ⟨h, rfl⟩⟩
  have huniq : ∀ (r : Fin 30) (y : Fin N), q.At N r.val y.val → σ r = y := fun r y hy =>
    Fin.ext (q.at_unique (σ r).isLt y.isLt (hσ r) hy)
  rw [(ltPos_strict fun i => -M i).sortedFrom_eq_of_prefix (by omega) σ ?_ ?_ ?_ r]
  · exact huniq r x hx
  · intro a b hab
    by_contra hne
    have irr := (ltPos_strict fun i => -M i)
    have tot := irr.total
    rcases lt_or_gt_of_ne hne with h | h
    · rcases hσ a with ⟨h1, h2⟩ | ⟨h1, h2⟩ <;> rcases hσ b with ⟨h3, h4⟩ | ⟨h3, h4⟩ <;> rw [← hab] at h3 h4 <;>
        first | omega | exact h1 h3 | exact h3 h1
    · rcases hσ a with ⟨h1, h2⟩ | ⟨h1, h2⟩ <;> rcases hσ b with ⟨h3, h4⟩ | ⟨h3, h4⟩ <;> rw [← hab] at h3 h4 <;>
        first | omega | exact h1 h3 | exact h3 h1
  · intro i j hij
    exact top_order q N M hbot hsel hanti hij (σ i) (σ j) (hσ i) (hσ j)
  · intro i p hp
    obtain ⟨r', hr'⟩ := hall p
    have h30 : 30 ≤ r' := by
      by_contra h
      exact hp ⟨r', by omega⟩ (huniq ⟨r', by omega⟩ p hr')
    exact top_order q N M hbot hsel hanti (by omega : i.val < r') (σ i) p (hσ i) hr'

end Top

/-! ### The sorted table -/

section Table

variable (B : Fin 5000 → Fin 4 → EReal) (S : Fin 5000 → EReal) (L : Fin 5000 → BitVec 32) (mc : EReal)

open Classical in
/-- The score of a box that counts, and below everything for the others. -/
def msk (i : Fin 5000) : EReal := if thr ≤ S i then S i else ⊥

/-- The place in the sorted order comes from this box. -/
def srt : Fin 5000 → Fin 5000 := sortedFrom (ltKey fun i => -msk S i)

/-- A label as a number. -/
def lab (i : Fin 5000) : EReal := (((L i).toInt : ℝ) : EReal)

/-- The boxes in sorted order, shifted by their class, with scores and labels. -/
def sortedTab : Tab := fun c n => if h : n < 5000 then
    (if h4 : c.val < 4 then B (srt S ⟨n, h⟩) ⟨c.val, h4⟩ + lab L (srt S ⟨n, h⟩) * mc else if c.val = 4 then S (srt S ⟨n, h⟩) else lab L (srt S ⟨n, h⟩))
  else 0

theorem sortedTab_corner (n : Fin 5000) (c : Fin 4) :
    sortedTab B S L mc ⟨c.val, by omega⟩ n.val = B (srt S n) c + lab L (srt S n) * mc := by
  unfold sortedTab; rw [dif_pos n.isLt, dif_pos c.isLt]
theorem sortedTab_score (n : Fin 5000) : sortedTab B S L mc 4 n.val = S (srt S n) := by
  unfold sortedTab; rw [dif_pos n.isLt, dif_neg (by decide), if_pos (by decide)]
theorem sortedTab_label (n : Fin 5000) : sortedTab B S L mc 5 n.val = lab L (srt S n) := by
  unfold sortedTab; rw [dif_pos n.isLt, dif_neg (by decide), if_neg (by decide)]
theorem sortedTab_pad (c : Fin 6) (n : ℕ) (h : 5000 ≤ n) : sortedTab B S L mc c n = 0 := by
  unfold sortedTab; rw [dif_neg (by omega)]

/-- The selection problem of the sorted table. -/
abbrev sprob : Prob := (sortedTab B S L mc).prob

theorem V_lt {n : ℕ} (h : (sprob B S L mc).V n) : n < 5000 := by
  by_contra hn
  have h' : thr ≤ sortedTab B S L mc 4 n := h
  rw [sortedTab_pad _ _ _ _ _ _ (by omega)] at h'
  exact absurd thr_pos (not_lt.2 h')

theorem V_iff (n : Fin 5000) : (sprob B S L mc).V n.val ↔ thr ≤ S (srt S n) := by
  show thr ≤ sortedTab B S L mc 4 n.val ↔ _
  rw [sortedTab_score]

theorem H_iff (n : Fin 5000) : (sprob B S L mc).H n.val ↔ L (srt S n) = 1#32 := by
  show sortedTab B S L mc 5 n.val = 1 ↔ _
  rw [sortedTab_label, lab, ← EReal.coe_one, EReal.coe_eq_coe_iff]
  constructor
  · intro h
    have : (L (srt S n)).toInt = 1 := by exact_mod_cast h
    exact BitVec.eq_of_toInt_eq (by rw [this]; rfl)
  · intro h; rw [h]; norm_num

theorem msk_le {i j : Fin 5000} (hij : i ≤ j) : msk S (srt S j) ≤ msk S (srt S i) := by
  have := sorted_le (fun i => -msk S i) hij
  exact EReal.neg_le_neg_iff.1 this

theorem msk_pos {i : Fin 5000} (h : thr ≤ S i) : msk S i = S i := by unfold msk; rw [if_pos h]
theorem msk_neg {i : Fin 5000} (h : ¬ thr ≤ S i) : msk S i = ⊥ := by unfold msk; rw [if_neg h]

/-- In the sorted order the places that count come first. -/
theorem V_anti (i j : ℕ) (hij : i ≤ j) (hj : (sprob B S L mc).V j) : (sprob B S L mc).V i := by
  have h5 := V_lt B S L mc hj
  have h1 := (V_iff B S L mc ⟨j, h5⟩).1 hj
  refine (V_iff B S L mc ⟨i, by omega⟩).2 ?_
  by_contra h
  have h2 := msk_le S (show (⟨i, by omega⟩ : Fin 5000) ≤ ⟨j, h5⟩ from hij)
  rw [msk_neg S h, msk_pos S h1] at h2
  exact absurd (lt_of_lt_of_le thr_pos (h1.trans h2)) (not_lt.2 bot_le)

theorem sel_lt {n : ℕ} (h : (sprob B S L mc).Sel n) : n < 5000 := V_lt B S L mc ((sprob B S L mc).sel_valid h)

theorem sel_cnt : cnt (sprob B S L mc).Sel 5120 = cnt (sprob B S L mc).Sel 5000 :=
  cnt_stop _ (fun j h _ h' => absurd (sel_lt B S L mc h') (by omega)) (by omega)

theorem at_iff (r x : ℕ) : (sprob B S L mc).At 5120 r x ↔ (sprob B S L mc).At 5000 r x := by
  unfold Prob.At; rw [sel_cnt]

open Classical in
/-- The top scores among the selected places, in the sorted order. -/
theorem top_sorted (r : Fin 30) (x : Fin 5000) (hx : (sprob B S L mc).At 5000 r.val x.val) :
    sortedFrom (ltKey fun i : Fin 5000 => -(if (sprob B S L mc).Sel i.val then S (srt S i) else ⊥)) (r.castLE (by omega)) = x := by
  refine top_at (sprob B S L mc) 5000 (fun i : Fin 5000 => if (sprob B S L mc).Sel i.val then S (srt S i) else ⊥) ?_ ?_ ?_ (by omega) r x hx
  · intro i h; exact if_neg h
  · intro i h
    rw [if_pos h]
    exact lt_of_lt_of_le (lt_of_le_of_lt bot_le thr_pos) ((V_iff B S L mc i).1 ((sprob B S L mc).sel_valid h))
  · intro i j hij hi hj
    rw [if_pos hi, if_pos hj, ← msk_pos S ((V_iff B S L mc i).1 ((sprob B S L mc).sel_valid hi)),
      ← msk_pos S ((V_iff B S L mc j).1 ((sprob B S L mc).sel_valid hj))]
    exact msk_le S hij

theorem at_some (r : Fin 30) : ∃ x : Fin 5000, (sprob B S L mc).At 5000 r.val x.val := by
  rcases (sprob B S L mc).at_exists (N := 5000) r.isLt with ⟨y, hy, h⟩ | ⟨_, y, hy, h⟩
  · exact ⟨⟨y, hy⟩, .inl h⟩
  · exact ⟨⟨y, by omega⟩, .inr h⟩

/-- A row is below the number selected exactly when it holds a selected place. -/
theorem row_sel {r x : ℕ} (hx : x < 5000) (h : (sprob B S L mc).At 5000 r x) : r < cnt (sprob B S L mc).Sel 5000 ↔ (sprob B S L mc).Sel x := by
  rcases h with ⟨h1, h2⟩ | ⟨h1, h2⟩
  · have := cnt_lt (sprob B S L mc).Sel h1 hx
    exact ⟨fun _ => h1, fun _ => by omega⟩
  · exact ⟨fun h => by omega, fun h => absurd h h1⟩

end Table

end Cert.Proof

end
-- ==== Proof.Sorts.lean ====
/-
  The sorts as the programs print them: the compare of two keys puts both zeros together and knows no not-a-number; over
  the extended reals it is the order itself, so each sorted array is its operand read through the sort by the key.
-/
module

public import proofs.«01_k».proof.Proof.Order

@[expose] public section

noncomputable section

namespace Cert.Proof

open Idealize.ShloMosaic

theorem ofBool_eq_one (p : Prop) [Decidable p] : BitVec.ofBool (decide p) = 1#1 ↔ p := by
  by_cases h : p <;> simp [h]

/-- A key as the sort compares it. -/
def canonKey {F : FTy → Type} [FloatOps F] (a : F .f32) : F .f32 :=
  Scalar.select (FloatOps.cmpf .une a a) (FloatOps.ofBits .f32 0x7FC00000#32)
    (Scalar.select (FloatOps.cmpf .oeq a (FloatOps.ofBits .f32 0x00000000#32)) (FloatOps.ofBits .f32 0x00000000#32) a)

theorem canonKey_eq (a : Ideal .f32) : canonKey (F := Ideal) a = a := by
  have h0 : (FloatOps.ofBits (F := Ideal) .f32 0x00000000#32 : Ideal .f32) = (0 : EReal) := Ideal.ofBits_zero_f32
  have h1 : (FloatOps.cmpf (F := Ideal) .une a a) = 0#1 := by
    show BitVec.ofBool (decide (¬ (a : EReal) = a)) = 0#1
    simp
  unfold canonKey
  rw [h1, h0]
  show (if (0#1 : BitVec 1) = 1#1 then _ else _) = a
  rw [if_neg (by decide)]
  show (if (BitVec.ofBool (decide ((a : EReal) = 0))) = 1#1 then _ else _) = a
  split
  · next h => exact ((ofBool_eq_one _).1 h).symm
  · rfl

/-- The compare of two keys is their order. -/
theorem canon_lt (a b : Ideal .f32) :
    (FloatOps.cmpfTotal (F := Ideal) .lt (canonKey (F := Ideal) a) (canonKey (F := Ideal) b) == 1#1)
      = (open Classical in decide ((a : EReal) < b)) := by
  rw [canonKey_eq, canonKey_eq, Ideal.cmpfTotal_def]
  show (BitVec.ofBool (decide ((a : EReal) < b)) == 1#1) = _
  by_cases h : (a : EReal) < b <;> simp [h]

/-- A sorted array is its operand read through the sort. -/
theorem sortBy_read {n : ℕ} {α β : Type} (cmp : β → β → BitVec 1) (rows : (⟨1, ![n]⟩ : Shape).Idx → β) (x : (⟨1, ![n]⟩ : Shape).Idx → α)
    (key : Fin n → EReal) (h : ∀ a b, (cmp (rows (ix1 a)) (rows (ix1 b)) == 1#1) = ltKey key a b) (j : Fin n) :
    Host.sortBy ⟨1, ![n]⟩ 0 cmp rows x (ix1 j) = x (ix1 (sortedFrom (ltKey key) j)) := by
  have hal : ∀ (j : (⟨1, ![n]⟩ : Shape).Idx) (k : Fin n), j.along (0 : Fin 1) k = ix1 k := fun j k => by
    rw [Shape.Idx.along_rank1]
    funext a
    have : a = 0 := Subsingleton.elim _ _
    subst this
    rfl
  unfold Host.sortBy
  rw [dif_pos (show 0 < (⟨1, ![n]⟩ : Shape).rank from Nat.one_pos)]
  refine (congrArg x (hal _ _)).trans ?_
  have : (fun k k' : Fin n => cmp (rows ((ix1 j).along (0 : Fin 1) k)) (rows ((ix1 j).along (0 : Fin 1) k')) == 1#1) = ltKey key := by
    funext k k'
    rw [show (ix1 j).along (0 : Fin 1) k = ix1 k from hal _ _, show (ix1 j).along (0 : Fin 1) k' = ix1 k' from hal _ _]
    exact h k k'
  exact congrArg (fun B : Fin n → Fin n → Bool => x (ix1 (sortedFrom B j))) this

end Cert.Proof

end
-- ==== Proof.PI.Table.lean ====
/-
  The kernel's table, over the extended reals: the boxes in sorted order, then padding.
-/
module

public import proofs.«01_k».proof.Proof.PI.Host
public import proofs.«01_k».proof.Proof.PI.Value
public import proofs.«01_k».proof.Proof.Sorts

@[expose] public section

noncomputable section

namespace Cert.Proof.PI

open Cert.KernelIdeal Cert.KernelIdeal.Gen

open Idealize.ShloMosaic
open Idealize.ShloMosaic.TcCoe
open Idealize.SL

variable (A : FVec Ideal S5000x4 .f32) (B : FVec Ideal S5000 .f32) (C : IVec S5000 32)

/-- A row of the padded table. -/
theorem tabV_row (a : Fin 6 → FVec Ideal S5000 .f32) (c : Fin 6) (x : Fin 5120) :
    tabV (a 0) (a 1) (a 2) (a 3) (a 4) (a 5) (ix2 (n0 := 8) ⟨c.val, by omega⟩ x) = if h : x.val < 5000 then a c (ix1 ⟨x.val, h⟩) else 0 := by
  have h0 : (FloatOps.sitofp (F := Ideal) FTy.f32 0#32 : Ideal .f32) = (0 : EReal) := by
    show (((0#32 : BitVec 32).toInt : ℝ) : EReal) = 0
    simp
  unfold tabV
  fin_cases c <;>
  · pointwise
    rw [h0]

/-- The six columns before the sort. -/
def cols : Fin 6 → FVec Ideal S5000 .f32 := ![col0 A C, col1 A C, col2 A C, col3 A C, B, labV C]

theorem cols_at (mc : EReal) (hmc : mcV (F := Ideal) A ix0 = mc) (i : Fin 5000) (c : Fin 6) : cols A B C c (ix1 i)
    = if h4 : c.val < 4 then A (ix2 i ⟨c.val, h4⟩) + lab (fun i => C (ix1 i)) i * mc else if c.val = 4 then B (ix1 i) else lab (fun i => C (ix1 i)) i := by
  subst hmc
  fin_cases c
  · show col0 A C (ix1 i) = _
    unfold col0 boxV labV; pointwise; rfl
  · show col1 A C (ix1 i) = _
    unfold col1 boxV labV; pointwise; rfl
  · show col2 A C (ix1 i) = _
    unfold col2 boxV labV; pointwise; rfl
  · show col3 A C (ix1 i) = _
    unfold col3 boxV labV; pointwise; rfl
  · rfl
  · rfl

theorem keyV_at (i : Fin 5000) : keyV B (ix1 i) = - msk (fun i => B (ix1 i)) i := by
  unfold keyV msk
  pointwise
  rw [ofBits_bot]
  rfl

theorem mcV_at : mcV A ix0 = Finset.fold max ⊥ (fun x : Fin 5000 × Fin 4 => A (ix2 x.1 x.2)) Finset.univ + 1 := by
  unfold mcV
  pointwise
  rw [ofBits_bot]

/-- A column sorted with the others, read in sorted order. -/
theorem byKey_at (x : FVec Ideal S5000 .f32) (j : Fin 5000) : byKey A B C x (ix1 j) = x (ix1 (srt (fun i => B (ix1 i)) j)) := by
  unfold byKey srtV
  refine sortBy_read _ _ x (fun i => - msk (fun i => B (ix1 i)) i) (fun a b => ?_) j
  refine Eq.trans ?_ (canon_lt (- msk (fun i => B (ix1 i)) a) (- msk (fun i => B (ix1 i)) b))
  rw [← keyV_at, ← keyV_at]
  rfl

/-- The kernel's table is the sorted table. -/
theorem tableV_eq (mc : EReal) (hmc : mcV (F := Ideal) A ix0 = mc) : tabOf (tableV A B C)
    = sortedTab (fun i c => A (ix2 i c)) (fun i => B (ix1 i)) (fun i => C (ix1 i)) mc := by
  funext c n
  have ht : tableV A B C = tabV (byKey A B C (cols A B C 0)) (byKey A B C (cols A B C 1)) (byKey A B C (cols A B C 2))
    (byKey A B C (cols A B C 3)) (byKey A B C (cols A B C 4)) (byKey A B C (cols A B C 5)) := rfl
  unfold tabOf sortedTab
  by_cases h5 : n < 5000
  · have h : n < 5120 := by omega
    rw [dif_pos h, dif_pos h5]
    unfold atP
    rw [ht, tabV_row (fun k => byKey A B C (cols A B C k)) c ⟨n, h⟩, dif_pos h5, byKey_at, cols_at A B C mc hmc]
  · rw [dif_neg h5]
    split
    · next h =>
      unfold atP
      rw [ht, tabV_row (fun k => byKey A B C (cols A B C k)) c ⟨n, h⟩, dif_neg h5]
    · rfl

variable (m : (ℓ : Loc nD τ sig) → Buf (Elt Ideal) ℓ)

theorem tab_eq (c : Dev nD) : tab m c = tableV (arg0 m c) (arg1 m c) (arg2 m c) := by
  rw [← v28 m c]
  unfold tab
  funext j
  show V m c main_v28 ((win0_0.blk t0_0).view.emb j) = V m c main_v28 j
  congr 1
  funext a
  apply Fin.ext
  unfold Pipeline.Window.blk
  simp
  exact .inl (by revert a; decide)

theorem shf_eq (c : Dev nD) : mcOf (shf m c) = mcV (arg0 m c) ix0 := by
  have h : shf m c = fun i => shapeCast S1x1 (mcV (arg0 m c)) shapeCasts_S_S1x1 i := by
    rw [← v29 m c]
    unfold shf
    funext j
    show V m c main_v29 ((win0_1.blk t0_0).view.emb j) = V m c main_v29 j
    congr 1
    funext a
    apply Fin.ext
    unfold Pipeline.Window.blk
    simp
    exact .inl (by revert a; decide)
  rw [h]
  generalize mcV (arg0 m c) = X
  unfold mcOf k0_pay13
  pointwise
  rfl

end Cert.Proof.PI

end
-- ==== Proof.Rows.lean ====
/-
  The result rows both programs produce: in row `r` the box whose place in the sorted order stands in row `r`. And the
  small facts about single numbers that the two readings need: finite boxes, the class shift taken off again, labels read
  back as integers.
-/
module

public import proofs.«01_k».proof.Proof.Sorts

@[expose] public section

noncomputable section

namespace Cert.Proof

open Idealize.ShloMosaic

/-- Neither infinity. -/
def Fin1 (x : EReal) : Prop := x ≠ ⊤ ∧ x ≠ ⊥

theorem Fin1.coe {x : EReal} (h : Fin1 x) : ((x.toReal : ℝ) : EReal) = x := EReal.coe_toReal h.1 h.2

/-- The class shift taken off again, for finite boxes. -/
theorem unshift (b : EReal) (l : ℝ) (mc : EReal) (hb : Fin1 b) (hm : Fin1 mc) : b + (l : EReal) * mc - (l : EReal) * mc = b := by
  rw [← hb.coe, ← hm.coe, ← EReal.coe_mul, ← EReal.coe_add, ← EReal.coe_sub]
  congr 1; ring

/-- One more than the greatest of finitely many finite numbers is finite. -/
theorem top_finite {ι : Type} [Fintype ι] (f : ι → EReal) (i₀ : ι) (h : ∀ i, Fin1 (f i)) : Fin1 (Finset.fold max ⊥ f Finset.univ + 1) := by
  have h1 : Finset.fold max ⊥ f Finset.univ ≠ ⊤ := by
    refine ne_of_lt ((Finset.fold_max_lt _).2 ⟨bot_lt_top, fun i _ => lt_top_iff_ne_top.2 (h i).1⟩)
  have h2 : Finset.fold max ⊥ f Finset.univ ≠ ⊥ := by
    refine (bot_lt_iff_ne_bot.1 (lt_of_lt_of_le (bot_lt_iff_ne_bot.2 (h i₀).2) ?_))
    exact (Finset.le_fold_max _).2 (.inr ⟨i₀, Finset.mem_univ _, le_refl _⟩)
  rw [← EReal.coe_toReal h1 h2, ← EReal.coe_one, ← EReal.coe_add]
  exact ⟨EReal.coe_ne_top _, EReal.coe_ne_bot _⟩

/-- A number whose size is below infinity is finite. -/
theorem finite_of_abs (x : Ideal .f32) (h : (FloatOps.cmpf (F := Ideal) .olt (FloatOps.absf x) (FloatOps.ofBits (F := Ideal) .f32 0x7F800000#32)) = 1#1) : Fin1 x := by
  have h' : (BitVec.ofBool (decide ((FloatOps.absf x : Ideal .f32) < (FloatOps.ofBits (F := Ideal) .f32 0x7F800000#32 : EReal)))) = 1#1 := h
  rw [ofBool_eq_one, Ideal.absf_def] at h'
  have ht : (FloatOps.ofBits (F := Ideal) .f32 0x7F800000#32 : EReal) = ⊤ := by simp [Ideal.ofBits, Ideal.ieee]
  rw [ht] at h'
  constructor
  · rintro rfl; simp at h'
  · rintro rfl; simp at h'

/-- A label turned into a number, rounded, and read back. -/
theorem label_back (l : BitVec 32) : Ideal.fptosi 32 (Ideal.liftRound Ideal.roundHalfEven (((l.toInt : ℝ)) : EReal)) = l := by
  have h1 : Ideal.liftRound Ideal.roundHalfEven (((l.toInt : ℝ)) : EReal) = (((l.toInt : ℝ)) : EReal) := by
    show (((Ideal.roundHalfEven (l.toInt : ℝ) : ℤ) : ℝ) : EReal) = _
    unfold Ideal.roundHalfEven
    rw [Int.floor_intCast]
    dsimp only
    rw [sub_self, if_pos (by norm_num)]
  rw [h1]
  show BitVec.ofInt 32 (max (-(2 ^ (32 - 1) : ℕ) : ℤ) (min (((2 ^ (32 - 1) : ℕ) : ℤ) - 1) (if (0 : ℝ) ≤ (l.toInt : ℝ) then ⌊(l.toInt : ℝ)⌋ else ⌈(l.toInt : ℝ)⌉))) = l
  rw [Int.floor_intCast, Int.ceil_intCast, ite_self]
  have h2 := l.toInt_lt
  have h3 := l.le_toInt
  have h4 : max (-(2 ^ (32 - 1) : ℕ) : ℤ) (min (((2 ^ (32 - 1) : ℕ) : ℤ) - 1) l.toInt) = l.toInt := by
    norm_num at h2 h3 ⊢
    omega
  rw [h4, BitVec.ofInt_toInt]

open Classical in
/-- A flag above one half. -/
theorem half_ind (p : Prop) : BitVec.ofBool (decide (((1 / 2 : ℝ) : EReal) < ind p)) = BitVec.ofBool (decide p) := by
  have h1 : ((1 / 2 : ℝ) : EReal) < 1 := by rw [← EReal.coe_one, EReal.coe_lt_coe_iff]; norm_num
  have h0 : ¬ ((1 / 2 : ℝ) : EReal) < 0 := by rw [← EReal.coe_zero, EReal.coe_lt_coe_iff]; norm_num
  by_cases h : p <;> simp only [ind, h, if_true, if_false, h1, h0]

end Cert.Proof

end
-- ==== Proof.PI.Result.lean ====
/-
  The kernel program's three results, row by row, for finite boxes: row `r` holds the box, the score, the label and the
  flag of the place that stands in row `r`.
-/
module

public import proofs.«01_k».proof.Proof.PI.Table
public import proofs.«01_k».proof.Proof.Rows

@[expose] public section

noncomputable section

namespace Cert.Proof.PI

open Cert.KernelIdeal Cert.KernelIdeal.Gen

open Idealize.ShloMosaic
open Idealize.ShloMosaic.TcCoe
open Idealize.SL

variable (m : (ℓ : Loc nD τ sig) → Buf (Elt Ideal) ℓ) (c : Dev nD)

section
variable (mc : EReal) (hmc : mcV (F := Ideal) (arg0 m c) ix0 = mc)

/-- The selection problem of the arguments. -/
abbrev prob : Prob :=
  sprob (fun i k => arg0 m c (ix2 i k)) (fun i => arg1 m c (ix1 i)) (fun i => arg2 m c (ix1 i)) mc
/-- The box at a place of the sorted order. -/
abbrev boxAt (x : Fin 5000) : Fin 5000 := srt (fun i => arg1 m c (ix1 i)) x

include hmc

theorem prb_eq : prb (tab m c) = prob m c mc := by
  unfold prb
  rw [tab_eq, tableV_eq _ _ _ mc hmc]

theorem hV : ∀ i j, i ≤ j → (prb (tab m c)).V j → (prb (tab m c)).V i := by
  rw [prb_eq m c mc hmc]
  exact V_anti _ _ _ _

/-- A result row before the host lines. -/
theorem outO_at (r : Fin 30) (x : Fin 5000) (hx : (prob m c mc).At 5000 r.val x.val) (k : Fin 6) :
    outO m c (ix2 (n0 := 32) (n1 := 8) ⟨r.val, by omega⟩ ⟨k.val, by omega⟩) = plane (tab m c) mc k x.val := by
  have h : (prb (tab m c)).At 5120 r.val x.val := by
    rw [prb_eq m c mc hmc]
    exact (at_iff _ _ _ _ _ _).2 hx
  have := kerO_at (tab m c) (hV m c mc hmc) (shf m c) (k0_pay8 (F := Ideal)) (fun _ => Scalar.ofBits (F := Ideal) .f32 0x00000000#32) (fun _ => Scalar.ofBits (F := Ideal) .f32 0x00000000#32)
    ⟨r.val, by omega⟩ r.isLt k (by omega) h
  rw [shf_eq, hmc] at this
  exact this

theorem outV_at (r : Fin 30) (x : Fin 5000) (hx : (prob m c mc).At 5000 r.val x.val) :
    outV m c (ix2 (n0 := 32) (n1 := 1) ⟨r.val, by omega⟩ 0) = ind ((prob m c mc).Sel x.val) := by
  have := kerV_at (tab m c) (hV m c mc hmc) (shf m c) (k0_pay8 (F := Ideal)) (fun _ => Scalar.ofBits (F := Ideal) .f32 0x00000000#32) (fun _ => Scalar.ofBits (F := Ideal) .f32 0x00000000#32)
    (fun _ => Scalar.ofBits (F := Ideal) .f32 0x00000000#32) ⟨r.val, by omega⟩
  rw [prb_eq m c mc hmc] at this
  refine this.trans ?_
  rw [sel_cnt]
  exact congrArg ind (propext (row_sel _ _ _ _ x.isLt hx))

/-- The rows as planes of the arguments. -/
theorem plane_box (hm : Fin1 mc) (x : Fin 5000) (k : Fin 4) (hb : Fin1 (arg0 m c (ix2 (boxAt m c x) k))) :
    plane (tab m c) mc ⟨k.val, by omega⟩ x.val = arg0 m c (ix2 (boxAt m c x) k) := by
  unfold plane
  rw [if_pos k.isLt, tab_eq, tableV_eq _ _ _ mc hmc, sortedTab_corner, sortedTab_label]
  exact unshift _ _ _ hb hm
theorem plane_score (x : Fin 5000) : plane (tab m c) mc 4 x.val = arg1 m c (ix1 (boxAt m c x)) := by
  unfold plane
  rw [if_neg (by decide), tab_eq, tableV_eq _ _ _ mc hmc, sortedTab_score]
theorem plane_label (x : Fin 5000) : plane (tab m c) mc 5 x.val = lab (fun i => arg2 m c (ix1 i)) (boxAt m c x) := by
  unfold plane
  rw [if_neg (by decide), tab_eq, tableV_eq _ _ _ mc hmc, sortedTab_label]

variable (hfin : ∀ i k, Fin1 (arg0 m c (ix2 i k)))
include hfin

theorem mc_fin : Fin1 mc := by
  rw [← hmc, mcV_at]
  exact top_finite _ (0, 0) fun i => hfin i.1 i.2

/-- The packed rows: the box, then the score. -/
theorem packed_at (r : Fin 30) (x : Fin 5000) (hx : (prob m c mc).At 5000 r.val x.val) (k : Fin 5) :
    Pipeline.afterTail₀ cfgs (dats m) 0 (V₀ m) post c main_v31 (ix2 r k)
      = if h : k.val < 4 then arg0 m c (ix2 (boxAt m c x) ⟨k.val, h⟩) else arg1 m c (ix1 (boxAt m c x)) := by
  rw [end31]
  have h1 : extractStridedSlice S30x5 ![0, 0] (outO m c) slices_S32x8_S30x5_0_0 (ix2 r k)
      = outO m c (ix2 (n0 := 32) (n1 := 8) ⟨r.val, by omega⟩ ⟨(⟨k.val, by omega⟩ : Fin 6).val, by omega⟩) := by
    generalize outO m c = X
    pointwise
  rw [h1, outO_at m c mc hmc r x hx]
  split
  · next h => exact plane_box m c mc hmc (mc_fin m c mc hmc hfin) x ⟨k.val, h⟩ (hfin _ _)
  · next h =>
    have : (⟨k.val, by omega⟩ : Fin 6) = 4 := by apply Fin.ext; show k.val = 4; omega
    rw [this]
    exact plane_score m c mc hmc x

omit hfin in
/-- The labels. -/
theorem labels_at (r : Fin 30) (x : Fin 5000) (hx : (prob m c mc).At 5000 r.val x.val) :
    Pipeline.afterTail₀ cfgs (dats m) 0 (V₀ m) post c main_v35 (ix1 r) = arg2 m c (ix1 (boxAt m c x)) := by
  rw [end35]
  have h1 : fptosi 32 (Host.roundeven (shapeCast S30 (extractStridedSlice S30x1 ![0, 5] (outO m c) slices_S32x8_S30x1_0_5) shapeCasts_S30x1_S30)) (ix1 r)
      = Ideal.fptosi 32 (Ideal.liftRound Ideal.roundHalfEven (outO m c (ix2 (n0 := 32) (n1 := 8) ⟨r.val, by omega⟩ ⟨(5 : Fin 6).val, by omega⟩))) := by
    generalize outO m c = X
    pointwise
    rfl
  rw [h1, outO_at m c mc hmc r x hx, plane_label m c mc hmc]
  exact label_back _

omit hfin in
/-- The flags. -/
theorem flags_at (r : Fin 30) (x : Fin 5000) (hx : (prob m c mc).At 5000 r.val x.val) :
    Pipeline.afterTail₀ cfgs (dats m) 0 (V₀ m) post c main_v39 (ix1 r) = BitVec.ofBool (open Classical in decide ((prob m c mc).Sel x.val)) := by
  rw [end39]
  have h1 : cmpf .ogt (shapeCast S30 (extractStridedSlice S30x1 ![0, 0] (outV m c) slices_S32x1_S30x1_0_0) shapeCasts_S30x1_S30)
        (broadcastInDim S30 ![] bcast_S_S30 (constant S_ .f32 0x3F000000#32)) (ix1 r)
      = BitVec.ofBool (open Classical in decide (((1 / 2 : ℝ) : EReal) < outV m c (ix2 (n0 := 32) (n1 := 1) ⟨r.val, by omega⟩ 0))) := by
    generalize outV m c = X
    pointwise
    rw [ofBits_half]
  rw [h1, outV_at m c mc hmc r x hx]
  exact half_ind _
end

end Cert.Proof.PI

end
-- ==== Proof.RI.Host.lean ====
/-
  The reference's lines before and after its loop, as expressions of the three arguments and of what the loop keeps.
-/
module

public import proofs.«01_k».proof.Proof.RI.Frame

@[expose] public section

noncomputable section

namespace Cert.Proof.RI

open Cert.ReferenceIdeal Cert.ReferenceIdeal.Gen Cert.ReferenceIdeal.Value
open Idealize.ShloMosaic Idealize.ShloMosaic.TcCoe Idealize.ShloMosaic.StableHlo Idealize.SL.Sem

variable {F : FTy → Type} [FloatOps F]

/-! ### Before the loop -/

section Before
variable (A : FVec F S5000x4 .f32) (B : FVec F S5000 .f32) (C : IVec S5000 32)

/-- The greatest coordinate, and one more. -/
def mcV : FVec F S_ .f32 :=
  addf (Host.reduce FloatOps.maximumf A (constant S_ .f32 0xFF800000#32) reducesTo_S5000x4_S_d0_1 h_S_) (constant S_ .f32 0x3F800000#32)
/-- The shifted boxes. -/
def boxV : FVec F S5000x4 .f32 :=
  addf A (broadcastInDim S5000x4 ![0, 1] bcast_S5000x1_S5000x4_0_1 (broadcastInDim S5000x1 ![0] bcast_S5000_S5000x1_0
    (mulf (sitofp .f32 C) (broadcastInDim S5000 ![] bcast_S_S5000 (mcV A)))))
/-- The boxes that score enough. -/
def okV : IVec S5000 1 := cmpf .oge B (broadcastInDim S5000 ![] bcast_S_S5000 (constant S_ .f32 0x3E4CCCCD#32))
/-- The sort key. -/
def keyV : FVec F S5000 .f32 :=
  Host.negf (select (okV B) B (broadcastInDim S5000 ![] bcast_S_S5000 (constant S_ .f32 0xFF800000#32)))
/-- The order of the boxes. -/
def ordV : IVec S5000 32 := (Host.sort2 S5000 0 comparator_f32_i32_d0 (keyV B) (iotaInDim S5000 32 0)).2
/-- Positions as a column, the negative ones counted from the end. -/
def wrapV (o : IVec S5000 32) : IVec S5000x1 32 :=
  broadcastInDim S5000x1 ![0] bcast_S5000_S5000x1_0 (select (cmpi .slt o (broadcastInDim S5000 ![] bcast_S_S5000 (constantI S_ 32 0#32)))
    (addi o (broadcastInDim S5000 ![] bcast_S_S5000 (constantI S_ 32 5000#32))) o)
/-- Rows, and entries, at given positions. -/
def rowsAt (X : FVec F S5000x4 .f32) (o : IVec S5000 32) : FVec F S5000x4 .f32 :=
  Host.gather gather_S5000x4_S5000x1_S5000x4_1_0_n_n_0_1_14 X (wrapV o)
def entsAt {α : Type} (x : S5000.Idx → α) (o : IVec S5000 32) : S5000.Idx → α :=
  Host.gather gather_S5000_S5000x1_S5000_n_0_n_n_0_1_1 x (wrapV o)

/-- The areas of boxes. -/
def areaV (X : FVec F S5000x4 .f32) : FVec F S5000 .f32 :=
  mulf (subf (shapeCast S5000 (extractStridedSlice S5000x1 ![0, 2] X slices_S5000x4_S5000x1_0_2) shapeCasts_S5000x1_S5000)
      (shapeCast S5000 (extractStridedSlice S5000x1 ![0, 0] X slices_S5000x4_S5000x1_0_0) shapeCasts_S5000x1_S5000))
    (subf (shapeCast S5000 (extractStridedSlice S5000x1 ![0, 3] X slices_S5000x4_S5000x1_0_3) shapeCasts_S5000x1_S5000)
      (shapeCast S5000 (extractStridedSlice S5000x1 ![0, 1] X slices_S5000x4_S5000x1_0_1) shapeCasts_S5000x1_S5000))
/-- The sides of the overlaps of all pairs of boxes. -/
def sideV (X : FVec F S5000x4 .f32) : FVec F S5000x5000x2 .f32 :=
  maximumf (broadcastInDim S5000x5000x2 ![] bcast_S_S5000x5000x2 (constant S_ .f32 0x00000000#32))
    (subf
      (minimumf
        (broadcastInDim S5000x5000x2 ![0, 1, 2] bcast_S5000x1x2_S5000x5000x2_0_1_2 (broadcastInDim S5000x1x2 ![0, 2] bcast_S5000x2_S5000x1x2_0_2
          (extractStridedSlice S5000x2 ![0, 2] X slices_S5000x4_S5000x2_0_2)))
        (broadcastInDim S5000x5000x2 ![0, 1, 2] bcast_S1x5000x2_S5000x5000x2_0_1_2 (broadcastInDim S1x5000x2 ![1, 2] bcast_S5000x2_S1x5000x2_1_2
          (extractStridedSlice S5000x2 ![0, 2] X slices_S5000x4_S5000x2_0_2))))
      (maximumf
        (broadcastInDim S5000x5000x2 ![0, 1, 2] bcast_S5000x1x2_S5000x5000x2_0_1_2 (broadcastInDim S5000x1x2 ![0, 2] bcast_S5000x2_S5000x1x2_0_2
          (extractStridedSlice S5000x2 ![0, 0] X slices_S5000x4_S5000x2_0_0)))
        (broadcastInDim S5000x5000x2 ![0, 1, 2] bcast_S1x5000x2_S5000x5000x2_0_1_2 (broadcastInDim S1x5000x2 ![1, 2] bcast_S5000x2_S1x5000x2_1_2
          (extractStridedSlice S5000x2 ![0, 0] X slices_S5000x4_S5000x2_0_0)))))
/-- The overlaps. -/
def interV (s : FVec F S5000x5000x2 .f32) : FVec F S5000x5000 .f32 :=
  mulf (shapeCast S5000x5000 (extractStridedSlice S5000x5000x1 ![0, 0, 0] s slices_S5000x5000x2_S5000x5000x1_0_0_0) shapeCasts_S5000x5000x1_S5000x5000)
    (shapeCast S5000x5000 (extractStridedSlice S5000x5000x1 ![0, 0, 1] s slices_S5000x5000x2_S5000x5000x1_0_0_1) shapeCasts_S5000x5000x1_S5000x5000)
/-- The overlap ratios, of the areas and the overlaps. -/
def ratioV (a : FVec F S5000 .f32) (i : FVec F S5000x5000 .f32) : FVec F S5000x5000 .f32 :=
  Host.divf i (maximumf
    (subf (addf (broadcastInDim S5000x5000 ![0, 1] bcast_S5000x1_S5000x5000_0_1 (broadcastInDim S5000x1 ![0] bcast_S5000_S5000x1_0 a))
        (broadcastInDim S5000x5000 ![0, 1] bcast_S1x5000_S5000x5000_0_1 (broadcastInDim S1x5000 ![1] bcast_S5000_S1x5000_1 a))) i)
    (broadcastInDim S5000x5000 ![] bcast_S_S5000x5000 (constant S_ .f32 0x322BCC77#32)))
def iouV (X : FVec F S5000x4 .f32) : FVec F S5000x5000 .f32 := ratioV (areaV X) (interV (sideV X))
end Before

variable (m : (ℓ : Loc nD τ sig) → Buf (Elt F) ℓ)

/-- The arguments. -/
abbrev arg0 (c : Dev nD) : FVec F S5000x4 .f32 := m ((c.tc : Thread nD τ).loc main_arg0)
abbrev arg1 (c : Dev nD) : FVec F S5000 .f32 := m ((c.tc : Thread nD τ).loc main_arg1)
abbrev arg2 (c : Dev nD) : IVec S5000 32 := m ((c.tc : Thread nD τ).loc main_arg2)

theorem entry_26 (c : Dev nD) : entryContents preI m c (Proc.devRef .tc main_v26) = rowsAt (arg0 m c) (ordV (arg1 m c)) := by
  simp only [entryContents, afterL_cons, afterL_nil]
  after_reads_simp
  rfl

theorem entry_33 (c : Dev nD) : entryContents preI m c (Proc.devRef .tc main_v33) = entsAt (arg1 m c) (ordV (arg1 m c)) := by
  simp only [entryContents, afterL_cons, afterL_nil]
  after_reads_simp
  rfl

theorem entry_40 (c : Dev nD) : entryContents preI m c (Proc.devRef .tc main_v40) = entsAt (arg2 m c) (ordV (arg1 m c)) := by
  simp only [entryContents, afterL_cons, afterL_nil]
  after_reads_simp
  rfl

theorem entry_iou (c : Dev nD) :
    entryContents preI m c (Proc.devRef .tc main_v91_0) = iouV (rowsAt (boxV (arg0 m c) (arg2 m c)) (ordV (arg1 m c))) := by
  simp only [entryContents, afterL_cons, afterL_nil]
  after_reads_simp
  rfl

theorem entry_iota (c : Dev nD) : entryContents preI m c (Proc.devRef .tc main_v91_1) = (iotaInDim S5000 32 0 : IVec S5000 32) := by
  simp only [entryContents, afterL_cons, afterL_nil]
  after_reads_simp
  rfl

theorem entry_ok (c : Dev nD) : entryContents preI m c (Proc.devRef .tc main_v91_2) = entsAt (okV (arg1 m c)) (ordV (arg1 m c)) := by
  simp only [entryContents, afterL_cons, afterL_nil]
  after_reads_simp
  rfl

theorem entry_place (c : Dev nD) : entryContents preI m c (Proc.devRef .tc main_v91_4) = (constantI S_ 32 0#32 : IVec S_ 32) := by
  simp only [entryContents, afterL_cons, afterL_nil]
  after_reads_simp
  rfl

theorem entry_keep (c : Dev nD) : entryContents preI m c (Proc.devRef .tc main_v91_5)
    = (broadcastInDim S5000 ![] bcast_S_S5000 (constantI S_ 1 0#1) : IVec S5000 1) := by
  simp only [entryContents, afterL_cons, afterL_nil]
  after_reads_simp
  rfl

/-! ### After the loop -/

section After
/-- The kept boxes of one kind, up to fifteen. -/
def capV (x : IVec S5000 1) : IVec S5000 1 :=
  andi x (cmpi .sle (Host.reduceWindow IntOp.addi ![5000] ![1] ![4999] ![0] (extui 32 x natLt_1_32) (broadcastInDim S_ ![] bcast_S_S_ (constantI S_ 32 0#32))
      reduceWindows_S5000_S5000_w5000s1p4999_0 h_S_) (broadcastInDim S5000 ![] bcast_S_S5000 (constantI S_ 32 15#32)))
/-- The selected boxes, of the kept ones and the labels. -/
def selV (k : IVec S5000 1) (l : IVec S5000 32) : IVec S5000 1 :=
  ori (capV (andi k (cmpi .eq l (broadcastInDim S5000 ![] bcast_S_S5000 (constantI S_ 32 1#32)))))
    (capV (andi k (cmpi .ne l (broadcastInDim S5000 ![] bcast_S_S5000 (constantI S_ 32 1#32)))))
/-- The scores of the selected boxes. -/
def rankV (s : IVec S5000 1) (x : FVec F S5000 .f32) : FVec F S5000 .f32 :=
  select s x (broadcastInDim S5000 ![] bcast_S_S5000 (constant S_ .f32 0xFF800000#32))
/-- The places of the thirty results. -/
def topV (x : FVec F S5000 .f32) : IVec S30 32 := (Host.topK S30 0 (FloatOps.cmpfTotal .gt) x sliceFits_S5000_S30).2
/-- Places as a column, the negative ones counted from the end. -/
def wrap30 (o : IVec S30 32) : IVec S30x1 32 :=
  broadcastInDim S30x1 ![0] bcast_S30_S30x1_0 (select (cmpi .slt o (broadcastInDim S30 ![] bcast_S_S30 (constantI S_ 32 0#32)))
    (addi o (broadcastInDim S30 ![] bcast_S_S30 (constantI S_ 32 5000#32))) o)
def rows30 (X : FVec F S5000x4 .f32) (o : IVec S30 32) : FVec F S30x4 .f32 :=
  Host.gather gather_S5000x4_S30x1_S30x4_1_0_n_n_0_1_14 X (wrap30 o)
def ents30 {α : Type} (x : S5000.Idx → α) (o : IVec S30 32) : S30.Idx → α :=
  Host.gather gather_S5000_S30x1_S30_n_0_n_n_0_1_1 x (wrap30 o)
/-- The boxes and scores of the results. -/
def packV (b : FVec F S30x4 .f32) (s : FVec F S30 .f32) : FVec F S30x5 .f32 :=
  concatenate S30x5 1 [⟨S30x4, b⟩, ⟨S30x1, broadcastInDim S30x1 ![0] bcast_S30_S30x1_0 s⟩] concatenates_S30x4_S30x1_S30x5_d1

variable (X : Valuation τ sig (Elt F))

/-- What the lines after the loop read. -/
abbrev keep : IVec S5000 1 := X (Proc.devRef .tc main_v91_5)
abbrev box : FVec F S5000x4 .f32 := X (Proc.devRef .tc main_v26)
abbrev score : FVec F S5000 .f32 := X (Proc.devRef .tc main_v33)
abbrev label : IVec S5000 32 := X (Proc.devRef .tc main_v40)
/-- The places of the results. -/
abbrev place : IVec S30 32 := topV (rankV (selV (keep X) (label X)) (score X))

/-- The last stretch of lines reads the selected boxes' scores. -/
theorem last_label : after hostOps0_13 X (Proc.devRef .tc main_v130) = ents30 (label X) (topV (X (Proc.devRef .tc main_v109))) := by
  after_reads_simp
  rfl

theorem last_flag : after hostOps0_13 X (Proc.devRef .tc main_v137)
    = ents30 (X (Proc.devRef .tc main_v108) : IVec S5000 1) (topV (X (Proc.devRef .tc main_v109))) := by
  after_reads_simp
  rfl

theorem last_pack : after hostOps0_13 X (Proc.devRef .tc main_v139)
    = packV (rows30 (box X) (topV (X (Proc.devRef .tc main_v109)))) (ents30 (score X) (topV (X (Proc.devRef .tc main_v109)))) := by
  have h1 : upto hostOps0_13 X 39 (Proc.devRef .tc main_v116) = rows30 (box X) (topV (X (Proc.devRef .tc main_v109))) := by
    after_reads_simp
    rfl
  have h2 : upto hostOps0_13 X 39 (Proc.devRef .tc main_v138)
      = broadcastInDim S30x1 ![0] bcast_S30_S30x1_0 (ents30 (score X) (topV (X (Proc.devRef .tc main_v109)))) := by
    after_reads_simp
    rfl
  after_reads_simp
  rw [h1, h2]
  rfl

/-- The lines between the loop and the last stretch. -/
def mid : Valuation τ sig (Elt F) :=
  after hostOps0_12 (after hostOps0_11 (after hostOps0_10 (after hostOps0_9 (after hostOps0_8 (after hostOps0_7 X)))))

theorem mid_sel : mid X (Proc.devRef .tc main_v108) = selV (keep X) (label X) := by
  unfold mid
  after_reads_simp
  simp only [TRef.ofBuf, TRef.toBuf, cast_cast, cast_eq]
  rfl

theorem mid_rank : mid X (Proc.devRef .tc main_v109) = rankV (selV (keep X) (label X)) (score X) := by
  unfold mid
  after_reads_simp
  simp only [TRef.ofBuf, TRef.toBuf, cast_cast, cast_eq]
  rfl

theorem mid_box : mid X (Proc.devRef .tc main_v26) = box X := by
  unfold mid
  after_reads_simp

theorem mid_score : mid X (Proc.devRef .tc main_v33) = score X := by
  unfold mid
  after_reads_simp

theorem mid_label : mid X (Proc.devRef .tc main_v40) = label X := by
  unfold mid
  after_reads_simp

theorem post_mid : afterL postI X = after hostOps0_13 (mid X) := rfl

theorem end_label : afterL postI X (Proc.devRef .tc main_v130) = ents30 (label X) (place X) := by
  rw [post_mid, last_label, mid_rank, label, mid_label]

theorem end_flag : afterL postI X (Proc.devRef .tc main_v137) = ents30 (selV (keep X) (label X)) (place X) := by
  rw [post_mid, last_flag, mid_sel, mid_rank]

theorem end_pack : afterL postI X (Proc.devRef .tc main_v139) = packV (rows30 (box X) (place X)) (ents30 (score X) (place X)) := by
  rw [post_mid, last_pack, mid_rank, show box (mid X) = box X from mid_box X, show score (mid X) = score X from mid_score X]
end After

end Cert.Proof.RI

end
-- ==== Proof.RI.Loop.lean ====
/-
  One trip of the reference's loop, over the extended reals: the box at the trip's place is kept when it scores enough
  and no kept box before it overlaps it.
-/
module

public import proofs.«01_k».proof.Proof.RI.Host
public import proofs.«01_k».proof.Proof.Sorts
public import Idealize.ShloMosaic.Lib.Routing.OpsOne
public import Idealize.ShloMosaic.Lib.Routing.OpsOrder
public import Idealize.ShloMosaic.Lib.DynamicIndex
public import Idealize.ShloMosaic.Lib.Pointwise

@[expose] public section

noncomputable section

namespace Cert.Proof.RI

open Cert.ReferenceIdeal Cert.ReferenceIdeal.Gen Cert.ReferenceIdeal.Value
open Idealize.ShloMosaic Idealize.ShloMosaic.TcCoe Idealize.ShloMosaic.StableHlo Idealize.SL.Sem

section Step
variable {F : FTy → Type} [FloatOps F]
variable (I : FVec F S5000x5000 .f32) (it : IVec S5000 32) (ok : IVec S5000 1) (p : IVec S_ 32) (k : IVec S5000 1)

/-- A place, a negative one counted from the end. -/
def wrap0 (p : IVec S_ 32) : IVec S_ 32 := select (cmpi .slt p (constantI S_ 32 0#32)) (addi p (constantI S_ 32 5000#32)) p
/-- The overlap ratios of the box at the place. -/
def rowV : FVec F S5000 .f32 :=
  shapeCast S5000 (Host.dynamicSlice S1x5000 I
    (fun a => ((![wrap0 p, wrap0 (constantI S_ 32 0#32)] : Fin 2 → IVec S_ 32) a (Shape.Idx.first h_S_)).toInt) sliceFits_S5000x5000_S1x5000)
    shapeCasts_S1x5000_S5000
/-- Whether the box at the place scores enough. -/
def okAt : IVec S_ 1 :=
  shapeCast S_ (Host.dynamicSlice S1 ok (fun a => ((![wrap0 p] : Fin 1 → IVec S_ 32) a (Shape.Idx.first h_S_)).toInt) sliceFits_S5000_S1)
    shapeCasts_S1_S_
/-- Whether a kept box before the place overlaps, of the place's ratios. -/
def hitV (row : FVec F S5000 .f32) : IVec S_ 1 :=
  Host.reduce IntOp.ori (andi (andi k (cmpf .ogt row (broadcastInDim S5000 ![] bcast_S_S5000 (constant S_ .f32 0x3F000000#32))))
    (cmpi .slt it (broadcastInDim S5000 ![] bcast_S_S5000 p))) (constantI S_ 1 0#1) reducesTo_S5000_S_d0 h_S_
/-- The kept boxes after one trip. -/
def stepV : IVec S5000 1 :=
  Host.scatter scatter_S5000_S1_S__n_0_0_0 (fun _ b => b) k (broadcastInDim S1 ![] bcast_S_S1 (wrap0 p))
    (andi (noti (hitV it p k (rowV I p))) (okAt ok p))

theorem step_eq (V : Valuation τ sig (Elt F)) : step_main_v91_5 V = stepV (V (Proc.devRef .tc main_v91_0)) (V (Proc.devRef .tc main_v91_1))
    (V (Proc.devRef .tc main_v91_2)) (V (Proc.devRef .tc main_v91_4)) (V (Proc.devRef .tc main_v91_5)) := rfl

end Step

theorem toInt_place {n : ℕ} (h : n < 5000) : (BitVec.ofNat 32 n).toInt = (n : Int) := toInt_ofNat_of_lt (by omega)

theorem wrap0_at {n : ℕ} (h : n < 5000) (i : S_.Idx) : (wrap0 (constantI S_ 32 (BitVec.ofNat 32 n)) i).toInt = (n : Int) :=
  toInt_wrap_ofNat n (by omega)

variable (I : FVec Ideal S5000x5000 .f32) (ok : IVec S5000 1) (k : IVec S5000 1)

theorem rowV_at (n j : Fin 5000) : rowV I (constantI S_ 32 (BitVec.ofNat 32 n.val)) (ix1 j) = I (ix2 n j) := by
  unfold rowV
  have hs : S5000x5000.Slices (![n.val, 0] : Fin 2 → ℕ) S1x5000 := ⟨rfl, fun a => by
    have := n.isLt
    fin_cases a
    · show n.val + 1 ≤ 5000; omega
    · show 0 + 5000 ≤ 5000; omega⟩
  rw [Host.dynamicSlice_eq_extractStridedSlice S1x5000 I _ ![n.val, 0] _ hs fun a => by
    fin_cases a
    · exact wrap0_at n.isLt _
    · exact wrap0_at (n := 0) (by omega) (Shape.Idx.first h_S_)]
  pointwise

theorem okAt_at (n : Fin 5000) : okAt ok (constantI S_ 32 (BitVec.ofNat 32 n.val)) ix0 = ok (ix1 n) := by
  unfold okAt
  have hs : S5000.Slices (![n.val] : Fin 1 → ℕ) S1 := ⟨rfl, fun a => by
    have := n.isLt
    fin_cases a
    show n.val + 1 ≤ 5000; omega⟩
  rw [Host.dynamicSlice_eq_extractStridedSlice S1 ok _ ![n.val] _ hs fun a => by
    fin_cases a
    exact wrap0_at n.isLt _]
  pointwise

theorem andi_one (a b : BitVec 1) : IntOp.andi a b = 1#1 ↔ a = 1#1 ∧ b = 1#1 := by
  revert a b; decide

theorem slt_place {x n : ℕ} (hx : x < 5000) (hn : n < 5000) :
    IntOp.cmpi .slt (BitVec.ofNat 32 x) (BitVec.ofNat 32 n) = 1#1 ↔ x < n := by
  show BitVec.ofBool ((BitVec.ofNat 32 x).slt (BitVec.ofNat 32 n)) = 1#1 ↔ _
  rw [BitVec.slt_eq_decide, toInt_place hx, toInt_place hn, ofBool_eq_one]
  omega

theorem hitV_at (row : FVec Ideal S5000 .f32) (n : Fin 5000) :
    hitV (iotaInDim S5000 32 0) (constantI S_ 32 (BitVec.ofNat 32 n.val)) k row ix0 = 1#1
      ↔ ∃ i : Fin 5000, k (ix1 i) = 1#1 ∧ ((1 / 2 : ℝ) : EReal) < row (ix1 i) ∧ i.val < n.val := by
  unfold hitV
  pointwise
  rw [Routing.fold_ori, ofBits_half]
  refine exists_congr fun i => ?_
  rw [andi_one, andi_one, ofBool_eq_one, slt_place i.isLt n.isLt]
  exact ⟨fun h => ⟨h.2.1.1, h.2.1.2, h.2.2⟩, fun h => ⟨Finset.mem_univ _, ⟨h.1, h.2.1⟩, h.2.2⟩⟩

/-- Setting the entry at one place changes that entry alone. -/
theorem set_at {α : Type} {N : ℕ} (d : ScatterDims ⟨1, ![N]⟩ ⟨1, ![1]⟩ ⟨0, ![]⟩) (hw : d.insertedWindowDims = [0])
    (hd : d.scatterDimsToOperandDims = [0]) (x : (⟨1, ![N]⟩ : Shape).Idx → α) (idx : IVec ⟨1, ![1]⟩ 32) (u : (⟨0, ![]⟩ : Shape).Idx → α)
    (n j : Fin N) (h : (idx (ix1 0)).toInt = (n.val : Int)) :
    Host.scatter d (fun _ b => b) x idx u (ix1 j) = if j = n then u ix0 else x (ix1 j) := by
  have land := Routing.lands_one d hw hd idx n h j
  split
  · next e => exact Routing.scatter_set_hit d x idx u _ (u ix0) (fun q _ => by rw [ValueIdx.eq_ix0 q]; rfl) ix0 (land.2 e)
  · next e =>
    refine Routing.scatter_set_miss d x idx u _ fun q hq => e (land.1 ?_)
    rwa [ValueIdx.eq_ix0 q] at hq

/-- The place's box is decided and no other. -/
theorem stepV_at (n j : Fin 5000) : stepV I (iotaInDim S5000 32 0) ok (constantI S_ 32 (BitVec.ofNat 32 n.val)) k (ix1 j) = 1#1
    ↔ if j = n then ok (ix1 n) = 1#1 ∧ ∀ i : Fin 5000, i.val < n.val → k (ix1 i) = 1#1 → ¬ ((1 / 2 : ℝ) : EReal) < I (ix2 n i)
      else k (ix1 j) = 1#1 := by
  have hb : ∀ w : IVec S_ 32, broadcastInDim S1 ![] bcast_S_S1 w (ix1 0) = w ix0 := fun w => by pointwise
  have hi : (broadcastInDim S1 ![] bcast_S_S1 (wrap0 (constantI S_ 32 (BitVec.ofNat 32 n.val))) (ix1 0)).toInt = (n.val : Int) := by
    rw [hb]; exact wrap0_at n.isLt _
  have hs := set_at scatter_S5000_S1_S__n_0_0_0 rfl rfl k _ (andi (noti (hitV (iotaInDim S5000 32 0) (constantI S_ 32 (BitVec.ofNat 32 n.val)) k
    (rowV I (constantI S_ 32 (BitVec.ofNat 32 n.val))))) (okAt ok (constantI S_ 32 (BitVec.ofNat 32 n.val)))) n j hi
  unfold stepV
  rw [hs]
  by_cases h : j = n
  · rw [if_pos h, if_pos h]
    show IntOp.andi (~~~ _) _ = 1#1 ↔ _
    have hn : ∀ b : BitVec 1, ~~~ b = 1#1 ↔ ¬ b = 1#1 := by decide
    rw [andi_one, hn, hitV_at, okAt_at]
    simp only [rowV_at, not_exists, not_and]
    exact ⟨fun h => ⟨h.2, fun i hi hk hI => h.1 i hk hI hi⟩, fun h => ⟨fun i hk hI hi => h.2 i hi hk hI, h.1⟩⟩
  · rw [if_neg h, if_neg h]

end Cert.Proof.RI

end
-- ==== Proof.RI.Kept.lean ====
/-
  The reference's loop: what it carries before every trip, and the boxes it has kept when it ends.
-/
module

public import proofs.«01_k».proof.Proof.RI.Loop

@[expose] public section

noncomputable section

namespace Cert.Proof.RI

open Cert.ReferenceIdeal Cert.ReferenceIdeal.Gen Cert.ReferenceIdeal.Value
open Idealize.ShloMosaic Idealize.ShloMosaic.TcCoe Idealize.ShloMosaic.StableHlo Idealize.SL.Sem

section Carried
variable {F : FTy → Type} [FloatOps F] (m : (ℓ : Loc nD τ sig) → Buf (Elt F) ℓ) (c : Dev nD)

/-- One more trip. -/
theorem atK_step (n : ℕ) (b : Ref sig .tc) (hb : b ∈ carriedRefs) :
    atK m (n + 1) c (Proc.devRef .tc b) = STEP (atK m n c) (Proc.devRef .tc b) := trip_agree (atK m n c) b hb

theorem carried_iou (n : ℕ) : atK m n c (Proc.devRef .tc main_v91_0) = entryContents preI m c (Proc.devRef .tc main_v91_0) := by
  induction n with
  | zero => rfl
  | succ n ih => rw [atK_step m c n main_v91_0 (by decide), STEP_main_v91_0, ih]

theorem carried_iota (n : ℕ) : atK m n c (Proc.devRef .tc main_v91_1) = (iotaInDim S5000 32 0 : IVec S5000 32) := by
  induction n with
  | zero => exact entry_iota m c
  | succ n ih => rw [atK_step m c n main_v91_1 (by decide), STEP_main_v91_1, ih]

theorem carried_ok (n : ℕ) : atK m n c (Proc.devRef .tc main_v91_2) = entryContents preI m c (Proc.devRef .tc main_v91_2) := by
  induction n with
  | zero => rfl
  | succ n ih => rw [atK_step m c n main_v91_2 (by decide), STEP_main_v91_2, ih]

theorem carried_place (n : ℕ) : atK m n c (Proc.devRef .tc main_v91_4) = (constantI S_ 32 (BitVec.ofNat 32 n) : IVec S_ 32) := by
  induction n with
  | zero => exact entry_place m c
  | succ n ih =>
    rw [atK_step m c n main_v91_4 (by decide), STEP_main_v91_4]
    unfold step_main_v91_4
    rw [ih]
    funext i
    show BitVec.ofNat 32 n + 1#32 = BitVec.ofNat 32 (n + 1)
    rw [BitVec.ofNat_add]

/-- The kept boxes after one more trip. -/
theorem carried_keep (n : ℕ) : atK m (n + 1) c (Proc.devRef .tc main_v91_5)
    = stepV (entryContents preI m c (Proc.devRef .tc main_v91_0)) (iotaInDim S5000 32 0) (entryContents preI m c (Proc.devRef .tc main_v91_2))
      (constantI S_ 32 (BitVec.ofNat 32 n)) (atK m n c (Proc.devRef .tc main_v91_5)) := by
  rw [atK_step m c n main_v91_5 (by decide), STEP_main_v91_5, step_eq, carried_iou, carried_iota, carried_ok, carried_place]

/-- The lines after the loop find this. -/
def atEnd : Valuation τ sig (Elt F) := after condOps (atK m 5000 c)

theorem final_end : finalContents condOps preI bodyI postI 5000 m c = afterL postI (atEnd m c) := rfl

/-- The loop leaves the gathered arguments alone. -/
def isSorted (b : Ref sig .tc) : Prop := b = main_v26 ∨ b = main_v33 ∨ b = main_v40

theorem sorted_atK (n : ℕ) (b : Ref sig .tc) (hb : isSorted b) :
    atK m n c (Proc.devRef .tc b) = entryContents preI m c (Proc.devRef .tc b) := by
  induction n with
  | zero => rfl
  | succ n ih =>
    rw [show atK m (n + 1) c = after while0Ops0 (after condOps (atK m n c)) from rfl]
    rw [after_of_writes_sub while0Ops0 _ while0Ops0_writes (by rcases hb with rfl | rfl | rfl <;> decide +kernel),
      after_of_writes_sub condOps _ condOps_writes (by rcases hb with rfl | rfl | rfl <;> decide +kernel), ih]

theorem sorted_end (b : Ref sig .tc) (hb : isSorted b) : atEnd m c (Proc.devRef .tc b) = entryContents preI m c (Proc.devRef .tc b) := by
  unfold atEnd
  rw [after_of_writes_sub condOps _ condOps_writes (by rcases hb with rfl | rfl | rfl <;> decide +kernel), sorted_atK m c 5000 b hb]

theorem end_box : box (atEnd m c) = rowsAt (arg0 m c) (ordV (arg1 m c)) := (sorted_end m c _ (.inl rfl)).trans (entry_26 m c)
theorem end_score : score (atEnd m c) = entsAt (arg1 m c) (ordV (arg1 m c)) := (sorted_end m c _ (.inr (.inl rfl))).trans (entry_33 m c)
theorem end_lab : label (atEnd m c) = entsAt (arg2 m c) (ordV (arg1 m c)) := (sorted_end m c _ (.inr (.inr rfl))).trans (entry_40 m c)
theorem end_keep : keep (atEnd m c) = atK m 5000 c (Proc.devRef .tc main_v91_5) := cond_keeps (atK m 5000 c) main_v91_5 (by decide)
end Carried

variable (m : (ℓ : Loc nD τ sig) → Buf (Elt Ideal) ℓ) (c : Dev nD) (q : Prob)

/-- Before every trip the kept boxes are those the rule keeps among the places passed. -/
theorem kept_at (I : FVec Ideal S5000x5000 .f32) (hI : I = entryContents preI m c (Proc.devRef .tc main_v91_0))
    (ok : IVec S5000 1) (hok : ok = entryContents preI m c (Proc.devRef .tc main_v91_2))
    (hS : ∀ n i : Fin 5000, ((1 / 2 : ℝ) : EReal) < I (ix2 n i) ↔ q.S i.val n.val)
    (hV : ∀ n : Fin 5000, ok (ix1 n) = 1#1 ↔ q.V n.val) (n : ℕ) (hn : n ≤ 5000) (j : Fin 5000) :
    (atK m n c (Proc.devRef .tc main_v91_5) : IVec S5000 1) (ix1 j) = 1#1 ↔ j.val < n ∧ q.K j.val := by
  induction n generalizing j with
  | zero =>
    rw [show atK m 0 c = entryContents preI m c from rfl, entry_keep]
    constructor
    · intro h
      have h' : (0#1 : BitVec 1) = 1#1 := h
      exact absurd h' (by decide)
    · exact fun h => absurd h.1 (Nat.not_lt_zero _)
  | succ n ih =>
    rw [carried_keep, ← hI, ← hok]
    refine (stepV_at I ok _ ⟨n, hn⟩ j).trans ?_
    by_cases h : j = ⟨n, hn⟩
    · subst h
      rw [if_pos rfl, hV, q.K_iff]
      constructor
      · rintro ⟨h1, h2⟩
        exact ⟨Nat.lt_succ_self n, h1, fun i hi hK hs =>
          h2 ⟨i, by omega⟩ hi ((ih (by omega) ⟨i, by omega⟩).2 ⟨hi, hK⟩) ((hS ⟨n, hn⟩ ⟨i, by omega⟩).2 hs)⟩
      · rintro ⟨-, h1, h2⟩
        exact ⟨h1, fun i hi hk hs => h2 i.val hi ((ih (by omega) i).1 hk).2 ((hS _ i).1 hs)⟩
    · rw [if_neg h, ih (by omega) j]
      have : j.val ≠ n := fun e => h (Fin.ext e)
      exact and_congr_left fun _ => by omega

end Cert.Proof.RI

end
-- ==== Proof.RI.Value.lean ====
/-
  The reference's lines over the extended reals, at an index: the order of the boxes, what is read through it, and the
  overlap ratios.
-/
module

public import proofs.«01_k».proof.Proof.RI.Kept
public import proofs.«01_k».proof.Proof.Order

@[expose] public section

noncomputable section

namespace Cert.Proof.RI

open Cert.ReferenceIdeal Cert.ReferenceIdeal.Gen Cert.ReferenceIdeal.Value
open Idealize.ShloMosaic Idealize.ShloMosaic.TcCoe Idealize.ShloMosaic.StableHlo Idealize.SL.Sem

variable (A : FVec Ideal S5000x4 .f32) (B : FVec Ideal S5000 .f32) (C : IVec S5000 32)

theorem keyV_at (i : Fin 5000) : keyV B (ix1 i) = - msk (fun i => B (ix1 i)) i := by
  unfold keyV okV msk
  pointwise
  rw [ofBits_bot]
  rfl

/-- The order is the sort by the key. -/
theorem ordV_at (j : Fin 5000) : ordV B (ix1 j) = BitVec.ofNat 32 (srt (fun i => B (ix1 i)) j).val := by
  unfold ordV
  rw [Host.sort2_eq_sortBy]
  show Host.sortBy ⟨1, ![5000]⟩ 0 comparator_f32_i32_d0 (fun j => (keyV B j, iotaInDim S5000 32 0 j)) (iotaInDim S5000 32 0) (ix1 j) = _
  rw [sortBy_read comparator_f32_i32_d0 _ _ (fun i => - msk (fun i => B (ix1 i)) i) (fun a b => ?_) j]
  · rfl
  refine Eq.trans ?_ (canon_lt (- msk (fun i => B (ix1 i)) a) (- msk (fun i => B (ix1 i)) b))
  rw [← keyV_at, ← keyV_at]
  rfl

/-- A position is not moved by the count from the end. -/
theorem wrap_word {b : ℕ} (hb : b < 5000) (y : BitVec 32) :
    Scalar.select (IntOp.cmpi .slt (BitVec.ofNat 32 b) 0#32) y (BitVec.ofNat 32 b) = BitVec.ofNat 32 b := by
  have h : IntOp.cmpi .slt (BitVec.ofNat 32 b) (BitVec.ofNat 32 0) ≠ 1#1 := fun h => absurd ((slt_place hb (by omega)).1 h) (by omega)
  exact if_neg h

theorem wrapV_at (o : IVec S5000 32) (j : Fin 5000) {b : ℕ} (hb : b < 5000) (h : o (ix1 j) = BitVec.ofNat 32 b) :
    wrapV o (ix2 j (0 : Fin 1)) = BitVec.ofNat 32 b := by
  unfold wrapV
  pointwise
  rw [h, wrap_word hb]

theorem rowsAt_at (X : FVec Ideal S5000x4 .f32) (o : IVec S5000 32) (j : Fin 5000) (c : Fin 4) (b : Fin 5000) (h : o (ix1 j) = BitVec.ofNat 32 b.val) :
    rowsAt X o (ix2 j c) = X (ix2 b c) :=
  Routing.gather_row gather_S5000x4_S5000x1_S5000x4_1_0_n_n_0_1_14 rfl rfl rfl rfl rfl X (wrapV o) j c b (wrapV_at o j b.isLt h) (by omega)

theorem entsAt_at {α : Type} (x : S5000.Idx → α) (o : IVec S5000 32) (j : Fin 5000) (b : Fin 5000) (h : o (ix1 j) = BitVec.ofNat 32 b.val) :
    entsAt x o (ix1 j) = x (ix1 b) :=
  Routing.gather_take1 gather_S5000_S5000x1_S5000_n_0_n_n_0_1_1 rfl rfl rfl rfl x (wrapV o) j b (wrapV_at o j b.isLt h) (by omega)

/-- The shifted boxes. -/
theorem boxV_at (mc : EReal) (hmc : mcV (F := Ideal) A ix0 = mc) (i : Fin 5000) (c : Fin 4) :
    boxV A C (ix2 i c) = A (ix2 i c) + lab (fun i => C (ix1 i)) i * mc := by
  subst hmc
  unfold boxV
  pointwise
  rfl

theorem okV_at (i : Fin 5000) : okV B (ix1 i) = 1#1 ↔ thr ≤ B (ix1 i) := by
  unfold okV
  pointwise
  rw [ofBool_eq_one]
  rfl

theorem areaV_at (X : FVec Ideal S5000x4 .f32) (i : Fin 5000) :
    areaV X (ix1 i) = area (X (ix2 i 0)) (X (ix2 i 1)) (X (ix2 i 2)) (X (ix2 i 3)) := by
  unfold areaV
  pointwise
  rfl

theorem sideV_at (X : FVec Ideal S5000x4 .f32) (i j : Fin 5000) (c : Fin 2) :
    sideV X (ix3 i j c) = max (min (X (ix2 i ⟨2 + c.val, by omega⟩)) (X (ix2 j ⟨2 + c.val, by omega⟩))
      - max (X (ix2 i ⟨c.val, by omega⟩)) (X (ix2 j ⟨c.val, by omega⟩))) 0 := by
  unfold sideV
  pointwise
  rw [max_comm]

theorem interV_at (s : FVec Ideal S5000x5000x2 .f32) (i j : Fin 5000) : interV s (ix2 i j) = s (ix3 i j 0) * s (ix3 i j 1) := by
  unfold interV
  pointwise

theorem ratioV_at (a : FVec Ideal S5000 .f32) (s : FVec Ideal S5000x5000 .f32) (i j : Fin 5000) :
    ratioV a s (ix2 i j) = Ideal.div (s (ix2 i j)) (max (a (ix1 i) + a (ix1 j) - s (ix2 i j)) eps) := by
  unfold ratioV
  pointwise
  rfl

/-- The overlap ratios of the boxes of a table. -/
theorem iouV_at (X : FVec Ideal S5000x4 .f32) (T : Tab) (hX : ∀ (n : Fin 5000) (c : Fin 4), X (ix2 n c) = T ⟨c.val, by omega⟩ n.val) (i j : Fin 5000) :
    iouV X (ix2 i j) = T.iou i.val j.val := by
  have e : ∀ n : Fin 5000, X (ix2 n 0) = T 0 n.val ∧ X (ix2 n 1) = T 1 n.val ∧ X (ix2 n 2) = T 2 n.val ∧ X (ix2 n 3) = T 3 n.val :=
    fun n => ⟨hX n 0, hX n 1, hX n 2, hX n 3⟩
  have ha : ∀ n : Fin 5000, areaV X (ix1 n) = T.ar n.val := fun n => by
    rw [areaV_at, (e n).1, (e n).2.1, (e n).2.2.1, (e n).2.2.2]; rfl
  have h0 : sideV X (ix3 i j 0) = max (min (T 2 i.val) (T 2 j.val) - max (T 0 i.val) (T 0 j.val)) 0 := by
    rw [← (e i).1, ← (e j).1, ← (e i).2.2.1, ← (e j).2.2.1]; exact sideV_at X i j 0
  have h1 : sideV X (ix3 i j 1) = max (min (T 3 i.val) (T 3 j.val) - max (T 1 i.val) (T 1 j.val)) 0 := by
    rw [← (e i).2.1, ← (e j).2.1, ← (e i).2.2.2, ← (e j).2.2.2]; exact sideV_at X i j 1
  unfold iouV
  rw [ratioV_at, interV_at, ha, ha, h0, h1]
  rfl

end Cert.Proof.RI

end
-- ==== Proof.RI.Select.lean ====
/-
  The reference's lines after its loop, over the extended reals, at an index.
-/
module

public import proofs.«01_k».proof.Proof.RI.Value

@[expose] public section

noncomputable section

namespace Cert.Proof.RI

open Cert.ReferenceIdeal Cert.ReferenceIdeal.Gen Cert.ReferenceIdeal.Value
open Idealize.ShloMosaic Idealize.ShloMosaic.TcCoe Idealize.ShloMosaic.StableHlo Idealize.SL.Sem

/-- The sum of bits up to a place is a count. -/
theorem sum_bits {N : ℕ} (f : Fin N → BitVec 32) (p : ℕ → Prop) (hf : ∀ i, f i = open Classical in if p i.val then 1#32 else 0#32) (j : Fin N) :
    (∑ i : Fin N, if i ≤ j then f i else 0) = BitVec.ofNat 32 (cnt p (j.val + 1)) := by
  have h : ∀ n, n ≤ N → (∑ i : Fin N, if i.val < n then f i else 0) = BitVec.ofNat 32 (cnt p n) := by
    intro n hn
    induction n with
    | zero => simp [cnt]
    | succ n ih =>
      have e : ∀ i : Fin N, (if i.val < n + 1 then f i else 0) = (if i.val < n then f i else 0) + (if i = ⟨n, hn⟩ then f i else 0) := fun i => by
        by_cases h1 : i.val < n
        · rw [if_pos h1, if_pos (by omega), if_neg (fun h => by rw [h] at h1; exact absurd h1 (lt_irrefl _)), add_zero]
        · by_cases h2 : i = ⟨n, hn⟩
          · rw [if_neg h1, if_pos h2, if_pos (by rw [h2]; exact Nat.lt_succ_self n), zero_add]
          · rw [if_neg h1, if_neg h2, if_neg (fun h => h2 (Fin.ext (by show i.val = n; omega))), add_zero]
      rw [Finset.sum_congr rfl fun i _ => e i, Finset.sum_add_distrib, ih (by omega), Finset.sum_ite_eq' Finset.univ, if_pos (Finset.mem_univ _), hf]
      by_cases hp : p n
      · rw [if_pos hp, cnt_pos p n hp, BitVec.ofNat_add]
      · rw [if_neg hp, cnt_neg p n hp]; exact BitVec.add_zero _
  rw [← h (j.val + 1) j.isLt]
  exact Finset.sum_congr rfl fun i _ => if_congr (by rw [Fin.le_def]; omega) rfl rfl

theorem cnt_bound (p : ℕ → Prop) (n : ℕ) : cnt p n ≤ n := by
  have := cnt_add_not p n
  omega

theorem capV_at (x : IVec S5000 1) (p : ℕ → Prop) (h : ∀ i : Fin 5000, x (ix1 i) = 1#1 ↔ p i.val) (j : Fin 5000) :
    capV x (ix1 j) = 1#1 ↔ p j.val ∧ cnt p (j.val + 1) ≤ 15 := by
  have hs : Host.reduceWindow IntOp.addi ![5000] ![1] ![4999] ![0] (extui 32 x natLt_1_32) (broadcastInDim S_ ![] bcast_S_S_ (constantI S_ 32 0#32))
      reduceWindows_S5000_S5000_w5000s1p4999_0 h_S_ (ix1 j) = BitVec.ofNat 32 (cnt p (j.val + 1)) := by
    refine (Routing.cumsum_vec rfl (extui 32 x natLt_1_32) _ rfl _ _ j).trans ?_
    refine sum_bits (fun i => (extui 32 x natLt_1_32 : IVec S5000 32) (ix1 i)) p (fun i => ?_) j
    show (x (ix1 i)).setWidth 32 = _
    by_cases hp : p i.val
    · rw [if_pos hp, (h i).2 hp]; rfl
    · rw [if_neg hp, (BitVec.eq_zero_or_eq_one (x (ix1 i))).resolve_right fun e => hp ((h i).1 e)]; rfl
  have hc := cnt_bound p (j.val + 1)
  have hj := j.isLt
  unfold capV
  generalize Host.reduceWindow IntOp.addi ![5000] ![1] ![4999] ![0] (extui 32 x natLt_1_32) (broadcastInDim S_ ![] bcast_S_S_ (constantI S_ 32 0#32))
      reduceWindows_S5000_S5000_w5000s1p4999_0 h_S_ = y at hs
  pointwise
  rw [andi_one, h, hs]
  refine and_congr_right fun _ => ?_
  show BitVec.ofBool (BitVec.sle (BitVec.ofNat 32 (cnt p (j.val + 1))) 15#32) = 1#1 ↔ _
  rw [BitVec.sle_eq_decide, toInt_ofNat_of_lt (by omega), ofBool_eq_one]
  show ((cnt p (j.val + 1) : ℕ) : Int) ≤ 15 ↔ _
  omega

/-- The selected boxes. -/
theorem selV_at (q : Prob) (k : IVec S5000 1) (l : IVec S5000 32) (hk : ∀ i : Fin 5000, k (ix1 i) = 1#1 ↔ q.K i.val)
    (hl : ∀ i : Fin 5000, l (ix1 i) = 1#32 ↔ q.H i.val) (j : Fin 5000) : selV k l (ix1 j) = 1#1 ↔ q.Sel j.val := by
  have hb : ∀ b : Bool, BitVec.ofBool b = 1#1 ↔ b = true := by decide
  have h1 : ∀ i : Fin 5000, andi k (cmpi .eq l (broadcastInDim S5000 ![] bcast_S_S5000 (constantI S_ 32 1#32))) (ix1 i) = 1#1 ↔ q.KH i.val := fun i => by
    pointwise
    rw [andi_one, hk]
    refine and_congr_right fun _ => ?_
    rw [← hl]
    show BitVec.ofBool (l (ix1 i) == 1#32) = 1#1 ↔ _
    rw [hb, beq_iff_eq]
  have h2 : ∀ i : Fin 5000, andi k (cmpi .ne l (broadcastInDim S5000 ![] bcast_S_S5000 (constantI S_ 32 1#32))) (ix1 i) = 1#1 ↔ q.KO i.val := fun i => by
    pointwise
    rw [andi_one, hk]
    refine and_congr_right fun _ => ?_
    rw [← hl]
    show BitVec.ofBool (l (ix1 i) != 1#32) = 1#1 ↔ _
    rw [hb, bne_iff_ne]
  have c1 := capV_at _ _ h1 j
  have c2 := capV_at _ _ h2 j
  have ho : ∀ a b : BitVec 1, IntOp.ori a b = 1#1 ↔ a = 1#1 ∨ b = 1#1 := by decide
  unfold selV
  show IntOp.ori _ _ = 1#1 ↔ _
  rw [ho, c1, c2]
  rfl

variable (x : FVec Ideal S5000 .f32)

theorem rankV_at (s : IVec S5000 1) (i : Fin 5000) : rankV s x (ix1 i) = if s (ix1 i) = 1#1 then x (ix1 i) else (⊥ : EReal) := by
  unfold rankV
  pointwise
  rw [ofBits_bot]
  rfl

/-- The places of the results are the first of the sort by score, the greatest first. -/
theorem topV_at (r : Fin 30) : topV x (ix1 r) = BitVec.ofNat 32 (sortedFrom (ltKey fun i => - (x (ix1 i) : EReal)) (r.castLE (by omega))).val := by
  have h : (Host.sort2 S5000 0 (fun l r : Ideal .f32 × BitVec 32 => FloatOps.cmpfTotal .gt l.1 r.1) x (iotaInDim S5000 32 0)).2 (ix1 (r.castLE (by omega : 30 ≤ 5000)))
      = BitVec.ofNat 32 (sortedFrom (ltKey fun i => - (x (ix1 i) : EReal)) (r.castLE (by omega))).val := by
    rw [Host.sort2_eq_sortBy]
    show Host.sortBy ⟨1, ![5000]⟩ 0 (fun l r : Ideal .f32 × BitVec 32 => FloatOps.cmpfTotal .gt l.1 r.1) (fun j => (x j, iotaInDim S5000 32 0 j))
      (iotaInDim S5000 32 0) (ix1 _) = _
    rw [sortBy_read _ _ _ (fun i => - (x (ix1 i) : EReal)) (fun a b => ?_)]
    · rfl
    show (BitVec.ofBool (decide ((x (ix1 b) : EReal) < x (ix1 a))) == 1#1) = decide (- (x (ix1 a) : EReal) < - x (ix1 b))
    have e : (- (x (ix1 a) : EReal) < - x (ix1 b)) ↔ (x (ix1 b) : EReal) < x (ix1 a) := EReal.neg_lt_neg_iff
    by_cases h : (x (ix1 b) : EReal) < x (ix1 a)
    · simp [h, e.2 h]
    · simp only [h, decide_false, mt e.1 h]; rfl
  rw [← h]
  show extractStridedSlice S30 (fun _ => 0) (Host.sort2 S5000 0 (fun l r : Ideal .f32 × BitVec 32 => FloatOps.cmpfTotal .gt l.1 r.1) x
    (iotaInDim S5000 32 0)).2 sliceFits_S5000_S30 (ix1 r) = _
  generalize (Host.sort2 S5000 0 (fun l r : Ideal .f32 × BitVec 32 => FloatOps.cmpfTotal .gt l.1 r.1) x (iotaInDim S5000 32 0)).2 = y
  pointwise
  rfl

theorem wrap30_at (o : IVec S30 32) (r : Fin 30) {b : ℕ} (hb : b < 5000) (h : o (ix1 r) = BitVec.ofNat 32 b) :
    wrap30 o (ix2 r (0 : Fin 1)) = BitVec.ofNat 32 b := by
  unfold wrap30
  pointwise
  rw [h, wrap_word hb]

theorem rows30_at (X : FVec Ideal S5000x4 .f32) (o : IVec S30 32) (r : Fin 30) (c : Fin 4) (b : Fin 5000) (h : o (ix1 r) = BitVec.ofNat 32 b.val) :
    rows30 X o (ix2 r c) = X (ix2 b c) :=
  Routing.gather_row gather_S5000x4_S30x1_S30x4_1_0_n_n_0_1_14 rfl rfl rfl rfl rfl X (wrap30 o) r c b (wrap30_at o r b.isLt h) (by omega)

theorem ents30_at {α : Type} (x : S5000.Idx → α) (o : IVec S30 32) (r : Fin 30) (b : Fin 5000) (h : o (ix1 r) = BitVec.ofNat 32 b.val) :
    ents30 x o (ix1 r) = x (ix1 b) :=
  Routing.gather_take1 gather_S5000_S30x1_S30_n_0_n_n_0_1_1 rfl rfl rfl rfl x (wrap30 o) r b (wrap30_at o r b.isLt h) (by omega)

theorem packV_at (b : FVec Ideal S30x4 .f32) (s : FVec Ideal S30 .f32) (r : Fin 30) (k : Fin 5) :
    packV b s (ix2 r k) = if h : k.val < 4 then b (ix2 r ⟨k.val, h⟩) else s (ix1 r) := by
  unfold packV
  pointwise

end Cert.Proof.RI

end
-- ==== Proof.RI.Result.lean ====
/-
  The reference's three results, row by row, over the extended reals.
-/
module

public import proofs.«01_k».proof.Proof.RI.Select

@[expose] public section

noncomputable section

namespace Cert.Proof.RI

open Cert.ReferenceIdeal Cert.ReferenceIdeal.Gen Cert.ReferenceIdeal.Value
open Idealize.ShloMosaic Idealize.ShloMosaic.TcCoe Idealize.ShloMosaic.StableHlo Idealize.SL.Sem

variable (m : (ℓ : Loc nD τ sig) → Buf (Elt Ideal) ℓ) (c : Dev nD)
variable (mc : EReal) (hmc : mcV (F := Ideal) (arg0 m c) ix0 = mc)

/-- The selection problem of the arguments. -/
abbrev prob : Prob :=
  sprob (fun i k => arg0 m c (ix2 i k)) (fun i => arg1 m c (ix1 i)) (fun i => arg2 m c (ix1 i)) mc
/-- The box at a place of the sorted order. -/
abbrev boxAt (x : Fin 5000) : Fin 5000 := srt (fun i => arg1 m c (ix1 i)) x

theorem box_at (x : Fin 5000) (k : Fin 4) : box (atEnd m c) (ix2 x k) = arg0 m c (ix2 (boxAt m c x) k) := by
  rw [end_box]; exact rowsAt_at _ _ x k _ (ordV_at _ x)
theorem score_at (x : Fin 5000) : score (atEnd m c) (ix1 x) = arg1 m c (ix1 (boxAt m c x)) := by
  rw [end_score]; exact entsAt_at _ _ x _ (ordV_at _ x)
theorem label_at (x : Fin 5000) : label (atEnd m c) (ix1 x) = arg2 m c (ix1 (boxAt m c x)) := by
  rw [end_lab]; exact entsAt_at _ _ x _ (ordV_at _ x)

include hmc

/-- The loop keeps the boxes the rule keeps. -/
theorem keep_at (x : Fin 5000) : keep (atEnd m c) (ix1 x) = 1#1 ↔ (prob m c mc).K x.val := by
  rw [end_keep]
  refine (kept_at m c (prob m c mc) _ (entry_iou m c).symm _ (entry_ok m c).symm (fun n i => ?_) (fun n => ?_) 5000 le_rfl x).trans
    ⟨fun h => h.2, fun h => ⟨x.isLt, h⟩⟩
  · rw [iouV_at _ (sortedTab (fun i k => arg0 m c (ix2 i k)) (fun i => arg1 m c (ix1 i)) (fun i => arg2 m c (ix1 i)) mc) fun n k => ?_]
    · rw [Tab.iou_comm]; exact Iff.rfl
    · rw [rowsAt_at _ _ n k _ (ordV_at _ n), boxV_at _ _ mc hmc, sortedTab_corner]
  · rw [entsAt_at _ _ n _ (ordV_at _ n), okV_at, V_iff]

theorem sel_at (x : Fin 5000) : selV (keep (atEnd m c)) (label (atEnd m c)) (ix1 x) = 1#1 ↔ (prob m c mc).Sel x.val :=
  selV_at (prob m c mc) _ _ (keep_at m c mc hmc) (fun i => by rw [label_at, H_iff]) x

theorem place_at (r : Fin 30) (x : Fin 5000) (hx : (prob m c mc).At 5000 r.val x.val) :
    place (atEnd m c) (ix1 r) = BitVec.ofNat 32 x.val := by
  show topV (rankV (selV (keep (atEnd m c)) (label (atEnd m c))) (score (atEnd m c))) (ix1 r) = _
  rw [topV_at, ← top_sorted _ _ _ _ r x hx]
  refine congrArg (fun key : Fin 5000 → EReal => BitVec.ofNat 32 (sortedFrom (ltKey key) (r.castLE (by omega))).val) (funext fun i => ?_)
  rw [rankV_at, score_at]
  refine congrArg (fun y : EReal => -y) ?_
  by_cases h : (prob m c mc).Sel i.val
  · rw [if_pos h, if_pos ((sel_at m c mc hmc i).2 h)]
  · rw [if_neg h, if_neg fun h' => h ((sel_at m c mc hmc i).1 h')]

/-- The boxes and scores of the results. -/
theorem packed_at (r : Fin 30) (x : Fin 5000) (hx : (prob m c mc).At 5000 r.val x.val) (k : Fin 5) :
    finalContents condOps preI bodyI postI 5000 m c (Proc.devRef .tc main_v139) (ix2 r k)
      = if h : k.val < 4 then arg0 m c (ix2 (boxAt m c x) ⟨k.val, h⟩) else arg1 m c (ix1 (boxAt m c x)) := by
  have hp := place_at m c mc hmc r x hx
  rw [final_end, end_pack, packV_at]
  split
  · next h => rw [rows30_at _ _ r _ x hp, box_at]
  · rw [ents30_at _ _ r x hp, score_at]

/-- Their labels. -/
theorem labels_at (r : Fin 30) (x : Fin 5000) (hx : (prob m c mc).At 5000 r.val x.val) :
    finalContents condOps preI bodyI postI 5000 m c (Proc.devRef .tc main_v130) (ix1 r) = arg2 m c (ix1 (boxAt m c x)) := by
  rw [final_end, end_label, ents30_at _ _ r x (place_at m c mc hmc r x hx), label_at]

/-- Whether they are results at all. -/
theorem flags_at (r : Fin 30) (x : Fin 5000) (hx : (prob m c mc).At 5000 r.val x.val) :
    finalContents condOps preI bodyI postI 5000 m c (Proc.devRef .tc main_v137) (ix1 r)
      = BitVec.ofBool (open Classical in decide ((prob m c mc).Sel x.val)) := by
  rw [final_end, end_flag, ents30_at _ _ r x (place_at m c mc hmc r x hx)]
  have h := sel_at m c mc hmc x
  classical
  by_cases e : (prob m c mc).Sel x.val
  · rw [h.2 e, decide_eq_true e]; rfl
  · rw [decide_eq_false e]
    exact (BitVec.eq_zero_or_eq_one _).resolve_right fun h' => e (h.1 h')

end Cert.Proof.RI

end
-- ==== Proof.Same.lean ====
/-
  The kernel program and the reference leave the same results, for finite boxes: in each row both stand for the same
  place of the sorted order, and both read the box, the score, the label and the flag of that place.
-/
module

public import proofs.«01_k».proof.Proof.PI.Result
public import proofs.«01_k».proof.Proof.RI.Result
public import proofs.«01_k».proof.Pre_finite_boxes

@[expose] public section

noncomputable section

namespace Cert.Proof

open Idealize.ShloMosaic Cert.ReferenceIdeal

/-- The side condition of the precondition's program. -/
theorem preFacts : Cert.Pre_finite_boxes.Facts where
  bcast_S_S5000x4 := by decide

/-- The precondition says each coordinate is finite. -/
theorem finite_of_pre [Cert.Pre_finite_boxes.Facts] (A : FVec Ideal Cert.Pre_finite_boxes.S5000x4 .f32)
    (B : FVec Ideal Cert.Pre_finite_boxes.S5000 .f32) (C : IVec Cert.Pre_finite_boxes.S5000 32)
    (h : Cert.Pre_finite_boxes.fn (F := Ideal) A B C = fun _ => 1#1) (i : Fin 5000) (k : Fin 4) : Fin1 (A (ix2 i k)) :=
  finite_of_abs _ (congrFun h (ix2 i k))

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)
variable (h0 : RI.arg0 m' c = PI.arg0 m c) (h1 : RI.arg1 m' c = PI.arg1 m c) (h2 : RI.arg2 m' c = PI.arg2 m c)

/-- The number the class shift multiplies, in the kernel program. -/
abbrev topOf : EReal := PI.mcV (F := Ideal) (PI.arg0 m c) ix0

include h0 in
/-- The reference shifts by the same number. -/
theorem top_same : RI.mcV (F := Ideal) (RI.arg0 m' c) ix0 = topOf m c := by rw [h0]; rfl

include h0 h1 h2 in
/-- The two programs solve the same problem. -/
theorem prob_same (mc : EReal) : RI.prob m' c mc = PI.prob m c mc := by
  unfold RI.prob PI.prob
  rw [h0, h1, h2]

include h1 in
/-- They sort the boxes alike. -/
theorem boxAt_same (x : Fin 5000) : RI.boxAt m' c x = PI.boxAt m c x := by
  unfold RI.boxAt PI.boxAt
  rw [h1]

/-- Every row is some place's. -/
theorem row_some (r : Fin 30) : ∃ x : Fin 5000, (PI.prob m c (topOf m c)).At 5000 r.val x.val := at_some _ _ _ _ r

include h0 h1 h2

theorem packed_same (hfin : ∀ i k, Fin1 (PI.arg0 m c (ix2 i k))) (r : Fin 30) (k : Fin 5) :
    StableHlo.finalContents Value.condOps Value.preI Value.bodyI Value.postI 5000 m' c (Proc.devRef .tc Cert.ReferenceIdeal.main_v139) (ix2 r k)
      = Pipeline.afterTail₀ Cert.KernelIdeal.cfgs (PI.dats m) 0 (PI.V₀ m) PI.post c Cert.KernelIdeal.main_v31 (ix2 r k) := by
  obtain ⟨x, hx⟩ := row_some m c r
  rw [PI.packed_at m c (topOf m c) rfl hfin r x hx k,
    RI.packed_at m' c (topOf m c) (top_same m m' c h0) r x (by rw [prob_same m m' c h0 h1 h2]; exact hx) k, boxAt_same m m' c h1, h0, h1]

theorem labels_same (r : Fin 30) :
    StableHlo.finalContents Value.condOps Value.preI Value.bodyI Value.postI 5000 m' c (Proc.devRef .tc Cert.ReferenceIdeal.main_v130) (ix1 r)
      = Pipeline.afterTail₀ Cert.KernelIdeal.cfgs (PI.dats m) 0 (PI.V₀ m) PI.post c Cert.KernelIdeal.main_v35 (ix1 r) := by
  obtain ⟨x, hx⟩ := row_some m c r
  rw [PI.labels_at m c (topOf m c) rfl r x hx,
    RI.labels_at m' c (topOf m c) (top_same m m' c h0) r x (by rw [prob_same m m' c h0 h1 h2]; exact hx), boxAt_same m m' c h1, h2]

theorem flags_same (r : Fin 30) :
    StableHlo.finalContents Value.condOps Value.preI Value.bodyI Value.postI 5000 m' c (Proc.devRef .tc Cert.ReferenceIdeal.main_v137) (ix1 r)
      = Pipeline.afterTail₀ Cert.KernelIdeal.cfgs (PI.dats m) 0 (PI.V₀ m) PI.post c Cert.KernelIdeal.main_v39 (ix1 r) := by
  obtain ⟨x, hx⟩ := row_some m c r
  rw [PI.flags_at m c (topOf m c) rfl r x hx,
    RI.flags_at m' c (topOf m c) (top_same m m' c h0) r x (by rw [prob_same m m' c h0 h1 h2]; exact hx), prob_same m m' c h0 h1 h2]

end

end Cert.Proof

end
-- ==== Proof.lean ====
/-
  The certificate's claims: the kernel as printed, its reading over the extended reals, and the reference each run,
  leave their arguments as they found them and end with every semaphore counter at zero; the idealization rewrites
  nothing; and for finite boxes the kernel and the reference end with the same results over the extended reals.
-/
module

public import proofs.«01_k».proof.Defs
public import proofs.«01_k».proof.Proof.P.Run
public import proofs.«01_k».proof.Proof.PI.Run
public import proofs.«01_k».proof.Proof.RI.Frame
public import proofs.«01_k».proof.Proof.Same

@[expose] public section

noncomputable section

namespace Cert.Proof

open Idealize.ShloMosaic Idealize.ShloMosaic.TcCoe Idealize.SL.Sem

/-- A buffer no window holds is not touched by the pipeline. -/
theorem rest_31 : Cert.KernelIdeal.main_v31 ∈ Pipeline.restRefs Cert.KernelIdeal.sig Cert.KernelIdeal.spec0 := by decide
theorem rest_35 : Cert.KernelIdeal.main_v35 ∈ Pipeline.restRefs Cert.KernelIdeal.sig Cert.KernelIdeal.spec0 := by decide
theorem rest_39 : Cert.KernelIdeal.main_v39 ∈ Pipeline.restRefs Cert.KernelIdeal.sig Cert.KernelIdeal.spec0 := by decide

/-- The results of the kernel program. -/
abbrev left (m : (ℓ : Loc Cert.KernelIdeal.nD Cert.KernelIdeal.τ Cert.KernelIdeal.sig) → Buf (Elt Ideal) ℓ)
    (c : Dev Cert.KernelIdeal.nD) (b : Ref Cert.KernelIdeal.sig .tc) :=
  Pipeline.afterTail₀ Cert.KernelIdeal.cfgs (PI.dats (F := Ideal) m) 0 (PI.V₀ m) PI.post c b

/-- For finite boxes the kernel program and the reference end with the same results. -/
theorem same : Cert.algebraic_KernelIdeal_ReferenceIdeal_pre_finite_boxes (hKernelIdeal := Cert.KernelIdeal.Gen.facts)
    (hReferenceIdeal := Cert.ReferenceIdeal.Gen.facts) (hPre_finite_boxes := preFacts) := by
  intro m g m' g' hpre hargs
  have hfin : ∀ c i k, Fin1 (PI.arg0 m c (ix2 i k)) := fun c i k =>
    @finite_of_pre preFacts (PI.arg0 m c) (PI.arg1 m c) (PI.arg2 m c) (hpre c) i k
  refine ⟨fun c => left m c Cert.KernelIdeal.main_v31, fun c => left m c Cert.KernelIdeal.main_v35,
    fun c => left m c Cert.KernelIdeal.main_v39, ?_, ?_⟩
  · exact (θ_run _ _ _).mono (fun r h c => ⟨(h.1 c).2 _ rest_31, (h.1 c).2 _ rest_35, (h.1 c).2 _ rest_39, PI.args_of_post m r h.1 c⟩)
      (PI.run_main m g (PI.innerHalts flagOps_ideal))
  · refine (θ_run _ _ _).mono (fun r h c => ?_) (Cert.ReferenceIdeal.Value.run_fold m' g')
    obtain ⟨h0, h1, h2⟩ := hargs c
    refine ⟨(h c Cert.ReferenceIdeal.main_v139 rfl).trans (funext fun j => ?_), (h c Cert.ReferenceIdeal.main_v130 rfl).trans (funext fun j => ?_),
      (h c Cert.ReferenceIdeal.main_v137 rfl).trans (funext fun j => ?_), (h c _ rfl).trans (RI.arg_end m' c _ (.inl rfl)),
      (h c _ rfl).trans (RI.arg_end m' c _ (.inr (.inl rfl))), (h c _ rfl).trans (RI.arg_end m' c _ (.inr (.inr rfl)))⟩
    · obtain ⟨r, k, rfl⟩ : ∃ (r : Fin 30) (k : Fin 5), j = ix2 r k := ⟨_, _, eq_ix2 j⟩
      exact packed_same m m' c h0 h1 h2 (hfin c) r k
    · obtain ⟨r, rfl⟩ : ∃ r : Fin 30, j = ix1 r := ⟨_, eq_ix1 j⟩
      exact labels_same m m' c h0 h1 h2 r
    · obtain ⟨r, rfl⟩ : ∃ r : Fin 30, j = ix1 r := ⟨_, eq_ix1 j⟩
      exact flags_same m m' c h0 h1 h2 r

/-- Everything the certificate claims. -/
theorem claim : Cert.Claim :=
  ⟨Cert.Kernel.Gen.facts, Cert.KernelIdeal.Gen.facts, Cert.ReferenceIdeal.Gen.facts, preFacts,
    fun m ρ _ => P.frame m ρ (P.innerHalts flagOps_bits),
    fun m ρ _ => PI.frame m ρ (PI.innerHalts flagOps_ideal),
    fun m ρ _ => PI.frame m ρ (PI.innerHalts flagOps_ideal),
    fun m ρ _ => RI.frame m ρ, fun m ρ _ => RI.frame m ρ, trivial, same⟩

end Cert.Proof

end
